-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4352, 8192]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v17) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4352, 8192]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v60) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v148) = v0 c
          ∧ r.2.mem ((c.tc : Thread Cert.Reference6Ideal.nD Cert.Reference6Ideal.τ).loc Cert.Reference6Ideal.main_v152) = v1 c
          ∧ r.2.mem ((c.tc : Thread Cert.Reference6Ideal.nD Cert.Reference6Ideal.τ).loc Cert.Reference6Ideal.main_v155) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hOn_latent_rows : Cert.On_latent_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_latent_rows.lean ====
abbrev S8x4352x8x2x64 : Shape := ⟨5, ![8, 4352, 8, 2, 64]⟩
abbrev S8x4352x8x128 : Shape := ⟨4, ![8, 4352, 8, 128]⟩
abbrev S4x64 : Shape := ⟨2, ![4, 64]⟩
abbrev S128 : Shape := ⟨1, ![128]⟩
abbrev S4352x8192 : Shape := ⟨2, ![4352, 8192]⟩
abbrev S_ : Shape := ⟨0, ![]⟩

class Facts : Prop where
  bcast_S_S4352x8192 : S_.BroadcastsInDim S4352x8192 (![] : Fin 0 → Fin S4352x8192.rank)

variable [Facts]

def fn {F : FTy → Type} [FloatOps F] (main_arg0 : FVec F S8x4352x8x2x64 .f32) (main_arg1 : FVec F S8x4352x8x2x64 .f32) (main_arg2 : FVec F S8x4352x8x128 .f32) (main_arg3 : FVec F S4x64 .f32) (main_arg4 : FVec F S128 .f32) : IVec S4352x8192 1 :=
  let main_v0 : IVec S4352x8192 32 := iotaInDim S4352x8192 32 0
  let main_c : IVec S_ 32 := constantI S_ 32 4096#32
  let main_v1 : IVec S4352x8192 32 := broadcastInDim S4352x8192 ![] bcast_S_S4352x8192 main_c
  let main_v2 : IVec S4352x8192 1 := cmpi .slt main_v0 main_v1
  main_v2
-- ==== Pre_finite.lean ====
abbrev S8x4352x8x2x64 : Shape := ⟨5, ![8, 4352, 8, 2, 64]⟩
abbrev S8x4352x8x128 : Shape := ⟨4, ![8, 4352, 8, 128]⟩
abbrev S4x64 : Shape := ⟨2, ![4, 64]⟩
abbrev S128 : Shape := ⟨1, ![128]⟩
abbrev S_ : Shape := ⟨0, ![]⟩

class Facts : Prop where
  bcast_S_S8x4352x8x2x64 : S_.BroadcastsInDim S8x4352x8x2x64 (![] : Fin 0 → Fin S8x4352x8x2x64.rank)
  bcast_S_S8x4352x8x128 : S_.BroadcastsInDim S8x4352x8x128 (![] : Fin 0 → Fin S8x4352x8x128.rank)
  bcast_S_S4x64 : S_.BroadcastsInDim S4x64 (![] : Fin 0 → Fin S4x64.rank)

variable [Facts]

def fn {F : FTy → Type} [FloatOps F] (main_arg0 : FVec F S8x4352x8x2x64 .f32) (main_arg1 : FVec F S8x4352x8x2x64 .f32) (main_arg2 : FVec F S8x4352x8x128 .f32) (main_arg3 : FVec F S4x64 .f32) (main_arg4 : FVec F S128 .f32) : IVec S8x4352x8x2x64 1 × IVec S8x4352x8x2x64 1 × IVec S8x4352x8x128 1 × IVec S4x64 1 :=
  let main_v0 : FVec F S8x4352x8x2x64 .f32 := Host.absf main_arg0
  let main_cst : FVec F S_ .f32 := constant S_ .f32 0x7F800000#32
  let main_v1 : FVec F S8x4352x8x2x64 .f32 := broadcastInDim S8x4352x8x2x64 ![] bcast_S_S8x4352x8x2x64 main_cst
  let main_v2 : IVec S8x4352x8x2x64 1 := cmpf .olt main_v0 main_v1
  let main_v3 : FVec F S8x4352x8x2x64 .f32 := Host.absf main_arg1
  let main_cst_0 : FVec F S_ .f32 := constant S_ .f32 0x7F800000#32
  let main_v4 : FVec F S8x4352x8x2x64 .f32 := broadcastInDim S8x4352x8x2x64 ![] bcast_S_S8x4352x8x2x64 main_cst_0
  let main_v5 : IVec S8x4352x8x2x64 1 := cmpf .olt main_v3 main_v4
  let main_v6 : FVec F S8x4352x8x128 .f32 := Host.absf main_arg2
  let main_cst_1 : FVec F S_ .f32 := constant S_ .f32 0x7F800000#32
  let main_v7 : FVec F S8x4352x8x128 .f32 := broadcastInDim S8x4352x8x128 ![] bcast_S_S8x4352x8x128 main_cst_1
  let main_v8 : IVec S8x4352x8x128 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Kernel.lean ====
abbrev S8x4352x8x2x64 : Shape := ⟨5, ![8, 4352, 8, 2, 64]⟩
abbrev S8x4352x8x128 : Shape := ⟨4, ![8, 4352, 8, 128]⟩
abbrev S4x64 : Shape := ⟨2, ![4, 64]⟩
abbrev S128 : Shape := ⟨1, ![128]⟩
abbrev S8x4352x1024 : Shape := ⟨3, ![8, 4352, 1024]⟩
abbrev S4352x8x1024 : Shape := ⟨3, ![4352, 8, 1024]⟩
abbrev S4352x8192 : Shape := ⟨2, ![4352, 8192]⟩
abbrev S_ : Shape := ⟨0, ![]⟩
abbrev S1x128 : Shape := ⟨2, ![1, 128]⟩
abbrev S2048x128 : Shape := ⟨2, ![2048, 128]⟩
abbrev S4352x128 : Shape := ⟨2, ![4352, 128]⟩
abbrev S128x4352 : Shape := ⟨2, ![128, 4352]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S4352x256 : Shape := ⟨2, ![4352, 256]⟩
abbrev S256 : Shape := ⟨1, ![256]⟩
abbrev S1x256 : Shape := ⟨2, ![1, 256]⟩
abbrev S256x256 : Shape := ⟨2, ![256, 256]⟩
abbrev S32x8x256 : Shape := ⟨3, ![32, 8, 256]⟩
abbrev S8x256 : Shape := ⟨2, ![8, 256]⟩
abbrev S128x256 : Shape := ⟨2, ![128, 256]⟩

abbrev nBuf : Space → Nat
  | .hbm => 25
  | .vmem => 11
  | .smem => 0
  | _ => 0

abbrev bufTy : (tb : Table) → Fin (tcTables nBuf tb) → BufTy
  | .hbm, ⟨0, _⟩ => ⟨S8x4352x8x2x64, .f32⟩
  | .hbm, ⟨1, _⟩ => ⟨S8x4352x8x2x64, .f32⟩
  | .hbm, ⟨2, _⟩ => ⟨S8x4352x8x128, .f32⟩
  | .hbm, ⟨3, _⟩ => ⟨S4x64, .f32⟩
  | .hbm, ⟨4, _⟩ => ⟨S128, .f32⟩
  | .hbm, ⟨5, _⟩ => ⟨S8x4352x1024, .f32⟩
  | .hbm, ⟨6, _⟩ => ⟨S4352x8x1024, .f32⟩
  | .hbm, ⟨7, _⟩ => ⟨S4352x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4352x8192, .f32⟩
  | .hbm, ⟨13, _⟩ => ⟨S4352x8192, .f32⟩
  | .hbm, ⟨14, _⟩ => ⟨S4352x8192, .bf16⟩
  | .hbm, ⟨15, _⟩ => ⟨S8x4352x1024, .f32⟩
  | .hbm, ⟨16, _⟩ => ⟨S4352x8x1024, .f32⟩
  | .hbm, ⟨17, _⟩ => ⟨S4352x8192, .f32⟩
  | .hbm, ⟨18, _⟩ => ⟨S4352x8192, .bf16⟩
  | .hbm, ⟨19, _⟩ => ⟨S8x4352x1024, .f32⟩
  | .hbm, ⟨20, _⟩ => ⟨S4352x8x1024, .f32⟩
  | .hbm, ⟨21, _⟩ => ⟨S4352x8192, .f32⟩
  | .hbm, ⟨22, _⟩ => ⟨S4352x8192, .bf16⟩
  | .hbm, ⟨23, _⟩ => ⟨S1x128, .f32⟩
  | .hbm, ⟨24, _⟩ => ⟨S4352x8192, .bf16⟩
  | .local _ .vmem, ⟨0, _⟩ => ⟨S4x64, .f32⟩
  | .local _ .vmem, ⟨1, _⟩ => ⟨S1x128, .f32⟩
  | .local _ .vmem, ⟨2, _⟩ => ⟨S2048x128, .bf16⟩
  | .local _ .vmem, ⟨3, _⟩ => ⟨S2048x128, .bf16⟩
  | .local _ .vmem, ⟨4, _⟩ => ⟨S4352x128, .bf16⟩
  | .local _ .vmem, ⟨5, _⟩ => ⟨S4352x128, .bf16⟩
  | .local _ .vmem, ⟨6, _⟩ => ⟨S4352x128, .bf16⟩
  | .local _ .vmem, ⟨7, _⟩ => ⟨S4352x128, .bf16⟩
  | .local _ .vmem, ⟨8, _⟩ => ⟨S2048x128, .bf16⟩
  | .local _ .vmem, ⟨9, _⟩ => ⟨S2048x128, .bf16⟩
  | .local _ .vmem, ⟨10, _⟩ => ⟨S128x4352, .bf16⟩
  | _, _ => ⟨S8x4352x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c8_i32 : BitVec 32 := 8#32
  let v1 : BitVec 32 := Scalar.muli arg0 c8_i32
  let v2 : BitVec 32 := Scalar.addi v1 arg1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c8_i32 : BitVec 32 := 8#32
  let v1 : BitVec 32 := Scalar.muli arg0 c8_i32
  let v2 : BitVec 32 := Scalar.addi v1 arg1
  let c0_i32_0 : BitVec 32 := 0#32
  ![v0.toNat, v2.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4352x8x2x64 : Shape := ⟨5, ![8, 4352, 8, 2, 64]⟩
abbrev S8x4352x8x128 : Shape := ⟨4, ![8, 4352, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4096x8x2x64 : Shape := ⟨5, ![8, 4096, 8, 2, 64]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x1024 : Shape := ⟨3, ![8, 4096, 1024]⟩
abbrev S4096x8x1024 : Shape := ⟨3, ![4096, 8, 1024]⟩
abbrev S4096x8192 : Shape := ⟨2, ![4096, 8192]⟩
abbrev S256x8192 : Shape := ⟨2, ![256, 8192]⟩
abbrev S4352x8192 : Shape := ⟨2, ![4352, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8x4352x8x2x64, .f32⟩
  | .hbm, ⟨1, _⟩ => ⟨S8x4352x8x2x64, .f32⟩
  | .hbm, ⟨2, _⟩ => ⟨S8x4352x8x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4096x8x2x64, .f32⟩
  | .hbm, ⟨25, _⟩ => ⟨S8x8x2x4096x4352, .f32⟩
  | .hbm, ⟨26, _⟩ => ⟨S_, .f32⟩
  | .hbm, ⟨27, _⟩ => ⟨S8x8x2x4096x4352, .f32⟩
  | .hbm, ⟨28, _⟩ => ⟨S8x8x2x4096x4352, .f32⟩
  | .hbm, ⟨29, _⟩ => ⟨S_, .f32⟩
  | .hbm, ⟨30, _⟩ => ⟨S8x8x2x4096, .f32⟩
  | .hbm, ⟨31, _⟩ => ⟨S_, .f32⟩
  | .hbm, ⟨32, _⟩ => ⟨S8x8x2x4096, .f32⟩
  | .hbm, ⟨33, _⟩ => ⟨S8x8x2x4096, .f32⟩
  | .hbm, ⟨34, _⟩ => ⟨S8x8x2x4096x1, .f32⟩
  | .hbm, ⟨35, _⟩ => ⟨S8x8x2x4096x4352, .f32⟩
  | .hbm, ⟨36, _⟩ => ⟨S8x8x2x4096x4352, .f32⟩
  | .hbm, ⟨37, _⟩ => ⟨S8x8x2x4096x4352, .f32⟩
  | .hbm, ⟨38, _⟩ => ⟨S_, .f32⟩
  | .hbm, ⟨39, _⟩ => ⟨S8x8x2x4096, .f32⟩
  | .hbm, ⟨40, _⟩ => ⟨S8x8x2x4096x1, .f32⟩
  | .hbm, ⟨41, _⟩ => ⟨S8x8x2x4096x4352, .f32⟩
  | .hbm, ⟨42, _⟩ => ⟨S8x8x2x4096x4352, .f32⟩
  | .hbm, ⟨43, _⟩ => ⟨S8x8x1x4096x4352, .f32⟩
  | .hbm, ⟨44, _⟩ => ⟨S8x8x4096x4352, .f32⟩
  | .hbm, ⟨45, _⟩ => ⟨S8x8x1x4096x4352, .f32⟩
  | .hbm, ⟨46, _⟩ => ⟨S8x8x4096x4352, .f32⟩
  | .hbm, ⟨47, _⟩ => ⟨S8x8x4096x4352, .f32⟩
  | .hbm, ⟨48, _⟩ => ⟨S8x8x4096x4352, .f32⟩
  | .hbm, ⟨49, _⟩ => ⟨S8x8x4096x4352, .f32⟩
  | .hbm, ⟨50, _⟩ => ⟨S8x8x128x4096, .f32⟩
  | .hbm, ⟨51, _⟩ => ⟨S8x4096x8x128, .f32⟩
  | .hbm, ⟨52, _⟩ => ⟨S8x4096x8x128, .f32⟩
  | .hbm, ⟨53, _⟩ => ⟨S_, .f32⟩
  | .hbm, ⟨54, _⟩ => ⟨S8x4096x8, .f32⟩
  | .hbm, ⟨55, _⟩ => ⟨S8x4096x8x1, .f32⟩
  | .hbm, ⟨56, _⟩ => ⟨S_, .f32⟩
  | .hbm, ⟨57, _⟩ => ⟨S8x4096x8x1, .f32⟩
  | .hbm, ⟨58, _⟩ => ⟨S8x4096x8x1, .f32⟩
  | .hbm, ⟨59, _⟩ => ⟨S_, .f32⟩
  | .hbm, ⟨60, _⟩ => ⟨S8x4096x8x1, .f32⟩
  | .hbm, ⟨61, _⟩ => ⟨S8x4096x8x1, .f32⟩
  | .hbm, ⟨62, _⟩ => ⟨S8x4096x8x1, .f32⟩
  | .hbm, ⟨63, _⟩ => ⟨S8x4096x8x128, .f32⟩
  | .hbm, ⟨64, _⟩ => ⟨S8x4096x8x128, .f32⟩
  | .hbm, ⟨65, _⟩ => ⟨S1x1x1x128, .f32⟩
  | .hbm, ⟨66, _⟩ => ⟨S8x4096x8x128, .f32⟩
  | .hbm, ⟨67, _⟩ => ⟨S8x4096x8x128, .f32⟩
  | .hbm, ⟨68, _⟩ => ⟨S_, .f32⟩
  | .hbm, ⟨69, _⟩ => ⟨S8x4096x8x128, .f32⟩
  | .hbm, ⟨70, _⟩ => ⟨S8x4096x8x128, .f32⟩
  | .hbm, ⟨71, _⟩ => ⟨S8x4096x1024, .f32⟩
  | .hbm, ⟨72, _⟩ => ⟨S4096x8x1024, .f32⟩
  | .hbm, ⟨73, _⟩ => ⟨S4096x8192, .f32⟩
  | .hbm, ⟨74, _⟩ => ⟨S_, .f32⟩
  | .hbm, ⟨75, _⟩ => ⟨S256x8192, .f32⟩
  | .hbm, ⟨76, _⟩ => ⟨S4352x8192, .f32⟩
  | .hbm, ⟨77, _⟩ => ⟨S4352x8192, .bf16⟩
  | _, _ => ⟨S8x4352x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel2.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x2048 : Shape := ⟨2, ![1024, 2048]⟩
abbrev S1024x4096 : Shape := ⟨2, ![1024, 4096]⟩
abbrev S4096x1024 : Shape := ⟨2, ![4096, 1024]⟩
abbrev S4352x8x1024 : Shape := ⟨3, ![4352, 8, 1024]⟩
abbrev S34816x1024 : Shape := ⟨2, ![34816, 1024]⟩
abbrev S1x6144 : Shape := ⟨2, ![1, 6144]⟩
abbrev S1x8x6144 : Shape := ⟨3, ![1, 8, 6144]⟩
abbrev S2x8x6144 : Shape := ⟨3, ![2, 8, 6144]⟩
abbrev S1x1024 : Shape := ⟨2, ![1, 1024]⟩
abbrev S8x4096x1024 : Shape := ⟨3, ![8, 4096, 1024]⟩
abbrev S512x1024 : Shape := ⟨2, ![512, 1024]⟩
abbrev S8x64x1024 : Shape := ⟨3, ![8, 64, 1024]⟩
abbrev S8x512x128 : Shape := ⟨3, ![8, 512, 128]⟩
abbrev S512x2048 : Shape := ⟨2, ![512, 2048]⟩
abbrev S1x8x1024 : Shape := ⟨3, ![1, 8, 1024]⟩
abbrev S8x1024 : Shape := ⟨2, ![8, 1024]⟩
abbrev S64x8x1024 : Shape := ⟨3, ![64, 8, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩

abbrev nBuf : Space → Nat
  | .hbm => 23
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2048, .f32⟩
  | .hbm, ⟨6, _⟩ => ⟨S1024x4096, .f32⟩
  | .hbm, ⟨7, _⟩ => ⟨S4096x1024, .f32⟩
  | .hbm, ⟨8, _⟩ => ⟨S4352x8x1024, .f32⟩
  | .hbm, ⟨9, _⟩ => ⟨S34816x1024, .f32⟩
  | .hbm, ⟨10, _⟩ => ⟨S4352x8x1024, .f32⟩
  | .hbm, ⟨11, _⟩ => ⟨S34816x1024, .f32⟩
  | .hbm, ⟨12, _⟩ => ⟨S34816x1024, .bf16⟩
  | .hbm, ⟨13, _⟩ => ⟨S1x6144, .f32⟩
  | .hbm, ⟨14, _⟩ => ⟨S8x6144, .f32⟩
  | .hbm, ⟨15, _⟩ => ⟨S1x8x6144, .f32⟩
  | .hbm, ⟨16, _⟩ => ⟨S1x8x6144, .f32⟩
  | .hbm, ⟨17, _⟩ => ⟨S2x8x6144, .f32⟩
  | .hbm, ⟨18, _⟩ => ⟨S1x1024, .f32⟩
  | .hbm, ⟨19, _⟩ => ⟨S1024x2048, .bf16⟩
  | .hbm, ⟨20, _⟩ => ⟨S1024x4096, .bf16⟩
  | .hbm, ⟨21, _⟩ => ⟨S4096x1024, .bf16⟩
  | .hbm, ⟨22, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x8x6144, .f32⟩
  | .local _ .vmem, ⟨5, _⟩ => ⟨S1x8x6144, .f32⟩
  | .local _ .vmem, ⟨6, _⟩ => ⟨S1x1024, .f32⟩
  | .local _ .vmem, ⟨7, _⟩ => ⟨S1024x2048, .bf16⟩
  | .local _ .vmem, ⟨8, _⟩ => ⟨S1024x4096, .bf16⟩
  | .local _ .vmem, ⟨9, _⟩ => ⟨S4096x1024, .bf16⟩
  | .local _ .vmem, ⟨10, _⟩ => ⟨S8x64x1024, .f32⟩
  | .local _ .vmem, ⟨11, _⟩ => ⟨S8x64x1024, .f32⟩
  | .local _ .vmem, ⟨12, _⟩ => ⟨S8x512x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 1 := Scalar.cmpi .sge arg0 c64_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x2048 : Shape := ⟨2, ![1024, 2048]⟩
abbrev S1024x4096 : Shape := ⟨2, ![1024, 4096]⟩
abbrev S4096x1024 : Shape := ⟨2, ![4096, 1024]⟩
abbrev S8x4096x1024 : Shape := ⟨3, ![8, 4096, 1024]⟩
abbrev S8x6x1x1024 : Shape := ⟨4, ![8, 6, 1, 1024]⟩
abbrev S8x4096x2048 : Shape := ⟨3, ![8, 4096, 2048]⟩
abbrev S_ : Shape := ⟨0, ![]⟩
abbrev S8x1x1x1024 : Shape := ⟨4, ![8, 1, 1, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2048, .f32⟩
  | .hbm, ⟨6, _⟩ => ⟨S1024x4096, .f32⟩
  | .hbm, ⟨7, _⟩ => ⟨S4096x1024, .f32⟩
  | .hbm, ⟨8, _⟩ => ⟨S8x4096x1024, .f32⟩
  | .hbm, ⟨9, _⟩ => ⟨S8x6x1x1024, .f32⟩
  | .hbm, ⟨10, _⟩ => ⟨S8x4096x1024, .f32⟩
  | .hbm, ⟨11, _⟩ => ⟨S8x4096x2048, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x1x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x1x1x1024, .f32⟩
  | .hbm, ⟨29, _⟩ => ⟨S8x1x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S8x1x1x1024, .f32⟩
  | .hbm, ⟨47, _⟩ => ⟨S8x1x1024, .f32⟩
  | .hbm, ⟨48, _⟩ => ⟨S8x1x1x1024, .f32⟩
  | .hbm, ⟨49, _⟩ => ⟨S8x1x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x4096, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_cst : Ref sig .tc := ⟨.hbm, 58, rfl⟩
abbrev main_call0_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel3.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x2048 : Shape := ⟨2, ![1024, 2048]⟩
abbrev S1024x4096 : Shape := ⟨2, ![1024, 4096]⟩
abbrev S4096x1024 : Shape := ⟨2, ![4096, 1024]⟩
abbrev S4352x8x1024 : Shape := ⟨3, ![4352, 8, 1024]⟩
abbrev S34816x1024 : Shape := ⟨2, ![34816, 1024]⟩
abbrev S1x6144 : Shape := ⟨2, ![1, 6144]⟩
abbrev S1x8x6144 : Shape := ⟨3, ![1, 8, 6144]⟩
abbrev S2x8x6144 : Shape := ⟨3, ![2, 8, 6144]⟩
abbrev S1x1024 : Shape := ⟨2, ![1, 1024]⟩
abbrev S512x1024 : Shape := ⟨2, ![512, 1024]⟩
abbrev S512x2048 : Shape := ⟨2, ![512, 2048]⟩
abbrev S1x8x1024 : Shape := ⟨3, ![1, 8, 1024]⟩
abbrev S8x1024 : Shape := ⟨2, ![8, 1024]⟩
abbrev S64x8x1024 : Shape := ⟨3, ![64, 8, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 23
  | .vmem => 12
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2048, .f32⟩
  | .hbm, ⟨6, _⟩ => ⟨S1024x4096, .f32⟩
  | .hbm, ⟨7, _⟩ => ⟨S4096x1024, .f32⟩
  | .hbm, ⟨8, _⟩ => ⟨S4352x8x1024, .f32⟩
  | .hbm, ⟨9, _⟩ => ⟨S34816x1024, .f32⟩
  | .hbm, ⟨10, _⟩ => ⟨S4352x8x1024, .f32⟩
  | .hbm, ⟨11, _⟩ => ⟨S34816x1024, .f32⟩
  | .hbm, ⟨12, _⟩ => ⟨S34816x1024, .bf16⟩
  | .hbm, ⟨13, _⟩ => ⟨S1x6144, .f32⟩
  | .hbm, ⟨14, _⟩ => ⟨S8x6144, .f32⟩
  | .hbm, ⟨15, _⟩ => ⟨S1x8x6144, .f32⟩
  | .hbm, ⟨16, _⟩ => ⟨S1x8x6144, .f32⟩
  | .hbm, ⟨17, _⟩ => ⟨S2x8x6144, .f32⟩
  | .hbm, ⟨18, _⟩ => ⟨S1x1024, .f32⟩
  | .hbm, ⟨19, _⟩ => ⟨S1024x2048, .bf16⟩
  | .hbm, ⟨20, _⟩ => ⟨S1024x4096, .bf16⟩
  | .hbm, ⟨21, _⟩ => ⟨S4096x1024, .bf16⟩
  | .hbm, ⟨22, _⟩ => ⟨S34816x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x8x6144, .f32⟩
  | .local _ .vmem, ⟨5, _⟩ => ⟨S1x8x6144, .f32⟩
  | .local _ .vmem, ⟨6, _⟩ => ⟨S1x1024, .f32⟩
  | .local _ .vmem, ⟨7, _⟩ => ⟨S1024x2048, .bf16⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 1 := Scalar.cmpi .sge arg0 c64_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x2048 : Shape := ⟨2, ![1024, 2048]⟩
abbrev S1024x4096 : Shape := ⟨2, ![1024, 4096]⟩
abbrev S4096x1024 : Shape := ⟨2, ![4096, 1024]⟩
abbrev S8x4352x2048 : Shape := ⟨3, ![8, 4352, 2048]⟩
abbrev S_ : Shape := ⟨0, ![]⟩
abbrev S8x1x6144 : Shape := ⟨3, ![8, 1, 6144]⟩
abbrev S8x4096x6144 : Shape := ⟨3, ![8, 4096, 6144]⟩
abbrev S8x256x6144 : Shape := ⟨3, ![8, 256, 6144]⟩
abbrev S8x4352x6144 : Shape := ⟨3, ![8, 4352, 6144]⟩
abbrev S8x4352 : Shape := ⟨2, ![8, 4352]⟩
abbrev S8x4352x1 : Shape := ⟨3, ![8, 4352, 1]⟩
abbrev S1x1x1024 : Shape := ⟨3, ![1, 1, 1024]⟩
abbrev S8x4352x4096 : Shape := ⟨3, ![8, 4352, 4096]⟩
abbrev S4352x8x1024 : Shape := ⟨3, ![4352, 8, 1024]⟩
abbrev S34816x1024 : Shape := ⟨2, ![34816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2048, .f32⟩
  | .hbm, ⟨6, _⟩ => ⟨S1024x4096, .f32⟩
  | .hbm, ⟨7, _⟩ => ⟨S4096x1024, .f32⟩
  | .hbm, ⟨8, _⟩ => ⟨S8x4352x2048, .f32⟩
  | .hbm, ⟨9, _⟩ => ⟨S8x4352x1024, .f32⟩
  | .hbm, ⟨10, _⟩ => ⟨S8x4352x1024, .f32⟩
  | .hbm, ⟨11, _⟩ => ⟨S8x4352x1024, .f32⟩
  | .hbm, ⟨12, _⟩ => ⟨S8x4352x1024, .f32⟩
  | .hbm, ⟨13, _⟩ => ⟨S_, .f32⟩
  | .hbm, ⟨14, _⟩ => ⟨S8x4352x1024, .f32⟩
  | .hbm, ⟨15, _⟩ => ⟨S8x4352x1024, .f32⟩
  | .hbm, ⟨16, _⟩ => ⟨S_, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S8x1x6144, .f32⟩
  | .hbm, ⟨21, _⟩ => ⟨S8x4096x6144, .f32⟩
  | .hbm, ⟨22, _⟩ => ⟨S8x256x6144, .f32⟩
  | .hbm, ⟨23, _⟩ => ⟨S8x4352x6144, .f32⟩
  | .hbm, ⟨24, _⟩ => ⟨S8x4352x1024, .f32⟩
  | .hbm, ⟨25, _⟩ => ⟨S8x4352x1024, .f32⟩
  | .hbm, ⟨26, _⟩ => ⟨S8x4352x1024, .f32⟩
  | .hbm, ⟨27, _⟩ => ⟨S8x4352x1024, .f32⟩
  | .hbm, ⟨28, _⟩ => ⟨S8x4352x1024, .f32⟩
  | .hbm, ⟨29, _⟩ => ⟨S8x4352x1024, .f32⟩
  | .hbm, ⟨30, _⟩ => ⟨S8x4352x1024, .f32⟩
  | .hbm, ⟨31, _⟩ => ⟨S8x4352x1024, .f32⟩
  | .hbm, ⟨32, _⟩ => ⟨S8x4352x1024, .f32⟩
  | .hbm, ⟨33, _⟩ => ⟨S_, .f32⟩
  | .hbm, ⟨34, _⟩ => ⟨S8x4352, .f32⟩
  | .hbm, ⟨35, _⟩ => ⟨S8x4352x1, .f32⟩
  | .hbm, ⟨36, _⟩ => ⟨S_, .f32⟩
  | .hbm, ⟨37, _⟩ => ⟨S8x4352x1, .f32⟩
  | .hbm, ⟨38, _⟩ => ⟨S8x4352x1, .f32⟩
  | .hbm, ⟨39, _⟩ => ⟨S_, .f32⟩
  | .hbm, ⟨40, _⟩ => ⟨S8x4352x1, .f32⟩
  | .hbm, ⟨41, _⟩ => ⟨S8x4352x1, .f32⟩
  | .hbm, ⟨42, _⟩ => ⟨S8x4352x1, .f32⟩
  | .hbm, ⟨43, _⟩ => ⟨S8x4352x1024, .f32⟩
  | .hbm, ⟨44, _⟩ => ⟨S8x4352x1024, .f32⟩
  | .hbm, ⟨45, _⟩ => ⟨S1x1x1024, .f32⟩
  | .hbm, ⟨46, _⟩ => ⟨S8x4352x1024, .f32⟩
  | .hbm, ⟨47, _⟩ => ⟨S8x4352x1024, .f32⟩
  | .hbm, ⟨48, _⟩ => ⟨S_, .f32⟩
  | .hbm, ⟨49, _⟩ => ⟨S8x4352x1024, .f32⟩
  | .hbm, ⟨50, _⟩ => ⟨S8x4352x1024, .f32⟩
  | .hbm, ⟨51, _⟩ => ⟨S8x4352x1024, .f32⟩
  | .hbm, ⟨52, _⟩ => ⟨S8x4352x1024, .f32⟩
  | .hbm, ⟨53, _⟩ => ⟨S8x4352x4096, .f32⟩
  | .hbm, ⟨54, _⟩ => ⟨S_, .f32⟩
  | .hbm, ⟨55, _⟩ => ⟨S8x4352x4096, .f32⟩
  | .hbm, ⟨56, _⟩ => ⟨S8x4352x4096, .f32⟩
  | .hbm, ⟨57, _⟩ => ⟨S8x4352x4096, .f32⟩
  | .hbm, ⟨58, _⟩ => ⟨S8x4352x1024, .f32⟩
  | .hbm, ⟨59, _⟩ => ⟨S8x4352x1024, .f32⟩
  | .hbm, ⟨60, _⟩ => ⟨S8x4352x1024, .f32⟩
  | .hbm, ⟨61, _⟩ => ⟨S4352x8x1024, .f32⟩
  | .hbm, ⟨62, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_cst : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel4.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4352x8x1024 : Shape := ⟨3, ![4352, 8, 1024]⟩
abbrev S34816x1024 : Shape := ⟨2, ![34816, 1024]⟩
abbrev S4352x8192 : Shape := ⟨2, ![4352, 8192]⟩
abbrev S1x6144 : Shape := ⟨2, ![1, 6144]⟩
abbrev S1x8x6144 : Shape := ⟨3, ![1, 8, 6144]⟩
abbrev S2x8x6144 : Shape := ⟨3, ![2, 8, 6144]⟩
abbrev S1x1024 : Shape := ⟨2, ![1, 1024]⟩
abbrev S512x1024 : Shape := ⟨2, ![512, 1024]⟩
abbrev S64x8192 : Shape := ⟨2, ![64, 8192]⟩
abbrev S8x512x128 : Shape := ⟨3, ![8, 512, 128]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S1x8x1024 : Shape := ⟨3, ![1, 8, 1024]⟩
abbrev S8x1024 : Shape := ⟨2, ![8, 1024]⟩
abbrev S64x8x1024 : Shape := ⟨3, ![64, 8, 1024]⟩
abbrev S512 : Shape := ⟨1, ![512]⟩
abbrev S512x1 : Shape := ⟨2, ![512, 1]⟩

abbrev nBuf : Space → Nat
  | .hbm => 23
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4352x8x1024, .f32⟩
  | .hbm, ⟨9, _⟩ => ⟨S34816x1024, .f32⟩
  | .hbm, ⟨10, _⟩ => ⟨S4352x8x1024, .f32⟩
  | .hbm, ⟨11, _⟩ => ⟨S4352x8192, .f32⟩
  | .hbm, ⟨12, _⟩ => ⟨S4352x8192, .bf16⟩
  | .hbm, ⟨13, _⟩ => ⟨S1x6144, .f32⟩
  | .hbm, ⟨14, _⟩ => ⟨S8x6144, .f32⟩
  | .hbm, ⟨15, _⟩ => ⟨S1x8x6144, .f32⟩
  | .hbm, ⟨16, _⟩ => ⟨S1x8x6144, .f32⟩
  | .hbm, ⟨17, _⟩ => ⟨S2x8x6144, .f32⟩
  | .hbm, ⟨18, _⟩ => ⟨S1x1024, .f32⟩
  | .hbm, ⟨19, _⟩ => ⟨S1024x1024, .bf16⟩
  | .hbm, ⟨20, _⟩ => ⟨S1024x4096, .bf16⟩
  | .hbm, ⟨21, _⟩ => ⟨S4096x1024, .bf16⟩
  | .hbm, ⟨22, _⟩ => ⟨S34816x1024, .f32⟩
  | .local _ .vmem, ⟨0, _⟩ => ⟨S512x1024, .f32⟩
  | .local _ .vmem, ⟨1, _⟩ => ⟨S512x1024, .f32⟩
  | .local _ .vmem, ⟨2, _⟩ => ⟨S64x8192, .bf16⟩
  | .local _ .vmem, ⟨3, _⟩ => ⟨S64x8192, .bf16⟩
  | .local _ .vmem, ⟨4, _⟩ => ⟨S1x8x6144, .f32⟩
  | .local _ .vmem, ⟨5, _⟩ => ⟨S1x8x6144, .f32⟩
  | .local _ .vmem, ⟨6, _⟩ => ⟨S1x1024, .f32⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | .local _ .vmem, ⟨12, _⟩ => ⟨S8x512x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 1 := Scalar.cmpi .sge arg0 c64_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8x1x6144 : Shape := ⟨3, ![8, 1, 6144]⟩
abbrev S8x4096x6144 : Shape := ⟨3, ![8, 4096, 6144]⟩
abbrev S8x256x6144 : Shape := ⟨3, ![8, 256, 6144]⟩
abbrev S8x4352x6144 : Shape := ⟨3, ![8, 4352, 6144]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x4096 : Shape := ⟨3, ![8, 4352, 4096]⟩
abbrev S4352x8x1024 : Shape := ⟨3, ![4352, 8, 1024]⟩
abbrev S34816x1024 : Shape := ⟨2, ![34816, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S8x4352x1024, .f32⟩
  | .hbm, ⟨9, _⟩ => ⟨S8x1x6144, .f32⟩
  | .hbm, ⟨10, _⟩ => ⟨S8x4096x6144, .f32⟩
  | .hbm, ⟨11, _⟩ => ⟨S8x256x6144, .f32⟩
  | .hbm, ⟨12, _⟩ => ⟨S8x4352x6144, .f32⟩
  | .hbm, ⟨13, _⟩ => ⟨S8x4352x1024, .f32⟩
  | .hbm, ⟨14, _⟩ => ⟨S8x4352x1024, .f32⟩
  | .hbm, ⟨15, _⟩ => ⟨S8x4352x1024, .f32⟩
  | .hbm, ⟨16, _⟩ => ⟨S8x4352x1024, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S8x4352x1024, .f32⟩
  | .hbm, ⟨22, _⟩ => ⟨S_, .f32⟩
  | .hbm, ⟨23, _⟩ => ⟨S8x4352, .f32⟩
  | .hbm, ⟨24, _⟩ => ⟨S8x4352x1, .f32⟩
  | .hbm, ⟨25, _⟩ => ⟨S_, .f32⟩
  | .hbm, ⟨26, _⟩ => ⟨S8x4352x1, .f32⟩
  | .hbm, ⟨27, _⟩ => ⟨S8x4352x1, .f32⟩
  | .hbm, ⟨28, _⟩ => ⟨S_, .f32⟩
  | .hbm, ⟨29, _⟩ => ⟨S8x4352x1, .f32⟩
  | .hbm, ⟨30, _⟩ => ⟨S8x4352x1, .f32⟩
  | .hbm, ⟨31, _⟩ => ⟨S8x4352x1, .f32⟩
  | .hbm, ⟨32, _⟩ => ⟨S8x4352x1024, .f32⟩
  | .hbm, ⟨33, _⟩ => ⟨S8x4352x1024, .f32⟩
  | .hbm, ⟨34, _⟩ => ⟨S1x1x1024, .f32⟩
  | .hbm, ⟨35, _⟩ => ⟨S8x4352x1024, .f32⟩
  | .hbm, ⟨36, _⟩ => ⟨S8x4352x1024, .f32⟩
  | .hbm, ⟨37, _⟩ => ⟨S_, .f32⟩
  | .hbm, ⟨38, _⟩ => ⟨S8x4352x1024, .f32⟩
  | .hbm, ⟨39, _⟩ => ⟨S8x4352x1024, .f32⟩
  | .hbm, ⟨40, _⟩ => ⟨S8x4352x1024, .f32⟩
  | .hbm, ⟨41, _⟩ => ⟨S8x4352x1024, .f32⟩
  | .hbm, ⟨42, _⟩ => ⟨S8x4352x4096, .f32⟩
  | .hbm, ⟨43, _⟩ => ⟨S_, .f32⟩
  | .hbm, ⟨44, _⟩ => ⟨S8x4352x4096, .f32⟩
  | .hbm, ⟨45, _⟩ => ⟨S8x4352x4096, .f32⟩
  | .hbm, ⟨46, _⟩ => ⟨S8x4352x4096, .f32⟩
  | .hbm, ⟨47, _⟩ => ⟨S8x4352x1024, .f32⟩
  | .hbm, ⟨48, _⟩ => ⟨S8x4352x1024, .f32⟩
  | .hbm, ⟨49, _⟩ => ⟨S8x4352x1024, .f32⟩
  | .hbm, ⟨50, _⟩ => ⟨S4352x8x1024, .f32⟩
  | .hbm, ⟨51, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel5.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8x4352x8x128 : Shape := ⟨4, ![8, 4352, 8, 128]⟩
abbrev S8x8x4352x128 : Shape := ⟨4, ![8, 8, 4352, 128]⟩
abbrev S64x4352x128 : Shape := ⟨3, ![64, 4352, 128]⟩
abbrev S4352x8x1024 : Shape := ⟨3, ![4352, 8, 1024]⟩
abbrev S34816x1024 : Shape := ⟨2, ![34816, 1024]⟩
abbrev S1x6144 : Shape := ⟨2, ![1, 6144]⟩
abbrev S1x8x6144 : Shape := ⟨3, ![1, 8, 6144]⟩
abbrev S2x8x6144 : Shape := ⟨3, ![2, 8, 6144]⟩
abbrev S1x1024 : Shape := ⟨2, ![1, 1024]⟩
abbrev S512x1024 : Shape := ⟨2, ![512, 1024]⟩
abbrev S64x64x128 : Shape := ⟨3, ![64, 64, 128]⟩
abbrev S8x512x128 : Shape := ⟨3, ![8, 512, 128]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S1x8x1024 : Shape := ⟨3, ![1, 8, 1024]⟩
abbrev S8x1024 : Shape := ⟨2, ![8, 1024]⟩
abbrev S64x8x1024 : Shape := ⟨3, ![64, 8, 1024]⟩
abbrev S512 : Shape := ⟨1, ![512]⟩
abbrev S512x1 : Shape := ⟨2, ![512, 1]⟩

abbrev nBuf : Space → Nat
  | .hbm => 26
  | .vmem => 14
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S8x4352x8x128, .f32⟩
  | .hbm, ⟨10, _⟩ => ⟨S8x8x4352x128, .f32⟩
  | .hbm, ⟨11, _⟩ => ⟨S64x4352x128, .f32⟩
  | .hbm, ⟨12, _⟩ => ⟨S4352x8x1024, .f32⟩
  | .hbm, ⟨13, _⟩ => ⟨S34816x1024, .f32⟩
  | .hbm, ⟨14, _⟩ => ⟨S64x4352x128, .bf16⟩
  | .hbm, ⟨15, _⟩ => ⟨S1x6144, .f32⟩
  | .hbm, ⟨16, _⟩ => ⟨S8x6144, .f32⟩
  | .hbm, ⟨17, _⟩ => ⟨S1x8x6144, .f32⟩
  | .hbm, ⟨18, _⟩ => ⟨S1x8x6144, .f32⟩
  | .hbm, ⟨19, _⟩ => ⟨S2x8x6144, .f32⟩
  | .hbm, ⟨20, _⟩ => ⟨S1x1024, .f32⟩
  | .hbm, ⟨21, _⟩ => ⟨S1024x1024, .bf16⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S34816x1024, .f32⟩
  | .local _ .vmem, ⟨0, _⟩ => ⟨S512x1024, .f32⟩
  | .local _ .vmem, ⟨1, _⟩ => ⟨S512x1024, .f32⟩
  | .local _ .vmem, ⟨2, _⟩ => ⟨S64x64x128, .bf16⟩
  | .local _ .vmem, ⟨3, _⟩ => ⟨S64x64x128, .bf16⟩
  | .local _ .vmem, ⟨4, _⟩ => ⟨S1x8x6144, .f32⟩
  | .local _ .vmem, ⟨5, _⟩ => ⟨S1x8x6144, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S8x512x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .sge arg0 c64_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1x1024 : Shape := ⟨3, ![1, 1, 1024]⟩
abbrev S8x1x6144 : Shape := ⟨3, ![8, 1, 6144]⟩
abbrev S8x4096x6144 : Shape := ⟨3, ![8, 4096, 6144]⟩
abbrev S8x256x6144 : Shape := ⟨3, ![8, 256, 6144]⟩
abbrev S8x4352x6144 : Shape := ⟨3, ![8, 4352, 6144]⟩
abbrev S_ : Shape := ⟨0, ![]⟩
abbrev S8x4352 : Shape := ⟨2, ![8, 4352]⟩
abbrev S8x4352x1 : Shape := ⟨3, ![8, 4352, 1]⟩
abbrev S8x4352x4096 : Shape := ⟨3, ![8, 4352, 4096]⟩
abbrev S4352x8x1024 : Shape := ⟨3, ![4352, 8, 1024]⟩
abbrev S34816x1024 : Shape := ⟨2, ![34816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S8x4352x1024, .f32⟩
  | .hbm, ⟨10, _⟩ => ⟨S1x1x1024, .f32⟩
  | .hbm, ⟨11, _⟩ => ⟨S8x4352x1024, .f32⟩
  | .hbm, ⟨12, _⟩ => ⟨S8x4352x1024, .f32⟩
  | .hbm, ⟨13, _⟩ => ⟨S8x1x6144, .f32⟩
  | .hbm, ⟨14, _⟩ => ⟨S8x4096x6144, .f32⟩
  | .hbm, ⟨15, _⟩ => ⟨S8x256x6144, .f32⟩
  | .hbm, ⟨16, _⟩ => ⟨S8x4352x6144, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S8x4352x1024, .f32⟩
  | .hbm, ⟨22, _⟩ => ⟨S8x4352x1024, .f32⟩
  | .hbm, ⟨23, _⟩ => ⟨S8x4352x1024, .f32⟩
  | .hbm, ⟨24, _⟩ => ⟨S8x4352x1024, .f32⟩
  | .hbm, ⟨25, _⟩ => ⟨S8x4352x1024, .f32⟩
  | .hbm, ⟨26, _⟩ => ⟨S_, .f32⟩
  | .hbm, ⟨27, _⟩ => ⟨S8x4352, .f32⟩
  | .hbm, ⟨28, _⟩ => ⟨S8x4352x1, .f32⟩
  | .hbm, ⟨29, _⟩ => ⟨S_, .f32⟩
  | .hbm, ⟨30, _⟩ => ⟨S8x4352x1, .f32⟩
  | .hbm, ⟨31, _⟩ => ⟨S8x4352x1, .f32⟩
  | .hbm, ⟨32, _⟩ => ⟨S_, .f32⟩
  | .hbm, ⟨33, _⟩ => ⟨S8x4352x1, .f32⟩
  | .hbm, ⟨34, _⟩ => ⟨S8x4352x1, .f32⟩
  | .hbm, ⟨35, _⟩ => ⟨S8x4352x1, .f32⟩
  | .hbm, ⟨36, _⟩ => ⟨S8x4352x1024, .f32⟩
  | .hbm, ⟨37, _⟩ => ⟨S8x4352x1024, .f32⟩
  | .hbm, ⟨38, _⟩ => ⟨S1x1x1024, .f32⟩
  | .hbm, ⟨39, _⟩ => ⟨S8x4352x1024, .f32⟩
  | .hbm, ⟨40, _⟩ => ⟨S8x4352x1024, .f32⟩
  | .hbm, ⟨41, _⟩ => ⟨S_, .f32⟩
  | .hbm, ⟨42, _⟩ => ⟨S8x4352x1024, .f32⟩
  | .hbm, ⟨43, _⟩ => ⟨S8x4352x1024, .f32⟩
  | .hbm, ⟨44, _⟩ => ⟨S8x4352x1024, .f32⟩
  | .hbm, ⟨45, _⟩ => ⟨S8x4352x1024, .f32⟩
  | .hbm, ⟨46, _⟩ => ⟨S8x4352x4096, .f32⟩
  | .hbm, ⟨47, _⟩ => ⟨S_, .f32⟩
  | .hbm, ⟨48, _⟩ => ⟨S8x4352x4096, .f32⟩
  | .hbm, ⟨49, _⟩ => ⟨S8x4352x4096, .f32⟩
  | .hbm, ⟨50, _⟩ => ⟨S8x4352x4096, .f32⟩
  | .hbm, ⟨51, _⟩ => ⟨S8x4352x1024, .f32⟩
  | .hbm, ⟨52, _⟩ => ⟨S8x4352x1024, .f32⟩
  | .hbm, ⟨53, _⟩ => ⟨S8x4352x1024, .f32⟩
  | .hbm, ⟨54, _⟩ => ⟨S4352x8x1024, .f32⟩
  | .hbm, ⟨55, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel6.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x3072 : Shape := ⟨2, ![1024, 3072]⟩
abbrev S64 : Shape := ⟨1, ![64]⟩
abbrev S4096x16 : Shape := ⟨2, ![4096, 16]⟩
abbrev S4096x128 : Shape := ⟨2, ![4096, 128]⟩
abbrev S_ : Shape := ⟨0, ![]⟩
abbrev S256x128 : Shape := ⟨2, ![256, 128]⟩
abbrev S4352x128 : Shape := ⟨2, ![4352, 128]⟩
abbrev S4352x8x1024 : Shape := ⟨3, ![4352, 8, 1024]⟩
abbrev S34816x1024 : Shape := ⟨2, ![34816, 1024]⟩
abbrev S1x6144 : Shape := ⟨2, ![1, 6144]⟩
abbrev S1x8x6144 : Shape := ⟨3, ![1, 8, 6144]⟩
abbrev S2x8x6144 : Shape := ⟨3, ![2, 8, 6144]⟩
abbrev S1x1024 : Shape := ⟨2, ![1, 1024]⟩
abbrev S1x64 : Shape := ⟨2, ![1, 64]⟩
abbrev S16x64 : Shape := ⟨2, ![16, 64]⟩
abbrev S4x64x4x64 : Shape := ⟨4, ![4, 64, 4, 64]⟩
abbrev S256x256 : Shape := ⟨2, ![256, 256]⟩
abbrev S4352x8192 : Shape := ⟨2, ![4352, 8192]⟩
abbrev S512x1024 : Shape := ⟨2, ![512, 1024]⟩
abbrev S64x128 : Shape := ⟨2, ![64, 128]⟩
abbrev S64x8192 : Shape := ⟨2, ![64, 8192]⟩
abbrev S8x512x128 : Shape := ⟨3, ![8, 512, 128]⟩
abbrev S256x1024 : Shape := ⟨2, ![256, 1024]⟩
abbrev S1x8x1024 : Shape := ⟨3, ![1, 8, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1024x1024 : Shape := ⟨2, ![1024, 1024]⟩
abbrev S8x256x128 : Shape := ⟨3, ![8, 256, 128]⟩
abbrev S1x256x128 : Shape := ⟨3, ![1, 256, 128]⟩
abbrev S1x32x128 : Shape := ⟨3, ![1, 32, 128]⟩
abbrev S32x128 : Shape := ⟨2, ![32, 128]⟩
abbrev S32x8192 : Shape := ⟨2, ![32, 8192]⟩
abbrev S32x1x128 : Shape := ⟨3, ![32, 1, 128]⟩
abbrev S32x8x128 : Shape := ⟨3, ![32, 8, 128]⟩
abbrev S1x128 : Shape := ⟨2, ![1, 128]⟩
abbrev S1x256 : Shape := ⟨2, ![1, 256]⟩

abbrev nBuf : Space → Nat
  | .hbm => 45
  | .vmem => 22
  | .smem => 0
  | _ => 0

abbrev bufTy : (tb : Table) → Fin (tcTables nBuf tb) → BufTy
  | .hbm, ⟨0, _⟩ => ⟨S8x4352x1024, .f32⟩
  | .hbm, ⟨1, _⟩ => ⟨S8x6144, .f32⟩
  | .hbm, ⟨2, _⟩ => ⟨S6144, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x128, .f32⟩
  | .hbm, ⟨12, _⟩ => ⟨S4096x16, .f32⟩
  | .hbm, ⟨13, _⟩ => ⟨S4096x16, .f32⟩
  | .hbm, ⟨14, _⟩ => ⟨S4096x128, .f32⟩
  | .hbm, ⟨15, _⟩ => ⟨S_, .f32⟩
  | .hbm, ⟨16, _⟩ => ⟨S256x128, .f32⟩
  | .hbm, ⟨17, _⟩ => ⟨S4352x128, .f32⟩
  | .hbm, ⟨18, _⟩ => ⟨S_, .f32⟩
  | .hbm, ⟨19, _⟩ => ⟨S256x128, .f32⟩
  | .hbm, ⟨20, _⟩ => ⟨S4352x128, .f32⟩
  | .hbm, ⟨21, _⟩ => ⟨S4352x8x1024, .f32⟩
  | .hbm, ⟨22, _⟩ => ⟨S34816x1024, .f32⟩
  | .hbm, ⟨23, _⟩ => ⟨S1x6144, .f32⟩
  | .hbm, ⟨24, _⟩ => ⟨S8x6144, .f32⟩
  | .hbm, ⟨25, _⟩ => ⟨S1x8x6144, .f32⟩
  | .hbm, ⟨26, _⟩ => ⟨S1x8x6144, .f32⟩
  | .hbm, ⟨27, _⟩ => ⟨S2x8x6144, .f32⟩
  | .hbm, ⟨28, _⟩ => ⟨S1x1024, .f32⟩
  | .hbm, ⟨29, _⟩ => ⟨S1024x3072, .bf16⟩
  | .hbm, ⟨30, _⟩ => ⟨S1x64, .f32⟩
  | .hbm, ⟨31, _⟩ => ⟨S16x64, .f32⟩
  | .hbm, ⟨32, _⟩ => ⟨S1x1024, .f32⟩
  | .hbm, ⟨33, _⟩ => ⟨S1x64, .f32⟩
  | .hbm, ⟨34, _⟩ => ⟨S16x64, .f32⟩
  | .hbm, ⟨35, _⟩ => ⟨S1x1024, .f32⟩
  | .hbm, ⟨36, _⟩ => ⟨S4x64x4x64, .i32⟩
  | .hbm, ⟨37, _⟩ => ⟨S4x64x4x64, .i32⟩
  | .hbm, ⟨38, _⟩ => ⟨S4x64x4x64, .i1⟩
  | .hbm, ⟨39, _⟩ => ⟨S4x64x4x64, .f32⟩
  | .hbm, ⟨40, _⟩ => ⟨S256x256, .f32⟩
  | .hbm, ⟨41, _⟩ => ⟨S256x256, .bf16⟩
  | .hbm, ⟨42, _⟩ => ⟨S4352x8192, .bf16⟩
  | .hbm, ⟨43, _⟩ => ⟨S4352x8192, .bf16⟩
  | .hbm, ⟨44, _⟩ => ⟨S4352x8192, .bf16⟩
  | .local _ .vmem, ⟨0, _⟩ => ⟨S512x1024, .f32⟩
  | .local _ .vmem, ⟨1, _⟩ => ⟨S512x1024, .f32⟩
  | .local _ .vmem, ⟨2, _⟩ => ⟨S1x8x6144, .f32⟩
  | .local _ .vmem, ⟨3, _⟩ => ⟨S1x8x6144, .f32⟩
  | .local _ .vmem, ⟨4, _⟩ => ⟨S1x1024, .f32⟩
  | .local _ .vmem, ⟨5, _⟩ => ⟨S1024x3072, .bf16⟩
  | .local _ .vmem, ⟨6, _⟩ => ⟨S1x1024, .f32⟩
  | .local _ .vmem, ⟨7, _⟩ => ⟨S1x1024, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S256x256, .bf16⟩
  | .local _ .vmem, ⟨13, _⟩ => ⟨S64x8192, .bf16⟩
  | .local _ .vmem, ⟨14, _⟩ => ⟨S64x8192, .bf16⟩
  | .local _ .vmem, ⟨15, _⟩ => ⟨S64x8192, .bf16⟩
  | .local _ .vmem, ⟨16, _⟩ => ⟨S64x8192, .bf16⟩
  | .local _ .vmem, ⟨17, _⟩ => ⟨S64x8192, .bf16⟩
  | .local _ .vmem, ⟨18, _⟩ => ⟨S64x8192, .bf16⟩
  | .local _ .vmem, ⟨19, _⟩ => ⟨S8x512x128, .f32⟩
  | .local _ .vmem, ⟨20, _⟩ => ⟨S8x512x128, .f32⟩
  | .local _ .vmem, ⟨21, _⟩ => ⟨S8x512x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .sge arg0 c64_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x3072 : Shape := ⟨2, ![1024, 3072]⟩
abbrev S64 : Shape := ⟨1, ![64]⟩
abbrev S4096x16 : Shape := ⟨2, ![4096, 16]⟩
abbrev S8x1x6144 : Shape := ⟨3, ![8, 1, 6144]⟩
abbrev S8x4096x6144 : Shape := ⟨3, ![8, 4096, 6144]⟩
abbrev S8x256x6144 : Shape := ⟨3, ![8, 256, 6144]⟩
abbrev S8x4352x6144 : Shape := ⟨3, ![8, 4352, 6144]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x3072 : Shape := ⟨3, ![8, 4352, 3072]⟩
abbrev S8x4352x8x2x64 : Shape := ⟨5, ![8, 4352, 8, 2, 64]⟩
abbrev S8x4352x8x2 : Shape := ⟨4, ![8, 4352, 8, 2]⟩
abbrev S8x4352x8x2x1 : Shape := ⟨5, ![8, 4352, 8, 2, 1]⟩
abbrev S1x1x1x1x64 : Shape := ⟨5, ![1, 1, 1, 1, 64]⟩
abbrev S4096x1x1x16 : Shape := ⟨4, ![4096, 1, 1, 16]⟩
abbrev S8x4096x8x2x64 : Shape := ⟨5, ![8, 4096, 8, 2, 64]⟩
abbrev S8x4096x8x2x32 : Shape := ⟨5, ![8, 4096, 8, 2, 32]⟩
abbrev S8x4096x8x2x16 : Shape := ⟨5, ![8, 4096, 8, 2, 16]⟩
abbrev S1x4096x1x1x16 : Shape := ⟨5, ![1, 4096, 1, 1, 16]⟩
abbrev S8x256x8x2x64 : Shape := ⟨5, ![8, 256, 8, 2, 64]⟩
abbrev S4352x8x1024 : Shape := ⟨3, ![4352, 8, 1024]⟩
abbrev S4352x8192 : Shape := ⟨2, ![4352, 8192]⟩

abbrev nBuf : Space → Nat
  | .hbm => 178
  | .vmem => 0
  | .smem => 0
  | _ => 0

abbrev hbmTy0_0 (i : Nat) : BufTy := match i % 128 with
  | 0 => ⟨S8x4352x1024, .f32⟩
  | 1 => ⟨S8x6144, .f32⟩
  | 2 => ⟨S6144, .f32⟩
  | 3 => ⟨S1024, .f32⟩
  | 4 => ⟨S1024x3072, .f32⟩
  | 5 => ⟨S64, .f32⟩
  | 6 => ⟨S64, .f32⟩
  | 7 => ⟨S4096x16, .f32⟩
  | 8 => ⟨S4096x16, .f32⟩
  | 9 => ⟨S4096x16, .f32⟩
  | 10 => ⟨S4096x16, .f32⟩
  | 11 => ⟨S8x1x6144, .f32⟩
  | 12 => ⟨S8x4096x6144, .f32⟩
  | 13 => ⟨S8x256x6144, .f32⟩
  | 14 => ⟨S8x4352x6144, .f32⟩
  | 15 => ⟨S8x4352x1024, .f32⟩
  | 16 => ⟨S8x4352x1024, .f32⟩
  | 17 => ⟨S8x4352x1024, .f32⟩
  | 18 => ⟨S8x4352x1024, .f32⟩
  | 19 => ⟨S8x4352x1024, .f32⟩
  | 20 => ⟨S8x4352x1024, .f32⟩
  | 21 => ⟨S8x4352x1024, .f32⟩
  | 22 => ⟨S_, .f32⟩
  | 23 => ⟨S8x4352, .f32⟩
  | 24 => ⟨S8x4352x1, .f32⟩
  | 25 => ⟨S_, .f32⟩
  | 26 => ⟨S8x4352x1, .f32⟩
  | 27 => ⟨S8x4352x1, .f32⟩
  | 28 => ⟨S_, .f32⟩
  | 29 => ⟨S8x4352x1, .f32⟩
  | 30 => ⟨S8x4352x1, .f32⟩
  | 31 => ⟨S8x4352x1, .f32⟩
  | 32 => ⟨S8x4352x1024, .f32⟩
  | 33 => ⟨S8x4352x1024, .f32⟩
  | 34 => ⟨S1x1x1024, .f32⟩
  | 35 => ⟨S8x4352x1024, .f32⟩
  | 36 => ⟨S8x4352x1024, .f32⟩
  | 37 => ⟨S_, .f32⟩
  | 38 => ⟨S8x4352x1024, .f32⟩
  | 39 => ⟨S8x4352x1024, .f32⟩
  | 40 => ⟨S8x4352x1024, .f32⟩
  | 41 => ⟨S8x4352x1024, .f32⟩
  | 42 => ⟨S8x4352x3072, .f32⟩
  | 43 => ⟨S8x4352x1024, .f32⟩
  | 44 => ⟨S8x4352x1024, .f32⟩
  | 45 => ⟨S8x4352x1024, .f32⟩
  | 46 => ⟨S8x4352x8x2x64, .f32⟩
  | 47 => ⟨S8x4352x8x2x64, .f32⟩
  | 48 => ⟨S_, .f32⟩
  | 49 => ⟨S8x4352x8x2, .f32⟩
  | 50 => ⟨S8x4352x8x2x1, .f32⟩
  | 51 => ⟨S_, .f32⟩
  | 52 => ⟨S8x4352x8x2x1, .f32⟩
  | 53 => ⟨S8x4352x8x2x1, .f32⟩
  | 54 => ⟨S_, .f32⟩
  | 55 => ⟨S8x4352x8x2x1, .f32⟩
  | 56 => ⟨S8x4352x8x2x1, .f32⟩
  | 57 => ⟨S8x4352x8x2x1, .f32⟩
  | 58 => ⟨S8x4352x8x2x64, .f32⟩
  | 59 => ⟨S8x4352x8x2x64, .f32⟩
  | 60 => ⟨S1x1x1x1x64, .f32⟩
  | 61 => ⟨S8x4352x8x2x64, .f32⟩
  | 62 => ⟨S8x4352x8x2x64, .f32⟩
  | 63 => ⟨S8x4352x8x2x64, .f32⟩
  | 64 => ⟨S8x4352x8x2x64, .f32⟩
  | 65 => ⟨S_, .f32⟩
  | 66 => ⟨S8x4352x8x2, .f32⟩
  | 67 => ⟨S8x4352x8x2x1, .f32⟩
  | 68 => ⟨S_, .f32⟩
  | 69 => ⟨S8x4352x8x2x1, .f32⟩
  | 70 => ⟨S8x4352x8x2x1, .f32⟩
  | 71 => ⟨S_, .f32⟩
  | 72 => ⟨S8x4352x8x2x1, .f32⟩
  | 73 => ⟨S8x4352x8x2x1, .f32⟩
  | 74 => ⟨S8x4352x8x2x1, .f32⟩
  | 75 => ⟨S8x4352x8x2x64, .f32⟩
  | 76 => ⟨S8x4352x8x2x64, .f32⟩
  | 77 => ⟨S1x1x1x1x64, .f32⟩
  | 78 => ⟨S8x4352x8x2x64, .f32⟩
  | 79 => ⟨S8x4352x8x2x64, .f32⟩
  | 80 => ⟨S4096x1x1x16, .f32⟩
  | 81 => ⟨S4096x1x1x16, .f32⟩
  | 82 => ⟨S4096x1x1x16, .f32⟩
  | 83 => ⟨S4096x1x1x16, .f32⟩
  | 84 => ⟨S8x4096x8x2x64, .f32⟩
  | 85 => ⟨S8x4096x8x2x32, .f32⟩
  | 86 => ⟨S8x4096x8x2x16, .f32⟩
  | 87 => ⟨S8x4096x8x2x16, .f32⟩
  | 88 => ⟨S1x4096x1x1x16, .f32⟩
  | 89 => ⟨S8x4096x8x2x16, .f32⟩
  | 90 => ⟨S8x4096x8x2x16, .f32⟩
  | 91 => ⟨S1x4096x1x1x16, .f32⟩
  | 92 => ⟨S8x4096x8x2x16, .f32⟩
  | 93 => ⟨S8x4096x8x2x16, .f32⟩
  | 94 => ⟨S8x4096x8x2x16, .f32⟩
  | 95 => ⟨S1x4096x1x1x16, .f32⟩
  | 96 => ⟨S8x4096x8x2x16, .f32⟩
  | 97 => ⟨S8x4096x8x2x16, .f32⟩
  | 98 => ⟨S1x4096x1x1x16, .f32⟩
  | 99 => ⟨S8x4096x8x2x16, .f32⟩
  | 100 => ⟨S8x4096x8x2x16, .f32⟩
  | 101 => ⟨S8x4096x8x2x16, .f32⟩
  | 102 => ⟨S8x4096x8x2x32, .f32⟩
  | 103 => ⟨S8x4096x8x2x32, .f32⟩
  | 104 => ⟨S8x4096x8x2x16, .f32⟩
  | 105 => ⟨S8x4096x8x2x16, .f32⟩
  | 106 => ⟨S1x4096x1x1x16, .f32⟩
  | 107 => ⟨S8x4096x8x2x16, .f32⟩
  | 108 => ⟨S8x4096x8x2x16, .f32⟩
  | 109 => ⟨S1x4096x1x1x16, .f32⟩
  | 110 => ⟨S8x4096x8x2x16, .f32⟩
  | 111 => ⟨S8x4096x8x2x16, .f32⟩
  | 112 => ⟨S8x4096x8x2x16, .f32⟩
  | 113 => ⟨S1x4096x1x1x16, .f32⟩
  | 114 => ⟨S8x4096x8x2x16, .f32⟩
  | 115 => ⟨S8x4096x8x2x16, .f32⟩
  | 116 => ⟨S1x4096x1x1x16, .f32⟩
  | 117 => ⟨S8x4096x8x2x16, .f32⟩
  | 118 => ⟨S8x4096x8x2x16, .f32⟩
  | 119 => ⟨S8x4096x8x2x16, .f32⟩
  | 120 => ⟨S8x4096x8x2x32, .f32⟩
  | 121 => ⟨S8x4096x8x2x64, .f32⟩
  | 122 => ⟨S8x256x8x2x64, .f32⟩
  | 123 => ⟨S8x4352x8x2x64, .f32⟩
  | 124 => ⟨S_, .f32⟩
  | 125 => ⟨S8x4352x8x2x64, .f32⟩
  | 126 => ⟨S8x4352x8x2x64, .f32⟩
  | 127 => ⟨S8x4096x8x2x64, .f32⟩
  | _ => ⟨S8x4352x1024, .f32⟩

abbrev hbmTy0_1 (i : Nat) : BufTy := match i % 128 with
  | 0 => ⟨S8x4096x8x2x32, .f32⟩
  | 1 => ⟨S8x4096x8x2x16, .f32⟩
  | 2 => ⟨S8x4096x8x2x16, .f32⟩
  | 3 => ⟨S1x4096x1x1x16, .f32⟩
  | 4 => ⟨S8x4096x8x2x16, .f32⟩
  | 5 => ⟨S8x4096x8x2x16, .f32⟩
  | 6 => ⟨S1x4096x1x1x16, .f32⟩
  | 7 => ⟨S8x4096x8x2x16, .f32⟩
  | 8 => ⟨S8x4096x8x2x16, .f32⟩
  | 9 => ⟨S8x4096x8x2x16, .f32⟩
  | 10 => ⟨S1x4096x1x1x16, .f32⟩
  | 11 => ⟨S8x4096x8x2x16, .f32⟩
  | 12 => ⟨S8x4096x8x2x16, .f32⟩
  | 13 => ⟨S1x4096x1x1x16, .f32⟩
  | 14 => ⟨S8x4096x8x2x16, .f32⟩
  | 15 => ⟨S8x4096x8x2x16, .f32⟩
  | 16 => ⟨S8x4096x8x2x16, .f32⟩
  | 17 => ⟨S8x4096x8x2x32, .f32⟩
  | 18 => ⟨S8x4096x8x2x32, .f32⟩
  | 19 => ⟨S8x4096x8x2x16, .f32⟩
  | 20 => ⟨S8x4096x8x2x16, .f32⟩
  | 21 => ⟨S1x4096x1x1x16, .f32⟩
  | 22 => ⟨S8x4096x8x2x16, .f32⟩
  | 23 => ⟨S8x4096x8x2x16, .f32⟩
  | 24 => ⟨S1x4096x1x1x16, .f32⟩
  | 25 => ⟨S8x4096x8x2x16, .f32⟩
  | 26 => ⟨S8x4096x8x2x16, .f32⟩
  | 27 => ⟨S8x4096x8x2x16, .f32⟩
  | 28 => ⟨S1x4096x1x1x16, .f32⟩
  | 29 => ⟨S8x4096x8x2x16, .f32⟩
  | 30 => ⟨S8x4096x8x2x16, .f32⟩
  | 31 => ⟨S1x4096x1x1x16, .f32⟩
  | 32 => ⟨S8x4096x8x2x16, .f32⟩
  | 33 => ⟨S8x4096x8x2x16, .f32⟩
  | 34 => ⟨S8x4096x8x2x16, .f32⟩
  | 35 => ⟨S8x4096x8x2x32, .f32⟩
  | 36 => ⟨S8x4096x8x2x64, .f32⟩
  | 37 => ⟨S8x256x8x2x64, .f32⟩
  | 38 => ⟨S8x4352x8x2x64, .f32⟩
  | 39 => ⟨S8x4352x1024, .f32⟩
  | 40 => ⟨S4352x8x1024, .f32⟩
  | 41 => ⟨S4352x8192, .f32⟩
  | 42 => ⟨S4352x8192, .bf16⟩
  | 43 => ⟨S8x4352x1024, .f32⟩
  | 44 => ⟨S4352x8x1024, .f32⟩
  | 45 => ⟨S4352x8192, .f32⟩
  | 46 => ⟨S4352x8192, .bf16⟩
  | 47 => ⟨S4352x8x1024, .f32⟩
  | 48 => ⟨S4352x8192, .f32⟩
  | 49 => ⟨S4352x8192, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_9 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩

abbrev nD : Nat := 1
abbrev τ : Topo := Topo.v7x

variable {F : FTy → Type} [FloatOps F]
-- ==== Proof.AttnFrames.lean ====
/- The frames of the attention call and of its reference, and the idealization's claim. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

namespace Cert.Proof.Attn

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_pi_pre : Cert.quiescent_KernelIdeal_pre_finite := fun m ρ _ => Cert.KernelIdeal.Gen.frame m ρ

theorem frame_ri_pre : Cert.quiescent_ReferenceIdeal_pre_finite := fun m ρ _ => frame_ri m ρ trivial

theorem preserves : Cert.preserves_Kernel_KernelIdeal := trivial

end Cert.Proof.Attn

end
-- ==== Proof.AttnKernel.lean ====
/- What the attention call's body computes for one run of 256 queries, as one function of the blocks it reads. -/
module

public import proofs.«01_k».proof.Proof.Gen.KernelIdeal.Skeleton
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-- A load of the box at offsets `off` of a block. -/
abbrev ld {S : Shape} {e : EltTy} (X : S.Idx → Elt Ideal e) (off size : Fin S.rank → ℕ) (h : ∀ a, off a + size a ≤ S.size a) :=
  View.ld (Val := Elt Ideal) (e' := e) X (Rect.unit (s := S) off size h)

/-- The weights of 256 keys, before normalization: two to the power of the score less the column's greatest. -/
def wts (s : FVec Ideal S4352x256 .f32) (off : ℕ) (h : S4352x256.Slices ![off, 0] S256x256) : FVec Ideal S256x256 .f32 :=
  exp2 (subf (extractStridedSlice S256x256 ![off, 0] s h)
    (broadcastTo S256x256
      (shapeCast S1x256 (multiReduction .maximumf [0] S256 s 0xFF800000#32 reduces_S4352x256_S256 (.inl rfl) rfl) shapeCasts_S256_S1x256)
      broadcasts_S1x256_S256x256))

/-- The part of the weighted sum of values that 256 keys give. -/
def part (v : FVec Ideal S128x4352 .bf16) (s : FVec Ideal S4352x256 .f32) (off : ℕ)
    (hv : ∀ a, ![0, off] a + ![128, 256] a ≤ S128x4352.size a) (h : S4352x256.Slices ![off, 0] S256x256) : FVec Ideal S128x256 .f32 :=
  matmul dot_S128x256_S256x256_S128x256_1_0_0_1_n_n none (show FVec Ideal S128x256 .bf16 from ld (e := .bf16) v ![0, off] ![128, 256] hv)
    (truncf .bf16 (wts s off h) bitsLt_bf16_f32) (constant S128x256 .f32 0x00000000#32)

/-- The part of the weights' sum that 256 keys give, in eight running sums. -/
def fold8 (s : FVec Ideal S4352x256 .f32) (off : ℕ) (h : S4352x256.Slices ![off, 0] S256x256) : FVec Ideal S8x256 .f32 :=
  multiReduction .add [0] S8x256 (shapeCast S32x8x256 (wts s off h) shapeCasts_S256x256_S32x8x256) 0x00000000#32
    reduces_S32x8x256_S8x256 (.inl rfl) rfl

/-- The weighted sum of values over all keys: seventeen runs of 256. -/
def num (v : FVec Ideal S128x4352 .bf16) (s : FVec Ideal S4352x256 .f32) : FVec Ideal S128x256 .f32 :=
  addf (addf (addf (addf (addf (addf (addf (addf (addf (addf (addf (addf (addf (addf (addf (addf
    (part v s 0 inb_S128x4352_S128x256_0_0 slices_S4352x256_o0_0_S256x256)
    (part v s 256 inb_S128x4352_S128x256_0_256 slices_S4352x256_o256_0_S256x256))
    (part v s 512 inb_S128x4352_S128x256_0_512 slices_S4352x256_o512_0_S256x256))
    (part v s 768 inb_S128x4352_S128x256_0_768 slices_S4352x256_o768_0_S256x256))
    (part v s 1024 inb_S128x4352_S128x256_0_1024 slices_S4352x256_o1024_0_S256x256))
    (part v s 1280 inb_S128x4352_S128x256_0_1280 slices_S4352x256_o1280_0_S256x256))
    (part v s 1536 inb_S128x4352_S128x256_0_1536 slices_S4352x256_o1536_0_S256x256))
    (part v s 1792 inb_S128x4352_S128x256_0_1792 slices_S4352x256_o1792_0_S256x256))
    (part v s 2048 inb_S128x4352_S128x256_0_2048 slices_S4352x256_o2048_0_S256x256))
    (part v s 2304 inb_S128x4352_S128x256_0_2304 slices_S4352x256_o2304_0_S256x256))
    (part v s 2560 inb_S128x4352_S128x256_0_2560 slices_S4352x256_o2560_0_S256x256))
    (part v s 2816 inb_S128x4352_S128x256_0_2816 slices_S4352x256_o2816_0_S256x256))
    (part v s 3072 inb_S128x4352_S128x256_0_3072 slices_S4352x256_o3072_0_S256x256))
    (part v s 3328 inb_S128x4352_S128x256_0_3328 slices_S4352x256_o3328_0_S256x256))
    (part v s 3584 inb_S128x4352_S128x256_0_3584 slices_S4352x256_o3584_0_S256x256))
    (part v s 3840 inb_S128x4352_S128x256_0_3840 slices_S4352x256_o3840_0_S256x256))
    (part v s 4096 inb_S128x4352_S128x256_0_4096 slices_S4352x256_o4096_0_S256x256)

/-- The weights' sum over all keys, in eight running sums. -/
def den (s : FVec Ideal S4352x256 .f32) : FVec Ideal S8x256 .f32 :=
  addf (addf (addf (addf (addf (addf (addf (addf (addf (addf (addf (addf (addf (addf (addf (addf
    (fold8 s 0 slices_S4352x256_o0_0_S256x256)
    (fold8 s 256 slices_S4352x256_o256_0_S256x256))
    (fold8 s 512 slices_S4352x256_o512_0_S256x256))
    (fold8 s 768 slices_S4352x256_o768_0_S256x256))
    (fold8 s 1024 slices_S4352x256_o1024_0_S256x256))
    (fold8 s 1280 slices_S4352x256_o1280_0_S256x256))
    (fold8 s 1536 slices_S4352x256_o1536_0_S256x256))
    (fold8 s 1792 slices_S4352x256_o1792_0_S256x256))
    (fold8 s 2048 slices_S4352x256_o2048_0_S256x256))
    (fold8 s 2304 slices_S4352x256_o2304_0_S256x256))
    (fold8 s 2560 slices_S4352x256_o2560_0_S256x256))
    (fold8 s 2816 slices_S4352x256_o2816_0_S256x256))
    (fold8 s 3072 slices_S4352x256_o3072_0_S256x256))
    (fold8 s 3328 slices_S4352x256_o3328_0_S256x256))
    (fold8 s 3584 slices_S4352x256_o3584_0_S256x256))
    (fold8 s 3840 slices_S4352x256_o3840_0_S256x256))
    (fold8 s 4096 slices_S4352x256_o4096_0_S256x256)

/-- One component's attention: the weighted sum of values times the inverse of the weights' sum. -/
def head (v : FVec Ideal S128x4352 .bf16) (s : FVec Ideal S4352x256 .f32) : FVec Ideal S128x256 .f32 :=
  mulf (num v s) (broadcastTo S128x256
    (divf (broadcast S1x256 (Scalar.ofBits .f32 0x3F800000#32 : Ideal .f32))
      (shapeCast S1x256 (multiReduction .add [0] S256 (den s) 0x00000000#32 reduces_S8x256_S256 (.inl rfl) rfl) shapeCasts_S256_S1x256))
    broadcasts_S1x256_S128x256)

/-- What the body stores for the 256 queries `q`. -/
def sub (lp : FVec Ideal S4x64 .f32) (g : FVec Ideal S1x128 .f32) (k : FVec Ideal S4352x128 .bf16) (v : FVec Ideal S128x4352 .bf16)
    (q : FVec Ideal S256x128 .bf16) : FVec Ideal S256x128 .bf16 :=
  k0_pay64 (head v (k0_pay8 k q)) (mulf (broadcastTo S128x256 (k0_pay3 lp) broadcasts_S1x1_S128x256) (head v (k0_pay9 k q))) g

end Cert.KernelIdeal.Value

end
-- ==== Proof.AttnRow.lean ====
/- Differential attention of one query, in plain sums over the extended reals. -/
module

public import Idealize.ShloMosaic.Lib.Pointwise
public import Idealize.ShloMosaic.PureOps.Ideal

@[expose] public section

noncomputable section

namespace Cert.AttnRow

open Idealize.ShloMosaic

/-- The scale of the queries in the kernel: an eighth over the logarithm of two. -/
def scale : EReal := Ideal.div (Ideal.ofBits .f32 0x3E000000#32) (Ideal.log (Ideal.ofBits .f32 0x40000000#32))

/-- The greatest score of a query. -/
def top (s : Fin 4352 → EReal) : EReal := Finset.fold max (Ideal.ofBits .f32 0xFF800000#32) s Finset.univ

/-- A key's weight in the kernel: two to the power of its score less the greatest. -/
def weight (s : Fin 4352 → EReal) (a : Fin 4352) : EReal := Ideal.exp2 (s a - top s)

/-- One component's attention in the kernel: the weighted sum of the values times the inverse of the weights' sum. -/
def head (v s : Fin 4352 → EReal) : EReal := (∑ a, v a * weight s a) * Ideal.div 1 (∑ a, weight s a)

/-- A key's score. -/
def score (k q : Fin 64 → EReal) : EReal := ∑ x, k x * q x

/-- The mixing factor of the two components: one exponential of a product less another, plus a constant. -/
def lam (lp : Fin 4 → Fin 64 → EReal) : EReal :=
  Ideal.exp (∑ x, lp 0 x * lp 1 x) - Ideal.exp (∑ x, lp 2 x * lp 3 x) + Ideal.ofBits .f32 0x3EB60549#32

/-- The norm of the difference of the components, with its gain and constant factor. -/
def fin (o g : Fin 128 → EReal) (d : Fin 128) : EReal :=
  o d * Ideal.rsqrt (Ideal.div (∑ x, o x * o x) (Ideal.ofBits .f32 0x43000000#32) + Ideal.ofBits .f32 0x358637BD#32) * g d
    * Ideal.ofBits .f32 0x3F24FD5C#32

/-- The kernel's result for one query, from its scores' two components. -/
def row (lp : Fin 4 → Fin 64 → EReal) (g : Fin 128 → EReal) (v : Fin 128 → Fin 4352 → EReal) (s0 s1 : Fin 4352 → EReal) : Fin 128 → EReal :=
  fin (fun d => head (v d) s0 - lam lp * head (v d) s1) g

end Cert.AttnRow

end
-- ==== Proof.AttnPoint.lean ====
/- The run of 256 queries, read at one entry. -/
module

public import proofs.«01_k».proof.Proof.AttnKernel
public import proofs.«01_k».proof.Proof.AttnRow

@[expose] public section

set_option maxRecDepth 16384

noncomputable section

namespace Cert.KernelIdeal.Value

open Cert.KernelIdeal Cert.KernelIdeal.Gen Idealize.ShloMosaic Idealize.ShloMosaic.TcCoe Idealize.SL.Sem

open Cert.AttnRow (weight top)

/-- A sum over 128 of which the upper half is zero. -/
theorem sum_low (f : Fin 128 → EReal) :
    (∑ x : Fin 128, Scalar.select (IntOp.cmpi CmpIPredicate.slt (BitVec.ofNat 32 (x : ℕ)) 64#32) (f x) 0)
      = ∑ x : Fin 64, f ⟨(x : ℕ), by omega⟩ := by
  rw [Fin.sum_univ_two_halves 64 64 rfl]
  have hl : ∀ x : Fin 64, IntOp.cmpi CmpIPredicate.slt (BitVec.ofNat 32 (x : ℕ)) 64#32 = 1#1 := by decide
  have hr : ∀ x : Fin 64, IntOp.cmpi CmpIPredicate.slt (BitVec.ofNat 32 (64 + (x : ℕ))) 64#32 = 0#1 := by decide
  simp only [hl, hr]
  simp [Scalar.select]

/-- A sum over 128 of which the lower half is zero. -/
theorem sum_high (f : Fin 128 → EReal) :
    (∑ x : Fin 128, Scalar.select (IntOp.cmpi CmpIPredicate.slt (BitVec.ofNat 32 (x : ℕ)) 64#32) 0 (f x))
      = ∑ x : Fin 64, f ⟨64 + (x : ℕ), by omega⟩ := by
  rw [Fin.sum_univ_two_halves 64 64 rfl]
  have hl : ∀ x : Fin 64, IntOp.cmpi CmpIPredicate.slt (BitVec.ofNat 32 (x : ℕ)) 64#32 = 1#1 := by decide
  have hr : ∀ x : Fin 64, IntOp.cmpi CmpIPredicate.slt (BitVec.ofNat 32 (64 + (x : ℕ))) 64#32 = 0#1 := by decide
  simp only [hl, hr]
  simp [Scalar.select]

/-- The first component's scores. -/
theorem score0_at (k : FVec Ideal S4352x128 .bf16) (q : FVec Ideal S256x128 .bf16) (a : Fin 4352) (j : Fin 256) :
    k0_pay8 (F := Ideal) k q (ix2 a j)
      = AttnRow.score (fun x => k (ix2 a ⟨(x : ℕ), by omega⟩)) (fun x => q (ix2 j ⟨(x : ℕ), by omega⟩)) := by
  pointwise [k0_pay8, k0_pay4, k0_pay5, k0_pay6, k0_pay7]
  exact sum_low fun x => (k (ix2 a x) * q (ix2 j x) : EReal)

/-- The second component's scores. -/
theorem score1_at (k : FVec Ideal S4352x128 .bf16) (q : FVec Ideal S256x128 .bf16) (a : Fin 4352) (j : Fin 256) :
    k0_pay9 (F := Ideal) k q (ix2 a j)
      = AttnRow.score (fun x => k (ix2 a ⟨64 + (x : ℕ), by omega⟩)) (fun x => q (ix2 j ⟨64 + (x : ℕ), by omega⟩)) := by
  pointwise [k0_pay9, k0_pay4, k0_pay5, k0_pay6, k0_pay7]
  exact sum_high fun x => (k (ix2 a x) * q (ix2 j x) : EReal)

/-- A run's weights are the plain ones. -/
theorem wts_at (s : FVec Ideal S4352x256 .f32) (off : ℕ) (h : S4352x256.Slices ![off, 0] S256x256) (ho : off ≤ 4096) (a j : Fin 256) :
    wts s off h (ix2 a j) = weight (fun x => s (ix2 x j)) ⟨off + (a : ℕ), by omega⟩ := by
  pointwise [wts]
  rfl

/-- A run's weighted sum. -/
theorem part_at (v : FVec Ideal S128x4352 .bf16) (s : FVec Ideal S4352x256 .f32) (off : ℕ)
    (hv : ∀ a, ![0, off] a + ![128, 256] a ≤ S128x4352.size a) (h : S4352x256.Slices ![off, 0] S256x256) (ho : off ≤ 4096)
    (d : Fin 128) (j : Fin 256) :
    part v s off hv h (ix2 d j)
      = ∑ x : Fin 256, (v (ix2 d ⟨off + (x : ℕ), by omega⟩) * weight (fun x => s (ix2 x j)) ⟨off + (x : ℕ), by omega⟩ : EReal) := by
  unfold part ld
  pointwise
  exact Finset.sum_congr rfl fun x _ => congrArg _ (wts_at s off h ho x j)

/-- A run's sum of weights, in eight parts. -/
theorem fold8_at (s : FVec Ideal S4352x256 .f32) (off : ℕ) (h : S4352x256.Slices ![off, 0] S256x256) (ho : off ≤ 4096) (a : Fin 8)
    (j : Fin 256) :
    fold8 s off h (ix2 a j)
      = ∑ x : Fin 32, (weight (fun x => s (ix2 x j)) ⟨off + ((x : ℕ) * 8 + (a : ℕ)), by omega⟩ : EReal) := by
  pointwise [fold8]
  exact Finset.sum_congr rfl fun x _ => wts_at s off h ho _ j

/-- The eight parts of a run's sum of weights together. -/
theorem fold8_sum (s : FVec Ideal S4352x256 .f32) (off : ℕ) (h : S4352x256.Slices ![off, 0] S256x256) (ho : off ≤ 4096) (j : Fin 256) :
    (∑ a : Fin 8, fold8 s off h (ix2 a j) : EReal)
      = ∑ x : Fin 256, (weight (fun x => s (ix2 x j)) ⟨off + (x : ℕ), by omega⟩ : EReal) := by
  rw [Fin.sum_univ_tiles 32 8 rfl, Finset.sum_comm]
  exact Finset.sum_congr rfl fun a _ => fold8_at s off h ho a j

/-- A sum over all keys is the sum of its seventeen runs, left to right. -/
theorem sum_runs (f : Fin 4352 → EReal) (r : ℕ → EReal)
    (hr : ∀ i : Fin 17, r (i : ℕ) = ∑ x : Fin 256, f ⟨(i : ℕ) * 256 + (x : ℕ), by omega⟩) :
    r 0 + r 1 + r 2 + r 3 + r 4 + r 5 + r 6 + r 7 + r 8 + r 9 + r 10 + r 11 + r 12 + r 13 + r 14 + r 15 + r 16 = ∑ a, f a := by
  rw [Fin.sum_univ_tiles 17 256 rfl, ← Finset.sum_congr rfl fun i _ => hr i, ← Finset.sum_range]
  simp only [Finset.sum_range_succ, Finset.sum_range_zero, zero_add]

/-- The weighted sum over all keys. -/
theorem num_at (v : FVec Ideal S128x4352 .bf16) (s : FVec Ideal S4352x256 .f32) (d : Fin 128) (j : Fin 256) :
    num v s (ix2 d j) = ∑ a : Fin 4352, (v (ix2 d a) * weight (fun x => s (ix2 x j)) a : EReal) := by
  rw [← sum_runs _ (fun i => if h : i < 17 then ∑ x : Fin 256,
    (v (ix2 d ⟨i * 256 + (x : ℕ), by omega⟩) * weight (fun x => s (ix2 x j)) ⟨i * 256 + (x : ℕ), by omega⟩ : EReal) else 0)
    (fun i => dif_pos i.isLt)]
  unfold num
  pointwise
  simp (disch := decide) only [part_at]
  simp

/-- The sum of the weights over all keys. -/
theorem den_at (s : FVec Ideal S4352x256 .f32) (j : Fin 256) :
    (∑ a : Fin 8, den s (ix2 a j) : EReal) = ∑ a : Fin 4352, (weight (fun x => s (ix2 x j)) a : EReal) := by
  rw [← sum_runs _ (fun i => if h : i < 17 then ∑ x : Fin 256,
    (weight (fun x => s (ix2 x j)) ⟨i * 256 + (x : ℕ), by omega⟩ : EReal) else 0)
    (fun i => dif_pos i.isLt)]
  unfold den
  pointwise
  simp only [Finset.sum_add_distrib]
  simp (disch := decide) only [fold8_sum]
  simp

/-- One component's attention. -/
theorem head_at (v : FVec Ideal S128x4352 .bf16) (s : FVec Ideal S4352x256 .f32) (d : Fin 128) (j : Fin 256) :
    head v s (ix2 d j) = AttnRow.head (fun a => v (ix2 d a)) (fun x => s (ix2 x j)) := by
  pointwise [head]
  rw [num_at, den_at]
  rfl

/-- The mixing factor. -/
theorem lam_at (lp : FVec Ideal S4x64 .f32) :
    k0_pay3 (F := Ideal) lp (ix2 0 0) = AttnRow.lam fun a b => lp (ix2 a b) := by
  pointwise [k0_pay3, AttnRow.lam]

/-- The norm, its gain and its factor. -/
theorem fin_at (a b : FVec Ideal S128x256 .f32) (g : FVec Ideal S1x128 .f32) (d : Fin 128) (j : Fin 256) :
    k0_pay64 a b g (ix2 j d)
      = AttnRow.fin (fun x => (a (ix2 x j) - b (ix2 x j) : EReal)) (fun x => g (ix2 0 x)) d := by
  pointwise [k0_pay64, AttnRow.fin]

/-- The values, transposed. -/
theorem vt_at (v : FVec Ideal S4352x128 .bf16) (d : Fin 128) (a : Fin 4352) :
    k0_pay2 v (ix2 d a) = v (ix2 a d) := by
  pointwise [k0_pay2]

/-- What the body stores for one query. -/
theorem sub_at (lp : FVec Ideal S4x64 .f32) (g : FVec Ideal S1x128 .f32) (k : FVec Ideal S4352x128 .bf16) (v : FVec Ideal S128x4352 .bf16)
    (q : FVec Ideal S256x128 .bf16) (j : Fin 256) (d : Fin 128) :
    sub lp g k v q (ix2 j d)
      = AttnRow.row (fun a b => lp (ix2 a b)) (fun x => g (ix2 0 x)) (fun d a => v (ix2 d a))
          (fun a => AttnRow.score (fun x => k (ix2 a ⟨(x : ℕ), by omega⟩)) (fun x => q (ix2 j ⟨(x : ℕ), by omega⟩)))
          (fun a => AttnRow.score (fun x => k (ix2 a ⟨64 + (x : ℕ), by omega⟩)) (fun x => q (ix2 j ⟨64 + (x : ℕ), by omega⟩))) d := by
  unfold sub
  rw [fin_at]
  unfold AttnRow.row
  refine congrArg (fun o => AttnRow.fin o _ d) (funext fun x => ?_)
  pointwise
  rw [head_at, head_at, ← lam_at]
  simp only [score0_at, score1_at]

end Cert.KernelIdeal.Value

end
-- ==== Proof.AttnValue.lean ====
/- What the attention call writes. -/
module

public import proofs.«01_k».proof.Proof.Gen.KernelIdeal.Value
public import Idealize.ShloMosaic.Lib.Pipeline.ValueKit
public import Idealize.ShloMosaic.Lib.Pipeline.ReadBack
public import proofs.«01_k».proof.Proof.AttnKernel

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block of a point's results over the transposed values: row `r` is row `r % 256` of the run of queries it lies in. -/
def rows (lp : FVec Ideal S4x64 .f32) (g : FVec Ideal S1x128 .f32) (k : FVec Ideal S4352x128 .bf16) (v : FVec Ideal S128x4352 .bf16)
    (q : FVec Ideal S2048x128 .bf16) : FVec Ideal S2048x128 .bf16 := fun y =>
  sub lp g k v (fun x => q (ix2 ⟨(y 0 : ℕ) / 256 * 256 + (x 0 : ℕ), by
      have h : (y 0 : ℕ) < 2048 := (y 0).isLt
      have h' : (x 0 : ℕ) < 256 := (x 0).isLt
      omega⟩ (x 1)))
    (ix2 ⟨(y 0 : ℕ) % 256, by omega⟩ (y 1))

/-- A run of 256 queries, stored at its rows, is those rows of the block. -/
theorem rows_run (lp : FVec Ideal S4x64 .f32) (g : FVec Ideal S1x128 .f32) (k : FVec Ideal S4352x128 .bf16) (v : FVec Ideal S128x4352 .bf16)
    (q : FVec Ideal S2048x128 .bf16) (n : ℕ) (h : ∀ a, ![256 * n, 0] a + ![256, 128] a ≤ S2048x128.size a)
    (x : S256x128.Idx) (y : S2048x128.Idx) (h0 : (y 0 : ℕ) = 256 * n + (x 0 : ℕ)) (h1 : (y 1 : ℕ) = (x 1 : ℕ)) :
    sub lp g k v (show FVec Ideal S256x128 .bf16 from ld (S := S2048x128) (e := .bf16) q ![256 * n, 0] ![256, 128] h) x
      = rows lp g k v q y := by
  have hx : (x 0 : ℕ) < 256 := (x 0).isLt
  unfold rows
  congr 1
  · congr 1
    funext z
    have hz : (z 0 : ℕ) < 256 := (z 0).isLt
    unfold ld
    pointwise
    exact congrArg q (congrArg (fun i => ix2 i (z 1)) (Fin.ext (by dsimp only; omega)))
  · rw [eq_ix2 x]
    exact congrArg₂ ix2 (Fin.ext (by dsimp only; omega)) (Fin.ext h1.symm)

/-- A load of the scratch reads its contents, whose equation is proved at the use. -/
theorem canon_scratch (X : FVec Ideal S128x4352 .bf16) (L : List (View.Piece (Elt Ideal) S128x4352 .bf16))
    (h : View.canon L = X) : View.canon L = X := h

theorem pointA (c : Dev nD) (t : Fin cfg0.N) (h0 : t.val % 2 = 0) (y : S2048x128.Idx) :
    (outsAt0 m c t.val t.isLt).1 y = rows (iblk m c 0 t) (iblk m c 1 t) (iblk m c 3 t)
      (k0_pay2 (iblk m c 4 t)) (X0_2 m c t) y := by
  rw [outsAt0_A m c t h0]
  dsimp only
  frame_out
  simp only [View.readCov_eq_canon']
  rw [canon_scratch (k0_pay2 (iblk m c 4 t))]
  · generalize (k0_pay2 (iblk m c 4 t) : FVec Ideal S128x4352 .bf16) = v
    canon_tiles x h
    · exact rows_run (iblk m c 0 t) (iblk m c 1 t) (iblk m c 3 t) v (X0_2 m c t) 7 _ x y h0 h1
    · exact rows_run (iblk m c 0 t) (iblk m c 1 t) (iblk m c 3 t) v (X0_2 m c t) 6 _ x y h0 h1
    · exact rows_run (iblk m c 0 t) (iblk m c 1 t) (iblk m c 3 t) v (X0_2 m c t) 5 _ x y h0 h1
    · exact rows_run (iblk m c 0 t) (iblk m c 1 t) (iblk m c 3 t) v (X0_2 m c t) 4 _ x y h0 h1
    · exact rows_run (iblk m c 0 t) (iblk m c 1 t) (iblk m c 3 t) v (X0_2 m c t) 3 _ x y h0 h1
    · exact rows_run (iblk m c 0 t) (iblk m c 1 t) (iblk m c 3 t) v (X0_2 m c t) 2 _ x y h0 h1
    · exact rows_run (iblk m c 0 t) (iblk m c 1 t) (iblk m c 3 t) v (X0_2 m c t) 1 _ x y h0 h1
    · exact rows_run (iblk m c 0 t) (iblk m c 1 t) (iblk m c 3 t) v (X0_2 m c t) 0 _ x y (h0.trans (Nat.zero_add _).symm) h1
  · funext z
    canon_tiles x h
    rw [eq_ix2 x, eq_ix2 z]
    exact congrArg _ (congrArg₂ ix2 (Fin.ext h0.symm) (Fin.ext h1.symm))

theorem scratchA (c : Dev nD) (t : Fin cfg0.N) (h0 : t.val % 2 = 0) :
    (outsAt0 m c t.val t.isLt).2 = k0_pay2 (iblk m c 4 t) := by
  rw [outsAt0_A m c t h0]
  dsimp only
  frame_out

theorem pointB (c : Dev nD) (t : Fin cfg0.N) (h0 : ¬ t.val % 2 = 0) (y : S2048x128.Idx) :
    (outsAt0 m c t.val t.isLt).1 y = rows (iblk m c 0 t) (iblk m c 1 t) (iblk m c 3 t)
      (outsAt0 m c (t.val - 1) (Nat.lt_of_le_of_lt (Nat.sub_le _ _) t.isLt)).2 (X0_2 m c t) y := by
  rw [outsAt0_B m c t h0]
  dsimp only
  frame_out
  simp only [read_unread_whole]
  generalize (outsAt0 m c (t.val - 1) (Nat.lt_of_le_of_lt (Nat.sub_le _ _) t.isLt)).2 = v
  canon_tiles x h
  · exact rows_run (iblk m c 0 t) (iblk m c 1 t) (iblk m c 3 t) v (X0_2 m c t) 7 _ x y h0 h1
  · exact rows_run (iblk m c 0 t) (iblk m c 1 t) (iblk m c 3 t) v (X0_2 m c t) 6 _ x y h0 h1
  · exact rows_run (iblk m c 0 t) (iblk m c 1 t) (iblk m c 3 t) v (X0_2 m c t) 5 _ x y h0 h1
  · exact rows_run (iblk m c 0 t) (iblk m c 1 t) (iblk m c 3 t) v (X0_2 m c t) 4 _ x y h0 h1
  · exact rows_run (iblk m c 0 t) (iblk m c 1 t) (iblk m c 3 t) v (X0_2 m c t) 3 _ x y h0 h1
  · exact rows_run (iblk m c 0 t) (iblk m c 1 t) (iblk m c 3 t) v (X0_2 m c t) 2 _ x y h0 h1
  · exact rows_run (iblk m c 0 t) (iblk m c 1 t) (iblk m c 3 t) v (X0_2 m c t) 1 _ x y h0 h1
  · exact rows_run (iblk m c 0 t) (iblk m c 1 t) (iblk m c 3 t) v (X0_2 m c t) 0 _ x y (h0.trans (Nat.zero_add _).symm) h1
end Cert.KernelIdeal.Value

end
-- ==== Proof.AttnBlocks.lean ====
/- The blocks a grid point of the attention call reads, as entries of the arguments. -/
module

public import proofs.«01_k».proof.Proof.AttnValue
public import proofs.«01_k».proof.Proof.AttnRow

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.AttnRow (scale)

variable (m : (ℓ : Loc nD τ sig) → Buf (Elt Ideal) ℓ)

/-- The block of every window at point `t`: batch element `t / 16`, head `t / 2 % 8`, half `t % 2` of the queries. -/
theorem idx : ∀ t : Fin cfg0.N, t.val < 128 ∧ win0_0.index t = ![0, 0] ∧ win0_1.index t = ![0, 0] ∧ win0_2.index t = ![t.val % 2, t.val / 2]
    ∧ win0_3.index t = ![0, t.val / 2] ∧ win0_4.index t = ![0, t.val / 2] ∧ win0_5.index t = ![t.val % 2, t.val / 2] :=
  (by decide +kernel : ∀ t : Fin grid0.N, _)

theorem lp_at (c : Dev nD) (t : Fin cfg0.N) (a : Fin 4) (b : Fin 64) :
    (show FVec Ideal S4x64 .f32 from iblk m c 0 t) (ix2 a b) = m ((c : Thread nD τ).loc main_arg3) (ix2 a b) := by
  blk_simp [iblk, V, idx t]
  entry_read
  pointwise
  blk_ext [idx t]

theorem g_at (c : Dev nD) (t : Fin cfg0.N) (d : Fin 128) :
    (show FVec Ideal S1x128 .f32 from iblk m c 1 t) (ix2 0 d) = m ((c : Thread nD τ).loc main_arg4) (ix1 d) := by
  blk_simp [iblk, V, idx t]
  entry_read
  pointwise
  blk_ext [idx t]

theorem k_at (c : Dev nD) (t : Fin cfg0.N) (r : Fin 4352) (d : Fin 128) :
    (show FVec Ideal S4352x128 .bf16 from iblk m c 3 t) (ix2 r d)
      = m ((c : Thread nD τ).loc main_arg1) (ix5 ⟨t.val / 16, by have := (idx t).1; omega⟩ r ⟨t.val / 2 % 8, by omega⟩
          ⟨(d : ℕ) / 64, by omega⟩ ⟨(d : ℕ) % 64, by omega⟩) := by
  blk_simp [iblk, V, idx t]
  entry_read
  pointwise
  blk_ext [idx t]

theorem v_at (c : Dev nD) (t : Fin cfg0.N) (r : Fin 4352) (d : Fin 128) :
    (show FVec Ideal S4352x128 .bf16 from iblk m c 4 t) (ix2 r d)
      = m ((c : Thread nD τ).loc main_arg2) (ix4 ⟨t.val / 16, by have := (idx t).1; omega⟩ r ⟨t.val / 2 % 8, by omega⟩ d) := by
  blk_simp [iblk, V, idx t]
  entry_read
  pointwise
  blk_ext [idx t]

/-- The queries' block, whose window could be cut at the array's end and never is, at an index of its moved part. -/
theorem q_moved (c : Dev nD) (t : Fin cfg0.N) (j : ((cfg0.win 2).xblock (cfg0.grid.coords t)).Idx) (r : Fin 2048) (d : Fin 128)
    (h0 : (j 0 : ℕ) = r) (h1 : (j 1 : ℕ) = d) :
    (show EReal from iblk m c 2 t j)
      = (show EReal from m ((c : Thread nD τ).loc main_arg0) (ix5 ⟨t.val / 16, by have := (idx t).1; omega⟩
          ⟨t.val % 2 * 2048 + (r : ℕ), by omega⟩ ⟨t.val / 2 % 8, by omega⟩ ⟨(d : ℕ) / 64, by omega⟩ ⟨(d : ℕ) % 64, by omega⟩)) * scale := by
  blk_simp [iblk, V, idx t]
  entry_read
  pointwise [scale]
  congr 1
  blk_ext [idx t, h0, h1]

theorem q_at (c : Dev nD) (t : Fin cfg0.N) (r : Fin 2048) (d : Fin 128) :
    (show FVec Ideal S2048x128 .bf16 from X0_2 m c t) (ix2 r d)
      = (show EReal from m ((c : Thread nD τ).loc main_arg0) (ix5 ⟨t.val / 16, by have := (idx t).1; omega⟩
          ⟨t.val % 2 * 2048 + (r : ℕ), by omega⟩ ⟨t.val / 2 % 8, by omega⟩ ⟨(d : ℕ) / 64, by omega⟩ ⟨(d : ℕ) % 64, by omega⟩)) * scale := by
  show (if h : _ then _ else _) = _
  rw [dif_pos (moved0_2 t _)]
  exact q_moved m c t _ r d rfl rfl
end Cert.KernelIdeal.Value

end
-- ==== Proof.AttnTarget.lean ====
/- The attention call's result array on the latent rows. -/
module

public import proofs.«01_k».proof.Proof.AttnPoint
public import proofs.«01_k».proof.Proof.AttnBlocks

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.AttnRow (scale score row)

/-- The attention of batch element `b`, time `i` and head `h` at channel `d`, from the arguments. -/
def rowOf (q k : FVec Ideal S8x4352x8x2x64 .f32) (v : FVec Ideal S8x4352x8x128 .f32) (lp : FVec Ideal S4x64 .f32) (g : FVec Ideal S128 .f32)
    (b : Fin 8) (i : Fin 4352) (h : Fin 8) (d : Fin 128) : EReal :=
  row (fun a b => lp (ix2 a b)) (fun x => g (ix1 x)) (fun d a => v (ix4 b a h d))
    (fun a => score (fun x => k (ix5 b a h 0 x)) (fun x => (q (ix5 b i h 0 x) * scale : EReal)))
    (fun a => score (fun x => k (ix5 b a h 1 x)) (fun x => (q (ix5 b i h 1 x) * scale : EReal))) d

variable (m : (ℓ : Loc nD τ sig) → Buf (Elt Ideal) ℓ)

/-- The same, from the memory's arguments. -/
def rowAt (c : Dev nD) (b : Fin 8) (i : Fin 4352) (h : Fin 8) (d : Fin 128) : EReal :=
  rowOf (m ((c : Thread nD τ).loc main_arg0)) (m ((c : Thread nD τ).loc main_arg1)) (m ((c : Thread nD τ).loc main_arg2))
    (m ((c : Thread nD τ).loc main_arg3)) (m ((c : Thread nD τ).loc main_arg4)) b i h d

/-- Equal parts give equal rows. -/
theorem row_congr {lp lp' : Fin 4 → Fin 64 → EReal} {g g' : Fin 128 → EReal} {v v' : Fin 128 → Fin 4352 → EReal} {s0 s0' s1 s1' : Fin 4352 → EReal}
    (e0 : lp = lp') (e1 : g = g') (e2 : v = v') (e3 : s0 = s0') (e4 : s1 = s1') (d : Fin 128) :
    row lp g v s0 s1 d = row lp' g' v' s0' s1' d := by
  rw [e0, e1, e2, e3, e4]

/-- A point's block over its transposed values is the attention of its batch element, head and half of the times. -/
theorem block_at (c : Dev nD) (t : Fin cfg0.N) (v : FVec Ideal S128x4352 .bf16)
    (hv : ∀ (d : Fin 128) (a : Fin 4352), v (ix2 d a) = m ((c : Thread nD τ).loc main_arg2)
      (ix4 ⟨t.val / 16, by have := (idx t).1; omega⟩ a ⟨t.val / 2 % 8, by omega⟩ d)) (r : Fin 2048) (d : Fin 128) :
    rows (iblk m c 0 t) (iblk m c 1 t) (iblk m c 3 t) v (X0_2 m c t) (ix2 r d)
      = rowAt m c ⟨t.val / 16, by have := (idx t).1; omega⟩ ⟨t.val % 2 * 2048 + (r : ℕ), by omega⟩ ⟨t.val / 2 % 8, by omega⟩ d := by
  unfold rows
  refine (sub_at _ _ _ _ _ _ _).trans ?_
  unfold rowAt rowOf
  have hr : (⟨(r : ℕ) / 256 * 256 + (r : ℕ) % 256, by omega⟩ : Fin 2048) = r := Fin.ext (by dsimp only; omega)
  have h0 : ∀ x : Fin 64, (⟨(x : ℕ) / 64, by omega⟩ : Fin 2) = 0 := fun x => Fin.ext (show (x : ℕ) / 64 = 0 by omega)
  have h1 : ∀ x : Fin 64, (⟨(64 + (x : ℕ)) / 64, by omega⟩ : Fin 2) = 1 := fun x => Fin.ext (show (64 + (x : ℕ)) / 64 = 1 by omega)
  have l0 : ∀ x : Fin 64, (⟨(x : ℕ) % 64, by omega⟩ : Fin 64) = x := fun x => Fin.ext (show (x : ℕ) % 64 = x by omega)
  have l1 : ∀ x : Fin 64, (⟨(64 + (x : ℕ)) % 64, by omega⟩ : Fin 64) = x := fun x => Fin.ext (show (64 + (x : ℕ)) % 64 = x by omega)
  refine row_congr (funext fun a => funext fun b => lp_at m c t a b) (funext fun x => g_at m c t x) (funext fun d => funext fun a => hv d a)
    (funext fun a => congrArg₂ score (funext fun x => ?_) (funext fun x => ?_)) (funext fun a => congrArg₂ score (funext fun x => ?_) (funext fun x => ?_)) d
  · exact (k_at m c t a _).trans (congrArg _ (congrArg₂ (fun e x => ix5 _ a _ e x) (h0 x) (l0 x)))
  · refine (congrArg (X0_2 m c t) (congrArg (fun r => ix2 r _) hr)).trans ((q_at m c t r _).trans ?_)
    exact congrArg (fun y => (show EReal from m ((c : Thread nD τ).loc main_arg0) y) * scale) (congrArg₂ (fun e x => ix5 _ _ _ e x) (h0 x) (l0 x))
  · exact (k_at m c t a _).trans (congrArg _ (congrArg₂ (fun e x => ix5 _ a _ e x) (h1 x) (l1 x)))
  · refine (congrArg (X0_2 m c t) (congrArg (fun r => ix2 r _) hr)).trans ((q_at m c t r _).trans ?_)
    exact congrArg (fun y => (show EReal from m ((c : Thread nD τ).loc main_arg0) y) * scale) (congrArg₂ (fun e x => ix5 _ _ _ e x) (h1 x) (l1 x))

/-- The result array on the latent rows. -/
def target (c : Dev nD) : FVec Ideal S4352x8192 .bf16 := fun y =>
  rowAt m c ⟨(y 1 : ℕ) / 1024, by have h : (y 1 : ℕ) < 8192 := (y 1).isLt; omega⟩ (y 0) ⟨(y 1 : ℕ) / 128 % 8, by omega⟩ ⟨(y 1 : ℕ) % 128, by omega⟩

theorem target_at (c : Dev nD) (i : Fin 4352) (y : Fin 8192) :
    target m c (ix2 i y) = rowAt m c ⟨(y : ℕ) / 1024, by omega⟩ i ⟨(y : ℕ) / 128 % 8, by omega⟩ ⟨(y : ℕ) % 128, by omega⟩ := rfl

/-- Rows at equal coordinates are equal. -/
theorem rowAt_same (c : Dev nD) {b b' h h' : Fin 8} {s s' : Fin 4352} {d d' : Fin 128} (hb : (b : ℕ) = b') (hs : (s : ℕ) = s')
    (hh : (h : ℕ) = h') (hd : (d : ℕ) = d') : rowAt m c b s h d = rowAt m c b' s' h' d' := by
  rw [Fin.ext hb, Fin.ext hs, Fin.ext hh, Fin.ext hd]

/-- What a point leaves in its block: the odd points read the values that the point before them transposed. -/
theorem point (c : Dev nD) (t : Fin cfg0.N) (r : Fin 2048) (d : Fin 128) :
    (outsAt0 m c t.val t.isLt).1 (ix2 r d)
      = rowAt m c ⟨t.val / 16, by have := (idx t).1; omega⟩ ⟨t.val % 2 * 2048 + (r : ℕ), by omega⟩ ⟨t.val / 2 % 8, by omega⟩ d := by
  by_cases h0 : t.val % 2 = 0
  · rw [pointA m c t h0]
    exact block_at m c t _ (fun d a => (vt_at _ d a).trans (v_at m c t a d)) r d
  · rw [pointB m c t h0]
    have hs := scratchA m c ⟨t.val - 1, Nat.lt_of_le_of_lt (Nat.sub_le _ _) t.isLt⟩ (by dsimp only; omega)
    refine block_at m c t _ (fun d a => ?_) r d
    rw [hs]
    refine ((vt_at _ d a).trans (v_at m c ⟨t.val - 1, Nat.lt_of_le_of_lt (Nat.sub_le _ _) t.isLt⟩ a d)).trans (congrArg _ ?_)
    exact congrArg₂ (fun b h => ix4 b a h d) (Fin.ext (by dsimp only; omega)) (Fin.ext (by dsimp only; omega))

/-- After the run the latent rows of the output array are `target`. -/
theorem final (c : Dev nD) (i : S4352x8192.Idx) (hi : (i 0 : ℕ) < 4096) : (dats m 0 c).arrAt 5 (cfgs 0).N i = target m c i := by
  refine ((dats m 0 c).arrAt_apply_of_coversWhere 5 (target m c) (P := fun i : S4352x8192.Idx => (i 0 : ℕ) < 4096) (fun β => β 0 < 2) (by decide +kernel) (fun t _ y => ?_)
    (fun j => by blk_simp [Pipeline.Window.cell_apply]; omega) i).trans (if_pos hi)
  blk_simp
  rw [after0_5]
  have ht := (idx t).1
  have y0 : (y 0 : ℕ) < 2048 := ((cfg0.win 5).xinj (cfg0.grid.coords t) y 0).isLt
  have y1 : (y 1 : ℕ) < 128 := ((cfg0.win 5).xinj (cfg0.grid.coords t) y 1).isLt
  have e1 : (cfg0.win 5).xinj (cfg0.grid.coords t) y = (ix2 ⟨(y 0 : ℕ), y0⟩ ⟨(y 1 : ℕ), y1⟩ : S2048x128.Idx) := by
    blk_ext
  have e2 : ((cfg0.win 5).blk t).view.emb y
      = (ix2 ⟨t.val % 2 * 2048 + (y 0 : ℕ), by omega⟩ ⟨t.val / 2 * 128 + (y 1 : ℕ), by omega⟩ : S4352x8192.Idx) := by
    blk_ext [idx t]
  rw [e1]
  refine (point m c t _ _).trans (Eq.trans ?_ (congrArg (target m c) e2).symm)
  rw [target_at]
  refine rowAt_same m c ?_ rfl ?_ ?_
  · show t.val / 16 = (t.val / 2 * 128 + (y 1 : ℕ)) / 1024
    omega
  · show t.val / 2 % 8 = (t.val / 2 * 128 + (y 1 : ℕ)) / 128 % 8
    omega
  · show (y 1 : ℕ) = (t.val / 2 * 128 + (y 1 : ℕ)) % 128
    omega

end Cert.KernelIdeal.Value

end
-- ==== Proof.AttnEq.lean ====
/- On real numbers the kernel's attention and the textbook's are equal: a softmax does not see a shift of its scores, and two to
   the power of a score over the logarithm of two is the exponential of the score. -/
module

public import proofs.«01_k».proof.Proof.AttnRow

@[expose] public section

set_option maxRecDepth 16384

noncomputable section

namespace Cert.AttnRow

open Idealize.ShloMosaic

/-- A sum of real numbers, as an extended real. -/
theorem coe_sum {n : ℕ} (f : Fin n → ℝ) : (∑ x, ((f x : ℝ) : EReal)) = ((∑ x, f x : ℝ) : EReal) := by
  induction n with
  | zero => simp
  | succ n ih => rw [Fin.sum_univ_succ, Fin.sum_univ_succ, ih, EReal.coe_add]

/-- The literal that every greatest starts from. -/
theorem bot_eq : Ideal.ofBits .f32 0xFF800000#32 = ⊥ := by simp [Ideal.ofBits, Ideal.ieee]

/-- The greatest of real numbers, folded from the least extended real, is a real number. -/
theorem fold_real {α : Type} (f : α → ℝ) (t : Finset α) (ht : t.Nonempty) :
    ∃ μ : ℝ, Finset.fold max (Ideal.ofBits .f32 0xFF800000#32) (fun x => ((f x : ℝ) : EReal)) t = ((μ : ℝ) : EReal) := by
  rw [bot_eq]
  induction ht using Finset.Nonempty.cons_induction with
  | singleton a => exact ⟨f a, by simp⟩
  | cons a t ha ht ih =>
    obtain ⟨μ, h⟩ := ih
    exact ⟨max (f a) μ, by rw [Finset.fold_cons, h]; exact (EReal.coe_strictMono.monotone.map_max).symm⟩

/-- The literal eighth. -/
theorem eighth_eq : Ideal.ofBits .f32 0x3E000000#32 = ((1 / 8 : ℝ) : EReal) := by
  simp [Ideal.ofBits, Ideal.ieee]
  rw [← EReal.coe_mul]
  norm_num

/-- The literal two. -/
theorem two_eq : Ideal.ofBits .f32 0x40000000#32 = ((2 : ℝ) : EReal) := by
  simp [Ideal.ofBits, Ideal.ieee]
  rw [← EReal.coe_mul]
  norm_num

/-- The queries' scale, a real number. -/
theorem scale_eq : scale = ((1 / 8 * (1 / Real.log 2) : ℝ) : EReal) := by
  have hl : Real.log 2 ≠ 0 := (Real.log_pos (by norm_num)).ne'
  rw [scale, eighth_eq, two_eq, Ideal.log_coe, if_neg (by norm_num), Ideal.div_coe hl, ← EReal.coe_mul]

/-- The mixing factor of real numbers is a real number. -/
theorem lam_real (lp : Fin 4 → Fin 64 → ℝ) : ∃ l : ℝ, lam (fun a b => ((lp a b : ℝ) : EReal)) = ((l : ℝ) : EReal) := by
  have hc : ∃ c : ℝ, Ideal.ofBits .f32 0x3EB60549#32 = ((c : ℝ) : EReal) := by
    refine ⟨11928905 / 2 ^ 25, ?_⟩
    simp [Ideal.ofBits, Ideal.ieee]
    rw [← EReal.coe_mul]
    norm_num
  obtain ⟨c, hc⟩ := hc
  refine ⟨Real.exp (∑ x, lp 0 x * lp 1 x) - Real.exp (∑ x, lp 2 x * lp 3 x) + c, ?_⟩
  simp only [lam, hc, ← EReal.coe_mul, coe_sum, Ideal.exp_coe, ← EReal.coe_sub, ← EReal.coe_add]

/-- A score of the kernel: the product over eight logarithms of two. -/
theorem score_real (k q : Fin 64 → ℝ) :
    score (fun x => ((k x : ℝ) : EReal)) (fun x => ((q x : ℝ) : EReal) * scale)
      = (((∑ x, q x * k x) * (1 / 8 * (1 / Real.log 2)) : ℝ) : EReal) := by
  simp only [score, scale_eq, ← EReal.coe_mul, coe_sum]
  rw [Finset.sum_mul]
  exact congrArg _ (Finset.sum_congr rfl fun x _ => by ring)

/-- A score of the textbook: the product over eight. -/
theorem score_ref (k q : Fin 64 → ℝ) :
    (∑ x, ((q x : ℝ) : EReal) * ((k x : ℝ) : EReal)) * Ideal.ofBits .f32 0x3E000000#32
      = (((∑ x, q x * k x) * (1 / 8) : ℝ) : EReal) := by
  simp only [eighth_eq, ← EReal.coe_mul, coe_sum]

/-- A probability of the textbook. -/
theorem prob_real (r : Fin 4352 → ℝ) (ν : ℝ) (a : Fin 4352) :
    Ideal.div (Ideal.exp (((r a * (1 / 8) : ℝ) : EReal) - ((ν : ℝ) : EReal))) (∑ x, Ideal.exp (((r x * (1 / 8) : ℝ) : EReal) - ((ν : ℝ) : EReal)))
      = ((Real.exp (r a * (1 / 8) - ν) * (1 / ∑ x, Real.exp (r x * (1 / 8) - ν)) : ℝ) : EReal) := by
  have hpos : (∑ x, Real.exp (r x * (1 / 8) - ν)) ≠ 0 := (Finset.sum_pos (fun x _ => Real.exp_pos _) ⟨a, Finset.mem_univ a⟩).ne'
  simp only [← EReal.coe_sub, Ideal.exp_coe, coe_sum]
  rw [Ideal.div_coe hpos, ← EReal.coe_mul]

/-- One component's attention in the kernel is the textbook's, whatever either subtracts from its scores. -/
theorem head_real (V r : Fin 4352 → ℝ) (ν : ℝ) :
    head (fun a => ((V a : ℝ) : EReal)) (fun a => ((r a * (1 / 8 * (1 / Real.log 2)) : ℝ) : EReal))
      = ((∑ a, V a * (Real.exp (r a * (1 / 8) - ν) * (1 / ∑ x, Real.exp (r x * (1 / 8) - ν))) : ℝ) : EReal) := by
  obtain ⟨μ, hμ⟩ := fold_real (fun a => r a * (1 / 8 * (1 / Real.log 2))) Finset.univ ⟨(0 : Fin 4352), Finset.mem_univ _⟩
  have hl : Real.log 2 ≠ 0 := (Real.log_pos (by norm_num)).ne'
  have hw : ∀ a, weight (fun a => ((r a * (1 / 8 * (1 / Real.log 2)) : ℝ) : EReal)) a
      = ((Real.exp (ν - μ * Real.log 2) * Real.exp (r a * (1 / 8) - ν) : ℝ) : EReal) := by
    intro a
    rw [weight, top, hμ, ← EReal.coe_sub, Ideal.exp2_coe, ← Real.exp_add]
    refine congrArg _ ((Real.rpow_def_of_pos (by norm_num) _).trans (congrArg _ ?_))
    field_simp
    ring
  have hpos : (∑ x, Real.exp (ν - μ * Real.log 2) * Real.exp (r x * (1 / 8) - ν)) ≠ 0 :=
    (Finset.sum_pos (fun x _ => mul_pos (Real.exp_pos _) (Real.exp_pos _)) ⟨(0 : Fin 4352), Finset.mem_univ _⟩).ne'
  have hC : Real.exp (ν - μ * Real.log 2) ≠ 0 := (Real.exp_pos _).ne'
  simp only [head, hw, ← EReal.coe_mul, coe_sum]
  rw [Ideal.div_coe hpos, ← EReal.coe_one, ← EReal.coe_mul, ← EReal.coe_mul]
  rw [EReal.coe_eq_coe_iff, ← Finset.mul_sum, one_mul, Finset.sum_mul]
  refine Finset.sum_congr rfl fun a _ => ?_
  field_simp

/-- A channel before its norm: the kernel's difference of two attentions is the textbook's attention by the difference of the
    probabilities. -/
theorem channel_eq (lp : Fin 4 → Fin 64 → ℝ) (V : Fin 4352 → ℝ) (k0 k1 : Fin 4352 → Fin 64 → ℝ) (q0 q1 : Fin 64 → ℝ) (ν0 ν1 : ℝ) :
    head (fun a => ((V a : ℝ) : EReal)) (fun a => score (fun x => ((k0 a x : ℝ) : EReal)) (fun x => ((q0 x : ℝ) : EReal) * scale))
        - lam (fun a b => ((lp a b : ℝ) : EReal))
          * head (fun a => ((V a : ℝ) : EReal)) (fun a => score (fun x => ((k1 a x : ℝ) : EReal)) (fun x => ((q1 x : ℝ) : EReal) * scale))
      = ∑ a, ((V a : ℝ) : EReal)
          * (Ideal.div (Ideal.exp ((((∑ x, q0 x * k0 a x) * (1 / 8) : ℝ) : EReal) - ((ν0 : ℝ) : EReal)))
                (∑ a, Ideal.exp ((((∑ x, q0 x * k0 a x) * (1 / 8) : ℝ) : EReal) - ((ν0 : ℝ) : EReal)))
              - lam (fun a b => ((lp a b : ℝ) : EReal))
                * Ideal.div (Ideal.exp ((((∑ x, q1 x * k1 a x) * (1 / 8) : ℝ) : EReal) - ((ν1 : ℝ) : EReal)))
                    (∑ a, Ideal.exp ((((∑ x, q1 x * k1 a x) * (1 / 8) : ℝ) : EReal) - ((ν1 : ℝ) : EReal)))) := by
  obtain ⟨l, hl⟩ := lam_real lp
  simp only [score_real]
  rw [head_real V (fun a => ∑ x, q0 x * k0 a x) ν0, head_real V (fun a => ∑ x, q1 x * k1 a x) ν1, hl]
  simp only [prob_real (fun a => ∑ x, q0 x * k0 a x) ν0, prob_real (fun a => ∑ x, q1 x * k1 a x) ν1]
  simp only [← EReal.coe_mul, ← EReal.coe_sub, coe_sum]
  refine (EReal.coe_eq_coe_iff).mpr ?_
  rw [Finset.mul_sum, ← Finset.sum_sub_distrib]
  exact Finset.sum_congr rfl fun a _ => by ring

end Cert.AttnRow

end
-- ==== Proof.AttnRef.lean ====
/- What the reference computes at one entry. -/
module

public import proofs.«01_k».proof.Proof.Gen.ReferenceIdeal.Run
public import Idealize.ShloMosaic.Lib.Pipeline.ValueKit
public import proofs.«01_k».proof.Proof.AttnEq

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The scores of the latent queries against every key, by batch element, head and component. -/
def scores (q : FVec Ideal S8x4352x8x2x64 .f32) (k : FVec Ideal S8x4352x8x2x64 .f32) : FVec Ideal S8x8x2x4096x4352 .f32 :=
  mulf (Host.dotGeneral dot_S8x4096x8x2x64_S8x4352x8x2x64_S8x8x2x4096x4352_4_4_1_1_023_023 none (extractStridedSlice S8x4096x8x2x64 ![0, 0, 0, 0, 0] q slices_S8x4352x8x2x64_S8x4096x8x2x64_0_0_0_0_0) k) (broadcastInDim S8x8x2x4096x4352 ![] bcast_S_S8x8x2x4096x4352 (constant S_ .f32 0x3E000000#32))

/-- Each query's greatest score, folded from the least number. -/
def folded (s : FVec Ideal S8x8x2x4096x4352 .f32) : FVec Ideal S8x8x2x4096 .f32 :=
  Host.reduce FloatOps.maximumf s (constant S_ .f32 0xFF800000#32) reducesTo_S8x8x2x4096x4352_S8x8x2x4096_d4 h_S_

/-- Each query's greatest score. -/
def greatest (s : FVec Ideal S8x8x2x4096x4352 .f32) : FVec Ideal S8x8x2x4096 .f32 :=
  maximumf (broadcastInDim S8x8x2x4096 ![] bcast_S_S8x8x2x4096 (constant S_ .f32 0xFF800000#32)) (folded s)

/-- The exponentials of the scores less each query's greatest. -/
def expo (s : FVec Ideal S8x8x2x4096x4352 .f32) : FVec Ideal S8x8x2x4096x4352 .f32 :=
  Host.exp (subf s (broadcastInDim S8x8x2x4096x4352 ![0, 1, 2, 3, 4] bcast_S8x8x2x4096x1_S8x8x2x4096x4352_0_1_2_3_4 (broadcastInDim S8x8x2x4096x1 ![0, 1, 2, 3] bcast_S8x8x2x4096_S8x8x2x4096x1_0_1_2_3 (greatest s))))

/-- The exponentials over their sums. -/
def probs (e : FVec Ideal S8x8x2x4096x4352 .f32) : FVec Ideal S8x8x2x4096x4352 .f32 :=
  Host.divf e (broadcastInDim S8x8x2x4096x4352 ![0, 1, 2, 3, 4] bcast_S8x8x2x4096x1_S8x8x2x4096x4352_0_1_2_3_4 (broadcastInDim S8x8x2x4096x1 ![0, 1, 2, 3] bcast_S8x8x2x4096_S8x8x2x4096x1_0_1_2_3 (Host.reduceAdd e (constant S_ .f32 0x00000000#32) reducesTo_S8x8x2x4096x4352_S8x8x2x4096_d4 h_S_)))

/-- The mixing factor of the two components. -/
def mix (lp : FVec Ideal S4x64 .f32) : FVec Ideal S_ .f32 :=
  addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_)) (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_))) (constant S_ .f32 0x3EB60549#32)

/-- The first component's probabilities less the mixing factor times the second's. -/
def both (p : FVec Ideal S8x8x2x4096x4352 .f32) (lp : FVec Ideal S4x64 .f32) : FVec Ideal S8x8x4096x4352 .f32 :=
  subf (shapeCast _ (extractStridedSlice S8x8x1x4096x4352 ![0, 0, 0, 0, 0] p slices_S8x8x2x4096x4352_S8x8x1x4096x4352_0_0_0_0_0) shapeCasts_S8x8x1x4096x4352_S8x8x4096x4352) (mulf (broadcastInDim S8x8x4096x4352 ![] bcast_S_S8x8x4096x4352 (mix lp)) (shapeCast _ (extractStridedSlice S8x8x1x4096x4352 ![0, 0, 1, 0, 0] p slices_S8x8x2x4096x4352_S8x8x1x4096x4352_0_0_1_0_0) shapeCasts_S8x8x1x4096x4352_S8x8x4096x4352))

/-- The values' sums under these weights. -/
def attended (v : FVec Ideal S8x4352x8x128 .f32) (w : FVec Ideal S8x8x4096x4352 .f32) : FVec Ideal S8x4096x8x128 .f32 :=
  transpose S8x4096x8x128 [0, 3, 1, 2] (Host.dotGeneral dot_S8x4352x8x128_S8x8x4096x4352_S8x8x128x4096_1_3_3_2_02_01 none v w) transposes_S8x8x128x4096_S8x4096x8x128_0_3_1_2

/-- The head norm, its gain and factor. -/
def normed (o : FVec Ideal S8x4096x8x128 .f32) (g : FVec Ideal S128 .f32) : FVec Ideal S8x4096x8x128 .f32 :=
  mulf (mulf (mulf o (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 g))) (broadcastInDim S8x4096x8x128 ![] bcast_S_S8x4096x8x128 (constant S_ .f32 0x3F24FD5C#32))

/-- The result's layout: a row per time, zeros in the context's rows. -/
def laid (n : FVec Ideal S8x4096x8x128 .f32) : FVec Ideal S4352x8192 .bf16 :=
  truncf .bf16 (concatenate S4352x8192 0 [⟨S4096x8192, (shapeCast _ (transpose S4096x8x1024 [1, 0, 2] (shapeCast _ n shapeCasts_S8x4096x8x128_S8x4096x1024) transposes_S8x4096x1024_S4096x8x1024_1_0_2) shapeCasts_S4096x8x1024_S4096x8192)⟩, ⟨S256x8192, (broadcastInDim S256x8192 ![] bcast_S_S256x8192 (constant S_ .f32 0x00000000#32))⟩] concatenates_S4096x8192_S256x8192_S4352x8192_d0) bitsLt_bf16_f32

/-- The reference's result from these parts. -/
theorem res_eq (m : (ℓ : Loc nD τ sig) → Buf (Elt Ideal) ℓ) (c : Dev nD) :
    res_out0 m c = laid (normed (attended (m ((c.tc : Thread nD τ).loc main_arg2)) (both (probs (expo (scores (m ((c.tc : Thread nD τ).loc main_arg0))
      (m ((c.tc : Thread nD τ).loc main_arg1))))) (m ((c.tc : Thread nD τ).loc main_arg3)))) (m ((c.tc : Thread nD τ).loc main_arg4))) := rfl

/-- A score: the product of the query and the key, times an eighth. -/
theorem scores_at (q k : FVec Ideal S8x4352x8x2x64 .f32) (b h : Fin 8) (e : Fin 2) (i : Fin 4096) (a : Fin 4352) :
    scores q k (ix5 b h e i a)
      = ((∑ x, (q (ix5 b ⟨(i : ℕ), by omega⟩ h e x) * k (ix5 b a h e x) : EReal)) * Ideal.ofBits .f32 0x3E000000#32 : EReal) := by
  pointwise [scores]

/-- An exponential. -/
theorem expo_at (s : FVec Ideal S8x8x2x4096x4352 .f32) (b h : Fin 8) (e : Fin 2) (i : Fin 4096) (a : Fin 4352) :
    expo s (ix5 b h e i a) = Ideal.exp (s (ix5 b h e i a) - greatest s (ix4 b h e i)) := by
  pointwise [expo]

/-- A probability. -/
theorem probs_at (s : FVec Ideal S8x8x2x4096x4352 .f32) (b h : Fin 8) (e : Fin 2) (i : Fin 4096) (a : Fin 4352) :
    probs s (ix5 b h e i a) = Ideal.div (s (ix5 b h e i a)) (∑ x, s (ix5 b h e i x) : EReal) := by
  pointwise [probs]

/-- The mixing factor. -/
theorem mix_at (lp : FVec Ideal S4x64 .f32) : mix lp ix0 = AttnRow.lam fun a b => lp (ix2 a b) := by
  pointwise [mix, AttnRow.lam]

/-- A key's weight. -/
theorem both_at (p : FVec Ideal S8x8x2x4096x4352 .f32) (lp : FVec Ideal S4x64 .f32) (b h : Fin 8) (i : Fin 4096) (a : Fin 4352) :
    both p lp (ix4 b h i a) = (p (ix5 b h 0 i a) - mix lp ix0 * p (ix5 b h 1 i a) : EReal) := by
  pointwise [both]

/-- A channel of the attention, before its norm. -/
theorem attended_at (v : FVec Ideal S8x4352x8x128 .f32) (w : FVec Ideal S8x8x4096x4352 .f32) (b h : Fin 8) (i : Fin 4096) (d : Fin 128) :
    attended v w (ix4 b i h d) = ∑ x, (v (ix4 b x h d) * w (ix4 b h i x) : EReal) := by
  pointwise [attended]

/-- A channel after the norm. -/
theorem normed_at (o : FVec Ideal S8x4096x8x128 .f32) (g : FVec Ideal S128 .f32) (b h : Fin 8) (i : Fin 4096) (d : Fin 128) :
    normed o g (ix4 b i h d) = AttnRow.fin (fun x => o (ix4 b i h x)) (fun x => g (ix1 x)) d := by
  pointwise [normed, AttnRow.fin]

/-- An entry of a latent row of the result. -/
theorem laid_at (n : FVec Ideal S8x4096x8x128 .f32) (i : Fin 4352) (hi : (i : ℕ) < 4096) (y : Fin 8192) :
    laid n (ix2 i y) = n (ix4 ⟨(y : ℕ) / 1024, by omega⟩ ⟨(i : ℕ), hi⟩ ⟨(y : ℕ) / 128 % 8, by omega⟩ ⟨(y : ℕ) % 128, by omega⟩) := by
  pointwise [laid]
  refine (dif_pos hi).trans (congrArg n ?_)
  exact congrArg₂ (fun a b => ix4 _ _ a b) (Fin.ext (by dsimp only; omega)) (Fin.ext (by dsimp only; omega))

/-- A fold of maxima over real scores is a real number. -/
theorem folded_at (s : FVec Ideal S8x8x2x4096x4352 .f32) (r : S8x8x2x4096x4352.Idx → ℝ) (hs : ∀ y, s y = ((r y : ℝ) : EReal))
    (j : S8x8x2x4096.Idx) : ∃ μ : ℝ, folded s j = ((μ : ℝ) : EReal) := by
  have hred : S8x8x2x4096x4352.Reduces [4] S8x8x2x4096 := by decide
  unfold folded
  rw [Host.reduce_eq_fold_single FloatOps.maximumf s _ _ hred _ j, funext hs]
  exact AttnRow.fold_real (fun x => r (hred.lift j x)) Finset.univ ⟨⟨0, by decide⟩, Finset.mem_univ _⟩

/-- The greater of the least number and another is the other. -/
theorem max_at (f : FVec Ideal S8x8x2x4096 .f32) (j : S8x8x2x4096.Idx) :
    maximumf (broadcastInDim S8x8x2x4096 ![] bcast_S_S8x8x2x4096 (constant S_ .f32 0xFF800000#32)) f j = f j := by
  pointwise
  rw [AttnRow.bot_eq]
  exact max_eq_right bot_le

/-- The greatest of a query's scores is a real number if the scores are. -/
theorem greatest_at (s : FVec Ideal S8x8x2x4096x4352 .f32) (r : S8x8x2x4096x4352.Idx → ℝ) (hs : ∀ y, s y = ((r y : ℝ) : EReal))
    (j : S8x8x2x4096.Idx) : ∃ μ : ℝ, greatest s j = ((μ : ℝ) : EReal) := by
  obtain ⟨μ, h⟩ := folded_at s r hs j
  exact ⟨μ, (max_at (folded s) j).trans h⟩

end Cert.ReferenceIdeal.Value

end
-- ==== Proof.AttnClaims.lean ====
/- The attention call's value claim: on the latent rows the kernel's result and the reference's are equal where the queries, keys,
   values and the parameters of the mixing factor are real numbers. -/
module

public import proofs.«01_k».proof.Proof.AttnFrames
public import proofs.«01_k».proof.Proof.AttnTarget
public import proofs.«01_k».proof.Proof.AttnRef
public import proofs.«01_k».proof.Proof.Gen.Pre_finite
public import proofs.«01_k».proof.Proof.Gen.On_latent_rows

@[expose] public section

set_option maxRecDepth 16384

noncomputable section

namespace Cert.Proof.Attn

open Idealize.ShloMosaic Idealize.ShloMosaic.TcCoe Idealize.SL.Sem
open Cert.ReferenceIdeal (S8x4352x8x2x64 S8x4352x8x128 S4x64 S128 S4352x8192)
open Cert.KernelIdeal.Value (rowOf)

/-- A number whose absolute value is below the greatest extended real is a real number. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  refine (EReal.coe_toReal ?_ ?_).symm
  · rintro rfl
    simp at hlt
  · rintro rfl
    simp at hlt

/-- What the precondition says: every entry of the first four arguments is a real number. -/
theorem real_of_pre {q k : FVec Ideal S8x4352x8x2x64 .f32} {v : FVec Ideal S8x4352x8x128 .f32} {lp : FVec Ideal S4x64 .f32} {g : FVec Ideal S128 .f32}
    (h : (Cert.Pre_finite.fn (F := Ideal) q k v lp g).1 = (fun _ => 1#1) ∧ (Cert.Pre_finite.fn (F := Ideal) q k v lp g).2.1 = (fun _ => 1#1)
      ∧ (Cert.Pre_finite.fn (F := Ideal) q k v lp g).2.2.1 = (fun _ => 1#1) ∧ (Cert.Pre_finite.fn (F := Ideal) q k v lp g).2.2.2 = (fun _ => 1#1)) :
    (∀ y, q y = ((q y : EReal).toReal : EReal)) ∧ (∀ y, k y = ((k y : EReal).toReal : EReal)) ∧ (∀ y, v y = ((v y : EReal).toReal : EReal))
      ∧ (∀ y, lp y = ((lp y : EReal).toReal : EReal)) :=
  ⟨fun y => real_of_lt _ (congrFun h.1 y), fun y => real_of_lt _ (congrFun h.2.1 y), fun y => real_of_lt _ (congrFun h.2.2.1 y),
    fun y => real_of_lt _ (congrFun h.2.2.2 y)⟩

/-- What the mask says: the row is a latent's. -/
theorem latent_of_on {q k : FVec Ideal S8x4352x8x2x64 .f32} {v : FVec Ideal S8x4352x8x128 .f32} {lp : FVec Ideal S4x64 .f32} {g : FVec Ideal S128 .f32}
    (i : S4352x8192.Idx) (h : Cert.On_latent_rows.fn (F := Ideal) q k v lp g i = 1#1) : (i 0 : ℕ) < 4096 := by
  have hi : (i 0 : ℕ) < 4352 := (i 0).isLt
  have h' : IntOp.cmpi CmpIPredicate.slt (BitVec.ofNat 32 (i 0 : ℕ)) 4096#32 = 1#1 := h
  have hlt := IntOp.cmpi_slt.mp h'
  have e : (BitVec.ofNat 32 (i 0 : ℕ)).toInt = ((i 0 : ℕ) : ℤ) := by
    rw [BitVec.toInt_ofNat']
    exact Int.bmod_eq_of_le (by omega) (by omega)
  have e' : (4096#32).toInt = 4096 := by decide
  omega

/-- The reference at a latent row is the kernel's attention there, for real queries, keys, values and mixing parameters. -/
theorem ref_at (q k : FVec Ideal S8x4352x8x2x64 .f32) (v : FVec Ideal S8x4352x8x128 .f32) (lp : FVec Ideal S4x64 .f32) (g : FVec Ideal S128 .f32)
    (q' k' : S8x4352x8x2x64.Idx → ℝ) (v' : S8x4352x8x128.Idx → ℝ) (lp' : S4x64.Idx → ℝ) (hq : ∀ y, q y = ((q' y : ℝ) : EReal))
    (hk : ∀ y, k y = ((k' y : ℝ) : EReal)) (hv : ∀ y, v y = ((v' y : ℝ) : EReal)) (hlp : ∀ y, lp y = ((lp' y : ℝ) : EReal))
    (i : Fin 4352) (hi : (i : ℕ) < 4096) (y : Fin 8192) :
    Cert.ReferenceIdeal.Value.laid (Cert.ReferenceIdeal.Value.normed (Cert.ReferenceIdeal.Value.attended v (Cert.ReferenceIdeal.Value.both
        (Cert.ReferenceIdeal.Value.probs (Cert.ReferenceIdeal.Value.expo (Cert.ReferenceIdeal.Value.scores q k))) lp)) g) (ix2 i y)
      = rowOf q k v lp g ⟨(y : ℕ) / 1024, by omega⟩ i ⟨(y : ℕ) / 128 % 8, by omega⟩ ⟨(y : ℕ) % 128, by omega⟩ := by
  have hs : ∀ b h e i a, Cert.ReferenceIdeal.Value.scores q k (ix5 b h e i a)
      = (((∑ x, q' (ix5 b ⟨(i : ℕ), by omega⟩ h e x) * k' (ix5 b a h e x)) * (1 / 8) : ℝ) : EReal) := by
    intro b h e i a
    rw [Cert.ReferenceIdeal.Value.scores_at]
    simp only [hq, hk]
    exact AttnRow.score_ref _ _
  have hg : ∀ j, ∃ μ : ℝ, Cert.ReferenceIdeal.Value.greatest (Cert.ReferenceIdeal.Value.scores q k) j = ((μ : ℝ) : EReal) :=
    Cert.ReferenceIdeal.Value.greatest_at _ (fun z => (∑ x, q' (ix5 (z 0) ⟨(z 3 : ℕ), by have h : (z 3 : ℕ) < 4096 := (z 3).isLt; omega⟩ (z 1) (z 2) x)
      * k' (ix5 (z 0) (z 4) (z 1) (z 2) x)) * (1 / 8)) fun z => (congrArg _ (eq_ix5 z)).trans (hs _ _ _ _ _)
  rw [Cert.ReferenceIdeal.Value.laid_at _ i hi, Cert.ReferenceIdeal.Value.normed_at]
  unfold rowOf AttnRow.row
  refine congrArg (fun o => AttnRow.fin o _ _) (funext fun d => ?_)
  rw [Cert.ReferenceIdeal.Value.attended_at]
  obtain ⟨ν0, h0⟩ := hg (ix4 ⟨(y : ℕ) / 1024, by omega⟩ ⟨(y : ℕ) / 128 % 8, by omega⟩ 0 ⟨(i : ℕ), hi⟩)
  obtain ⟨ν1, h1⟩ := hg (ix4 ⟨(y : ℕ) / 1024, by omega⟩ ⟨(y : ℕ) / 128 % 8, by omega⟩ 1 ⟨(i : ℕ), hi⟩)
  simp only [Cert.ReferenceIdeal.Value.both_at, Cert.ReferenceIdeal.Value.probs_at, Cert.ReferenceIdeal.Value.expo_at,
    Cert.ReferenceIdeal.Value.mix_at, h0, h1, hs, hq, hk, hv, hlp]
  exact (AttnRow.channel_eq (fun a b => lp' (ix2 a b)) _ _ _ _ _ ν0 ν1).symm

/-- On the latent rows both programs end with the same result: at every entry the attention of the arguments. -/
theorem algebraic : Cert.algebraic_KernelIdeal_ReferenceIdeal_on_latent_rows_pre_finite := by
  intro m g m' g' hpre hagree
  refine ⟨fun c => Cert.KernelIdeal.Value.target m c,
    (θ_run Cert.KernelIdeal.defs _ _).mono (fun _ h c => ⟨fun i hi => (congrFun (h c).1 i).trans (Cert.KernelIdeal.Value.final m c i (latent_of_on i hi)), (h c).2⟩)
      (Cert.KernelIdeal.Value.run_blocks (F := Ideal) m g), ?_⟩
  refine (θ_run Cert.ReferenceIdeal.defs _ _).mono (fun _ h c => ⟨fun i hi => (congrFun (h c).1 i).trans ?_, (h c).2⟩)
    (Cert.ReferenceIdeal.Value.run (F := Ideal) m' g')
  obtain ⟨a0, a1, a2, a3, a4⟩ := hagree c
  obtain ⟨hq, hk, hv, hlp⟩ := real_of_pre (hpre c)
  refine (congrFun (Cert.ReferenceIdeal.Value.res_eq m' c) i).trans ?_
  rw [a0, a1, a2, a3, a4]
  refine (congrArg _ (eq_ix2 i)).trans ?_
  exact ref_at _ _ _ _ _ _ _ _ _ hq hk hv hlp (i 0) (latent_of_on i hi) (i 1)

end Cert.Proof.Attn

end
-- ==== Proof.MlpRow.lean ====
/- What the last call computes for one row (one batch element at one time), in plain sums and products of extended
   reals: the gated mixer output, the gated residual, the modulated norm, the squared-relu network and its residual. -/
module

public import Idealize.ShloMosaic.Lib.Pointwise

@[expose] public section

set_option maxRecDepth 16384

noncomputable section

namespace Cert.MlpRow

open Idealize.ShloMosaic

/-- The mixer's output through the gated linear unit: the first half of the product times the logistic of the
    second half. -/
def glu (z : Fin 1024 → EReal) (wg : Fin 1024 → Fin 2048 → EReal) (d : Fin 1024) : EReal :=
  (∑ k, z k * wg k ⟨(d : ℕ), by omega⟩) * Ideal.logistic (∑ k, z k * wg k ⟨1024 + (d : ℕ), by omega⟩)

/-- A row plus an update, the update multiplied by its gate. -/
def gated (x u gate : Fin 1024 → EReal) (d : Fin 1024) : EReal := x d + u d * gate d

/-- The row over its root mean square, times the norm's weight, times one plus the scale, plus the shift. -/
def modnorm (x g shift scale : Fin 1024 → EReal) (d : Fin 1024) : EReal :=
  x d * Ideal.rsqrt (Ideal.div (∑ k, x k * x k) (Ideal.ofBits .f32 0x44800000#32) + Ideal.ofBits .f32 0x358637BD#32)
    * g d * (1 + scale d) + shift d

/-- One hidden unit's contribution to channel `d`: the square of the positive part of its input times its output
    weight. -/
def unitTerm (h : Fin 1024 → EReal) (w1 : Fin 1024 → Fin 4096 → EReal) (w2 : Fin 4096 → Fin 1024 → EReal) (d : Fin 1024)
    (f : Fin 4096) : EReal :=
  max (∑ k, h k * w1 k f) 0 * max (∑ k, h k * w1 k f) 0 * w2 f d

/-- The squared-relu network: the sum over the hidden units. -/
def mlp (h : Fin 1024 → EReal) (w1 : Fin 1024 → Fin 4096 → EReal) (w2 : Fin 4096 → Fin 1024 → EReal) (d : Fin 1024) :
    EReal := ∑ f, unitTerm h w1 w2 d f

/-- The row after the mixer's gated residual. -/
def mixed (x z : Fin 1024 → EReal) (wg : Fin 1024 → Fin 2048 → EReal) (mod : Fin 6144 → EReal) (d : Fin 1024) : EReal :=
  gated x (glu z wg) (fun k => mod ⟨2048 + (k : ℕ), by omega⟩) d

/-- The row the network reads: the modulated norm of `mixed`. -/
def normed (x z : Fin 1024 → EReal) (wg : Fin 1024 → Fin 2048 → EReal) (mod : Fin 6144 → EReal) (g : Fin 1024 → EReal)
    (d : Fin 1024) : EReal :=
  modnorm (mixed x z wg mod) g (fun k => mod ⟨3072 + (k : ℕ), by omega⟩) (fun k => mod ⟨4096 + (k : ℕ), by omega⟩) d

/-- The whole row's result. -/
def row (x z : Fin 1024 → EReal) (wg : Fin 1024 → Fin 2048 → EReal) (mod : Fin 6144 → EReal) (g : Fin 1024 → EReal)
    (w1 : Fin 1024 → Fin 4096 → EReal) (w2 : Fin 4096 → Fin 1024 → EReal) (d : Fin 1024) : EReal :=
  gated (mixed x z wg mod) (mlp (normed x z wg mod g) w1 w2) (fun k => mod ⟨5120 + (k : ℕ), by omega⟩) d

/-- The network's sum by four runs of 1024 hidden units. -/
theorem mlp_quarters (h : Fin 1024 → EReal) (w1 : Fin 1024 → Fin 4096 → EReal) (w2 : Fin 4096 → Fin 1024 → EReal)
    (d : Fin 1024) :
    mlp h w1 w2 d = ∑ k : Fin 1024, unitTerm h w1 w2 d ⟨(k : ℕ), by omega⟩
      + ∑ k : Fin 1024, unitTerm h w1 w2 d ⟨1024 + (k : ℕ), by omega⟩
      + ∑ k : Fin 1024, unitTerm h w1 w2 d ⟨2048 + (k : ℕ), by omega⟩
      + ∑ k : Fin 1024, unitTerm h w1 w2 d ⟨3072 + (k : ℕ), by omega⟩ := by
  unfold mlp
  rw [Fin.sum_univ_tiles 4 1024 rfl]
  simp only [Fin.sum_univ_four, Fin.val_zero, Fin.val_one, Fin.val_two, zero_mul, zero_add, one_mul]
  rfl

end Cert.MlpRow

end
-- ==== Proof.MlpKernel.lean ====
/- What the last call's body computes at one row of its block, named value by named value. -/
module

public import proofs.«01_k».proof.Proof.Gen.Kernel2Ideal.Skeleton
public import proofs.«01_k».proof.Proof.MlpRow

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.MlpRow

/-- The body's first sum is the mixer's gated residual. -/
theorem pay3_at (v0 : FVec Ideal S512x1024 .bf16) (v2 : FVec Ideal S1024x2048 .bf16) (v9 : FVec Ideal S512x1024 .f32)
    (v11 : FVec Ideal S1x8x1024 .f32) (r : Fin 512) (d : Fin 1024) :
    k0_pay3 (F := Ideal) v0 v2 v9 v11 (ix2 r d)
      = gated (fun k => v9 (ix2 r k)) (glu (fun k => v0 (ix2 r k)) fun a b => v2 (ix2 a b))
          (fun k => v11 (ix3 0 ⟨(r : ℕ) % 8, by omega⟩ k)) d := by
  pointwise [k0_pay3, gated, glu]

/-- The row handed to the network is the modulated norm. -/
theorem pay7_at (v0 : FVec Ideal S512x1024 .bf16) (v2 : FVec Ideal S1024x2048 .bf16) (v9 : FVec Ideal S512x1024 .f32)
    (v11 v21 v23 : FVec Ideal S1x8x1024 .f32) (v19 : FVec Ideal S1x1024 .f32) (r : Fin 512) (d : Fin 1024) :
    k0_pay7 (F := Ideal) (k0_pay4 v21) (k0_pay5 v23) (k0_pay6 v0 v2 v9 v11 v19) (ix2 r d)
      = modnorm (fun k => k0_pay3 (F := Ideal) v0 v2 v9 v11 (ix2 r k)) (fun k => v19 (ix2 0 k))
          (fun k => v21 (ix3 0 ⟨(r : ℕ) % 8, by omega⟩ k)) (fun k => v23 (ix3 0 ⟨(r : ℕ) % 8, by omega⟩ k)) d := by
  pointwise [k0_pay7, k0_pay6, k0_pay4, k0_pay5, modnorm]

/-- The body's last sum: the residual row plus the network's four runs of hidden units under the last gate. -/
theorem pay10_at (x1 : FVec Ideal S512x1024 .f32) (v22 v24 : FVec Ideal S8x1024 .f32) (v37 : FVec Ideal S64x8x1024 .f32)
    (h : Fin 1024 → EReal) (w1 : Fin 1024 → Fin 4096 → EReal) (w2 : Fin 4096 → Fin 1024 → EReal)
    (u0 u1 u2 u3 o0 o1 o2 o3 : FVec Ideal S1024x1024 .bf16) (v91 : FVec Ideal S1x8x1024 .f32) (r : Fin 512) (d : Fin 1024)
    (hh : ∀ k, k0_pay7 (F := Ideal) v22 v24 v37 (ix2 r k) = h k)
    (hu0 : ∀ a b : Fin 1024, u0 (ix2 a b) = w1 a ⟨(b : ℕ), by omega⟩)
    (hu1 : ∀ a b : Fin 1024, u1 (ix2 a b) = w1 a ⟨1024 + (b : ℕ), by omega⟩)
    (hu2 : ∀ a b : Fin 1024, u2 (ix2 a b) = w1 a ⟨2048 + (b : ℕ), by omega⟩)
    (hu3 : ∀ a b : Fin 1024, u3 (ix2 a b) = w1 a ⟨3072 + (b : ℕ), by omega⟩)
    (ho0 : ∀ a b : Fin 1024, o0 (ix2 a b) = w2 ⟨(a : ℕ), by omega⟩ b)
    (ho1 : ∀ a b : Fin 1024, o1 (ix2 a b) = w2 ⟨1024 + (a : ℕ), by omega⟩ b)
    (ho2 : ∀ a b : Fin 1024, o2 (ix2 a b) = w2 ⟨2048 + (a : ℕ), by omega⟩ b)
    (ho3 : ∀ a b : Fin 1024, o3 (ix2 a b) = w2 ⟨3072 + (a : ℕ), by omega⟩ b) :
    k0_pay10 (F := Ideal) x1 (k0_pay7 v22 v24 v37) (k0_pay8 v22 v24 v37 u0 o0 u1 o1) (k0_pay9 v22 v24 v37 u2) o2 u3 o3 v91
        (ix2 r d)
      = gated (fun k => x1 (ix2 r k)) (mlp h w1 w2) (fun k => v91 (ix3 0 ⟨(r : ℕ) % 8, by omega⟩ k)) d := by
  pointwise [k0_pay10, k0_pay8, k0_pay9, gated, mlp_quarters, unitTerm, hh, hu0, hu1, hu2, hu3, ho0, ho1, ho2, ho3]

end Cert.Kernel2Ideal.Value

end
-- ==== Proof.MlpValue.lean ====
module

public import proofs.«01_k».proof.Proof.Gen.Kernel2Ideal.Value
public import Idealize.ShloMosaic.Lib.Pipeline.ValueKit
public import proofs.«01_k».proof.Proof.MlpKernel

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.MlpRow

variable (m : (ℓ : Loc nD τ sig) → Buf (Elt Ideal) ℓ)

/-- A load of the box at offsets `off` of a block. -/
abbrev ld {S : Shape} {e : EltTy} (X : S.Idx → Elt Ideal e) (off size : Fin S.rank → ℕ) (h : ∀ a, off a + size a ≤ S.size a) :=
  View.ld (Val := Elt Ideal) (e' := e) X (Rect.unit (s := S) off size h)

/-- The body's result rows over the blocks it loads. -/
def rows (x : FVec Ideal S512x1024 .f32) (z : FVec Ideal S512x1024 .bf16) (mods : FVec Ideal S1x8x6144 .f32)
    (g : FVec Ideal S1x1024 .f32) (wg : FVec Ideal S1024x2048 .bf16) (w1 : FVec Ideal S1024x4096 .bf16)
    (w2 : FVec Ideal S4096x1024 .bf16) : FVec Ideal S512x1024 .f32 :=
  k0_pay10 (k0_pay3 z wg x (ld (S := S1x8x6144) (e := .f32) mods ![0, 0, 2048] ![1, 8, 1024] inb_S1x8x6144_S1x8x1024_0_0_2048))
    (k0_pay7
      (k0_pay4 (ld (S := S1x8x6144) (e := .f32) mods ![0, 0, 3072] ![1, 8, 1024] inb_S1x8x6144_S1x8x1024_0_0_3072))
      (k0_pay5 (ld (S := S1x8x6144) (e := .f32) mods ![0, 0, 4096] ![1, 8, 1024] inb_S1x8x6144_S1x8x1024_0_0_4096))
      (k0_pay6 z wg x (ld (S := S1x8x6144) (e := .f32) mods ![0, 0, 2048] ![1, 8, 1024] inb_S1x8x6144_S1x8x1024_0_0_2048) g))
    (k0_pay8
      (k0_pay4 (ld (S := S1x8x6144) (e := .f32) mods ![0, 0, 3072] ![1, 8, 1024] inb_S1x8x6144_S1x8x1024_0_0_3072))
      (k0_pay5 (ld (S := S1x8x6144) (e := .f32) mods ![0, 0, 4096] ![1, 8, 1024] inb_S1x8x6144_S1x8x1024_0_0_4096))
      (k0_pay6 z wg x (ld (S := S1x8x6144) (e := .f32) mods ![0, 0, 2048] ![1, 8, 1024] inb_S1x8x6144_S1x8x1024_0_0_2048) g)
      (ld (S := S1024x4096) (e := .bf16) w1 ![0, 0] ![1024, 1024] inb_S1024x4096_S1024x1024_0_0)
      (ld (S := S4096x1024) (e := .bf16) w2 ![0, 0] ![1024, 1024] inb_S4096x1024_S1024x1024_0_0)
      (ld (S := S1024x4096) (e := .bf16) w1 ![0, 1024] ![1024, 1024] inb_S1024x4096_S1024x1024_0_1024)
      (ld (S := S4096x1024) (e := .bf16) w2 ![1024, 0] ![1024, 1024] inb_S4096x1024_S1024x1024_1024_0))
    (k0_pay9
      (k0_pay4 (ld (S := S1x8x6144) (e := .f32) mods ![0, 0, 3072] ![1, 8, 1024] inb_S1x8x6144_S1x8x1024_0_0_3072))
      (k0_pay5 (ld (S := S1x8x6144) (e := .f32) mods ![0, 0, 4096] ![1, 8, 1024] inb_S1x8x6144_S1x8x1024_0_0_4096))
      (k0_pay6 z wg x (ld (S := S1x8x6144) (e := .f32) mods ![0, 0, 2048] ![1, 8, 1024] inb_S1x8x6144_S1x8x1024_0_0_2048) g)
      (ld (S := S1024x4096) (e := .bf16) w1 ![0, 2048] ![1024, 1024] inb_S1024x4096_S1024x1024_0_2048))
    (ld (S := S4096x1024) (e := .bf16) w2 ![2048, 0] ![1024, 1024] inb_S4096x1024_S1024x1024_2048_0)
    (ld (S := S1024x4096) (e := .bf16) w1 ![0, 3072] ![1024, 1024] inb_S1024x4096_S1024x1024_0_3072)
    (ld (S := S4096x1024) (e := .bf16) w2 ![3072, 0] ![1024, 1024] inb_S4096x1024_S1024x1024_3072_0)
    (ld (S := S1x8x6144) (e := .f32) mods ![0, 0, 5120] ![1, 8, 1024] inb_S1x8x6144_S1x8x1024_0_0_5120)

/-- The rows as the scratch holds them: by chunks of 128 channels. -/
def staged (O : FVec Ideal S512x1024 .f32) : FVec Ideal S8x512x128 .f32 :=
  fun y => O (ix2 (y 1) ⟨(y 0 : ℕ) * 128 + (y 2 : ℕ), by have h0 : (y 0 : ℕ) < 8 := (y 0).isLt; have h2 : (y 2 : ℕ) < 128 := (y 2).isLt; omega⟩)

/-- A load of the scratch reads its contents, whose equation is proved at the use. -/
theorem canon_staged (O : FVec Ideal S512x1024 .f32) (L : List (View.Piece (Elt Ideal) S8x512x128 .f32))
    (h : View.canon L = staged O) : View.canon L = staged O := h

/-- Entries at equal coordinates are equal. -/
theorem same (O : FVec Ideal S512x1024 .f32) {i i' : Fin 512} {j j' : Fin 1024} (hi : (i : ℕ) = i') (hj : (j : ℕ) = j') :
    O (ix2 i j) = O (ix2 i' j') := by
  rw [Fin.ext hi, Fin.ext hj]

/-- What point `t` writes: row `s` of batch element `b` of its block is row `8 s + b` of the body's result. -/
theorem point (c : Dev nD) (t : Fin cfg0.N) (y : S8x64x1024.Idx) :
    outsAt0 m c t y = rows (iblk m c 0 t) (iblk m c 1 t) (iblk m c 2 t) (iblk m c 3 t) (iblk m c 4 t) (iblk m c 5 t) (iblk m c 6 t)
      (ix2 ⟨(y 1 : ℕ) * 8 + (y 0 : ℕ), by
        have h0 : (y 0 : ℕ) < 8 := (y 0).isLt
        have h1 : (y 1 : ℕ) < 64 := (y 1).isLt
        omega⟩ (y 2)) := by
  unfold outsAt0
  frame_out
  simp only [View.readCov_eq_canon']
  rw [canon_staged (rows (iblk m c 0 t) (iblk m c 1 t) (iblk m c 2 t) (iblk m c 3 t) (iblk m c 4 t) (iblk m c 5 t) (iblk m c 6 t))]
  · generalize rows (iblk m c 0 t) (iblk m c 1 t) (iblk m c 2 t) (iblk m c 3 t) (iblk m c 4 t) (iblk m c 5 t) (iblk m c 6 t) = O
    canon_tiles x h
    all_goals pointwise [staged, k0_pay1, k0_pay2, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77,
        k0_pay78, k0_pay79, k0_pay80, k0_pay81, h0, h1, h2]
    all_goals exact same O (by dsimp only; omega) (by dsimp only; omega)
  · funext z
    canon_tiles x h
    all_goals pointwise [staged, k0_pay11, k0_pay12, k0_pay13, k0_pay14, k0_pay15, k0_pay16, k0_pay17, k0_pay18, k0_pay19, h0, h1, h2]
    all_goals unfold rows
    all_goals exact same _ h1.symm rfl

/-- The block of every window at point `t`. -/
theorem idx : ∀ t : Fin cfg0.N, t.val < 64 ∧ win0_0.index t = ![t.val, 0] ∧ win0_1.index t = ![t.val, 0] ∧ win0_2.index t = ![0, 0, 0]
    ∧ win0_3.index t = ![0, 0] ∧ win0_4.index t = ![0, 0] ∧ win0_5.index t = ![0, 0] ∧ win0_6.index t = ![0, 0]
    ∧ win0_7.index t = ![0, t.val, 0] :=
  (by decide +kernel : ∀ t : Fin grid0.N, _)

/-- A block's row is a time step of a batch element. -/
theorem x_at (c : Dev nD) (t : Fin cfg0.N) (r : Fin 512) (d : Fin 1024) :
    (show FVec Ideal S512x1024 .f32 from iblk m c 0 t) (ix2 r d)
      = m ((c : Thread nD τ).loc main_arg0) (ix3 ⟨(r : ℕ) % 8, by omega⟩ ⟨t.val * 64 + (r : ℕ) / 8, by have := (idx t).1; omega⟩ d) := by
  blk_simp [iblk, V, idx t]
  entry_read
  pointwise
  blk_ext [idx t]

theorem z_at (c : Dev nD) (t : Fin cfg0.N) (r : Fin 512) (d : Fin 1024) :
    (show FVec Ideal S512x1024 .bf16 from iblk m c 1 t) (ix2 r d)
      = m ((c : Thread nD τ).loc main_arg1) (ix3 ⟨(r : ℕ) % 8, by omega⟩ ⟨t.val * 64 + (r : ℕ) / 8, by have := (idx t).1; omega⟩ d) := by
  blk_simp [iblk, V, idx t]
  entry_read
  pointwise
  blk_ext [idx t]

theorem mods_at (c : Dev nD) (t : Fin cfg0.N) (r : Fin 8) (d : Fin 6144) :
    (show FVec Ideal S1x8x6144 .f32 from iblk m c 2 t) (ix3 0 r d) = m ((c : Thread nD τ).loc main_arg2) (ix2 r d) := by
  blk_simp [iblk, V, idx t]
  entry_read
  pointwise
  refine (dif_pos ?_).trans ?_
  · blk_simp [idx t]
    exact Nat.zero_lt_one
  · blk_ext [idx t]

theorem g_at (c : Dev nD) (t : Fin cfg0.N) (d : Fin 1024) :
    (show FVec Ideal S1x1024 .f32 from iblk m c 3 t) (ix2 0 d) = m ((c : Thread nD τ).loc main_arg4) (ix1 d) := by
  blk_simp [iblk, V, idx t]
  entry_read
  pointwise
  blk_ext [idx t]

theorem wg_at (c : Dev nD) (t : Fin cfg0.N) (a : Fin 1024) (b : Fin 2048) :
    (show FVec Ideal S1024x2048 .bf16 from iblk m c 4 t) (ix2 a b) = m ((c : Thread nD τ).loc main_arg5) (ix2 a b) := by
  blk_simp [iblk, V, idx t]
  entry_read
  pointwise
  blk_ext [idx t]

theorem w1_at (c : Dev nD) (t : Fin cfg0.N) (a : Fin 1024) (b : Fin 4096) :
    (show FVec Ideal S1024x4096 .bf16 from iblk m c 5 t) (ix2 a b) = m ((c : Thread nD τ).loc main_arg6) (ix2 a b) := by
  blk_simp [iblk, V, idx t]
  entry_read
  pointwise
  blk_ext [idx t]

theorem w2_at (c : Dev nD) (t : Fin cfg0.N) (a : Fin 4096) (b : Fin 1024) :
    (show FVec Ideal S4096x1024 .bf16 from iblk m c 6 t) (ix2 a b) = m ((c : Thread nD τ).loc main_arg7) (ix2 a b) := by
  blk_simp [iblk, V, idx t]
  entry_read
  pointwise
  blk_ext [idx t]

/-- A result row over the blocks is the plain row of the blocks' row. -/
theorem rows_at (x : FVec Ideal S512x1024 .f32) (z : FVec Ideal S512x1024 .bf16) (mods : FVec Ideal S1x8x6144 .f32)
    (g : FVec Ideal S1x1024 .f32) (wg : FVec Ideal S1024x2048 .bf16) (w1 : FVec Ideal S1024x4096 .bf16)
    (w2 : FVec Ideal S4096x1024 .bf16) (r : Fin 512) (d : Fin 1024) :
    rows x z mods g wg w1 w2 (ix2 r d)
      = row (fun k => x (ix2 r k)) (fun k => z (ix2 r k)) (fun a b => wg (ix2 a b))
          (fun k => mods (ix3 0 ⟨(r : ℕ) % 8, by omega⟩ k)) (fun k => g (ix2 0 k)) (fun a b => w1 (ix2 a b)) (fun a b => w2 (ix2 a b)) d := by
  unfold rows
  rw [pay10_at _ _ _ _ _ (fun a b => w1 (ix2 a b)) (fun a b => w2 (ix2 a b)) _ _ _ _ _ _ _ _ _ r d (fun k => rfl)]
  · simp only [pay7_at, pay3_at]
    unfold ld
    pointwise [row]
    rfl
  all_goals (intro a b; unfold ld; pointwise)

/-- The plain row of the arguments at batch element `b` and time `s`. -/
def rowAt (c : Dev nD) (b : Fin 8) (s : Fin 4352) (d : Fin 1024) : EReal :=
  row (fun k => m ((c : Thread nD τ).loc main_arg0) (ix3 b s k)) (fun k => m ((c : Thread nD τ).loc main_arg1) (ix3 b s k))
    (fun k l => m ((c : Thread nD τ).loc main_arg5) (ix2 k l)) (fun k => m ((c : Thread nD τ).loc main_arg2) (ix2 b k))
    (fun k => m ((c : Thread nD τ).loc main_arg4) (ix1 k)) (fun k l => m ((c : Thread nD τ).loc main_arg6) (ix2 k l))
    (fun k l => m ((c : Thread nD τ).loc main_arg7) (ix2 k l)) d

/-- The block's rows are the plain rows of the arguments. -/
theorem block_at (c : Dev nD) (t : Fin cfg0.N) (r : Fin 512) (d : Fin 1024) :
    rows (iblk m c 0 t) (iblk m c 1 t) (iblk m c 2 t) (iblk m c 3 t) (iblk m c 4 t) (iblk m c 5 t) (iblk m c 6 t) (ix2 r d)
      = rowAt m c ⟨(r : ℕ) % 8, by omega⟩ ⟨t.val * 64 + (r : ℕ) / 8, by have := (idx t).1; omega⟩ d := by
  refine (rows_at _ _ _ _ _ _ _ r d).trans ?_
  rw [funext (x_at m c t r), funext (z_at m c t r), funext fun a => funext (wg_at m c t a), funext (mods_at m c t _), funext (g_at m c t),
    funext fun a => funext (w1_at m c t a), funext fun a => funext (w2_at m c t a)]
  rfl

/-- The result array: at batch element `b` and time `s`, the plain row of the arguments. -/
def target (c : Dev nD) : FVec Ideal S8x4096x1024 .f32 := fun j =>
  rowAt m c (j 0) ⟨(j 1 : ℕ), by have h : (j 1 : ℕ) < 4096 := (j 1).isLt; omega⟩ (j 2)

/-- Rows at equal coordinates are equal. -/
theorem rowAt_same (c : Dev nD) {b b' : Fin 8} {s s' : Fin 4352} {d d' : Fin 1024} (hb : (b : ℕ) = b') (hs : (s : ℕ) = s')
    (hd : (d : ℕ) = d') : rowAt m c b s d = rowAt m c b' s' d' := by
  rw [Fin.ext hb, Fin.ext hs, Fin.ext hd]

/-- After the run the output array is `target`. -/
theorem final (c : Dev nD) : (dats m 0 c).arrAt 7 (cfgs 0).N = target m c := by
  refine (dats m 0 c).arrAt_eq_of_covers 7 _ (by decide +kernel) fun t _ y => ?_
  blk_simp
  rw [after0_7, point]
  have h0 : (y 0 : ℕ) < 8 := (y 0).isLt
  have h1 : (y 1 : ℕ) < 64 := (y 1).isLt
  have e : ((cfg0.win 7).blk t).view.emb y = (ix3 (y 0) ⟨t.val * 64 + (y 1 : ℕ), by
      have := (idx t).1
      omega⟩ (y 2) : S8x4096x1024.Idx) := by
    blk_ext [idx t]
  rw [e]
  refine (block_at m c t _ _).trans (rowAt_same m c ?_ ?_ rfl)
  · show ((y 1 : ℕ) * 8 + (y 0 : ℕ)) % 8 = (y 0 : ℕ)
    omega
  · show t.val * 64 + ((y 1 : ℕ) * 8 + (y 0 : ℕ)) / 8 = t.val * 64 + (y 1 : ℕ)
    omega

end Cert.Kernel2Ideal.Value

end
-- ==== Proof.MlpRef.lean ====
/- The reference of the last call, read at one element: the row's result of MlpRow. -/
module

public import proofs.«01_k».proof.Proof.Gen.Reference2Ideal.Run
public import proofs.«01_k».proof.Proof.MlpRow

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.MlpRow

/-- One of the six parts of the table of modulation, spread over the times. -/
def part2 (mod : FVec Ideal S8x6144 .f32) : FVec Ideal S8x1x1024 .f32 :=
  shapeCast _ (extractStridedSlice S8x1x1x1024 ![0, 2, 0, 0] (shapeCast _ mod shapeCasts_S8x6144_S8x6x1x1024) slices_S8x6x1x1024_S8x1x1x1024_0_2_0_0) shapeCasts_S8x1x1x1024_S8x1x1024
/-- The part that shifts the norm. -/
def part3 (mod : FVec Ideal S8x6144 .f32) : FVec Ideal S8x1x1024 .f32 :=
  shapeCast _ (extractStridedSlice S8x1x1x1024 ![0, 3, 0, 0] (shapeCast _ mod shapeCasts_S8x6144_S8x6x1x1024) slices_S8x6x1x1024_S8x1x1x1024_0_3_0_0) shapeCasts_S8x1x1x1024_S8x1x1024
/-- The part that scales the norm. -/
def part4 (mod : FVec Ideal S8x6144 .f32) : FVec Ideal S8x1x1024 .f32 :=
  shapeCast _ (extractStridedSlice S8x1x1x1024 ![0, 4, 0, 0] (shapeCast _ mod shapeCasts_S8x6144_S8x6x1x1024) slices_S8x6x1x1024_S8x1x1x1024_0_4_0_0) shapeCasts_S8x1x1x1024_S8x1x1024
/-- The part that gates the network. -/
def part5 (mod : FVec Ideal S8x6144 .f32) : FVec Ideal S8x1x1024 .f32 :=
  shapeCast _ (extractStridedSlice S8x1x1x1024 ![0, 5, 0, 0] (shapeCast _ mod shapeCasts_S8x6144_S8x6x1x1024) slices_S8x6x1x1024_S8x1x1x1024_0_5_0_0) shapeCasts_S8x1x1x1024_S8x1x1024

/-- The mixer's product with both halves of the gated unit's weight. -/
def prod (z : FVec Ideal S8x4352x1024 .f32) (wg : FVec Ideal S1024x2048 .f32) : FVec Ideal S8x4096x2048 .f32 :=
  Host.dotGeneral dot_S8x4096x1024_S1024x2048_S8x4096x2048_2_0_01_1_n_n none (extractStridedSlice S8x4096x1024 ![0, 0, 0] z slices_S8x4352x1024_S8x4096x1024_0_0_0) wg

/-- The reference's residual stream after the mixer. -/
def refMixed (x z : FVec Ideal S8x4352x1024 .f32) (mod : FVec Ideal S8x6144 .f32) (wg : FVec Ideal S1024x2048 .f32) :
    FVec Ideal S8x4096x1024 .f32 :=
  addf (extractStridedSlice S8x4096x1024 ![0, 0, 0] x slices_S8x4352x1024_S8x4096x1024_0_0_0) (mulf (broadcastInDim S8x4096x1024 ![0, 1, 2] bcast_S8x1x1024_S8x4096x1024_0_1_2 (part2 mod)) (mulf (extractStridedSlice S8x4096x1024 ![0, 0, 0] (prod z wg) slices_S8x4096x2048_S8x4096x1024_0_0_0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 1024] (prod z wg) slices_S8x4096x2048_S8x4096x1024_0_0_1024)))))))

/-- The reference's modulated norm of a stream. -/
def refNormed (s : FVec Ideal S8x4096x1024 .f32) (mod : FVec Ideal S8x6144 .f32) (g : FVec Ideal S1024 .f32) :
    FVec Ideal S8x4096x1024 .f32 :=
  addf (mulf (mulf (mulf s (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf s s) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (part4 mod)))) (broadcastInDim S8x4096x1024 ![0, 1, 2] bcast_S8x1x1024_S8x4096x1024_0_1_2 (part3 mod))

/-- The network's input to its hidden units, cut at zero. -/
def refRelu (h : FVec Ideal S8x4096x1024 .f32) (w1 : FVec Ideal S1024x4096 .f32) : FVec Ideal S8x4096x4096 .f32 :=
  maximumf (Host.dotGeneral dot_S8x4096x1024_S1024x4096_S8x4096x4096_2_0_01_1_n_n none h w1) (broadcastInDim S8x4096x4096 ![] bcast_S_S8x4096x4096 (constant S_ .f32 0x00000000#32))

/-- The reference's last sum over a stream `s` and the network's input `h`. -/
def refLast (s h : FVec Ideal S8x4096x1024 .f32) (mod : FVec Ideal S8x6144 .f32) (w1 : FVec Ideal S1024x4096 .f32)
    (w2 : FVec Ideal S4096x1024 .f32) : FVec Ideal S8x4096x1024 .f32 :=
  addf s (mulf (broadcastInDim S8x4096x1024 ![0, 1, 2] bcast_S8x1x1024_S8x4096x1024_0_1_2 (part5 mod)) (Host.dotGeneral dot_S8x4096x4096_S4096x1024_S8x4096x1024_2_0_01_1_n_n none (mulf (refRelu h w1) (refRelu h w1)) w2))

/-- The reference's result from these parts. -/
theorem res_eq (m : (ℓ : Loc nD τ sig) → Buf (Elt Ideal) ℓ) (c : Dev nD) :
    res_out0 m c = refLast (refMixed (m ((c.tc : Thread nD τ).loc main_arg0)) (m ((c.tc : Thread nD τ).loc main_arg1)) (m ((c.tc : Thread nD τ).loc main_arg2)) (m ((c.tc : Thread nD τ).loc main_arg5)))
      (refNormed (refMixed (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg2)) (m ((c.tc : Thread nD τ).loc main_arg4)))
      (m ((c.tc : Thread nD τ).loc main_arg2)) (m ((c.tc : Thread nD τ).loc main_arg6)) (m ((c.tc : Thread nD τ).loc main_arg7)) := rfl

variable (x z : FVec Ideal S8x4352x1024 .f32) (mod : FVec Ideal S8x6144 .f32) (g : FVec Ideal S1024 .f32)
  (wg : FVec Ideal S1024x2048 .f32) (w1 : FVec Ideal S1024x4096 .f32) (w2 : FVec Ideal S4096x1024 .f32)

/-- The stream after the mixer, at one element. -/
theorem refMixed_at (b : Fin 8) (t : Fin 4096) (d : Fin 1024) :
    refMixed x z mod wg (ix3 b t d)
      = mixed (fun k => x (ix3 b ⟨(t : ℕ), by omega⟩ k)) (fun k => z (ix3 b ⟨(t : ℕ), by omega⟩ k)) (fun k l => wg (ix2 k l))
          (fun k => mod (ix2 b k)) d := by
  pointwise [refMixed, prod, part2, mixed, gated, glu]
  exact congrArg _ (mul_comm _ _)

/-- The modulated norm, at one element. -/
theorem refNormed_at (s : FVec Ideal S8x4096x1024 .f32) (b : Fin 8) (t : Fin 4096) (d : Fin 1024) :
    refNormed s mod g (ix3 b t d)
      = modnorm (fun k => s (ix3 b t k)) (fun k => g (ix1 k)) (fun k => mod (ix2 b ⟨3072 + (k : ℕ), by omega⟩))
          (fun k => mod (ix2 b ⟨4096 + (k : ℕ), by omega⟩)) d := by
  pointwise [refNormed, part3, part4, modnorm]

/-- The last sum, at one element. -/
theorem refLast_at (s h : FVec Ideal S8x4096x1024 .f32) (b : Fin 8) (t : Fin 4096) (d : Fin 1024) :
    refLast s h mod w1 w2 (ix3 b t d)
      = gated (fun k => s (ix3 b t k)) (mlp (fun k => h (ix3 b t k)) (fun k l => w1 (ix2 k l)) fun k l => w2 (ix2 k l))
          (fun k => mod (ix2 b ⟨5120 + (k : ℕ), by omega⟩)) d := by
  pointwise [refLast, refRelu, part5, gated, mlp, unitTerm]
  exact congrArg _ (mul_comm _ _)

/-- The reference's result at one element is the row's result. -/
theorem ref_at (b : Fin 8) (t : Fin 4096) (d : Fin 1024) :
    refLast (refMixed x z mod wg) (refNormed (refMixed x z mod wg) mod g) mod w1 w2 (ix3 b t d)
      = row (fun k => x (ix3 b ⟨(t : ℕ), by omega⟩ k)) (fun k => z (ix3 b ⟨(t : ℕ), by omega⟩ k)) (fun k l => wg (ix2 k l))
          (fun k => mod (ix2 b k)) (fun k => g (ix1 k)) (fun k l => w1 (ix2 k l)) (fun k l => w2 (ix2 k l)) d := by
  rw [refLast_at]
  unfold row normed
  simp only [refNormed_at, refMixed_at]

end Cert.Reference2Ideal.Value

end
-- ==== Proof.MlpClaims.lean ====
/- The claims of the last call (gated linear unit, gated residual, modulated norm, squared-relu network, residual): its
   kernel's result array and its reference's are one function of the arguments. -/
module

public import proofs.«01_k».proof.Defs
public import proofs.«01_k».proof.Proof.MlpValue
public import proofs.«01_k».proof.Proof.MlpRef
public import proofs.«01_k».proof.Proof.Gen.Kernel2.Frame
public import proofs.«01_k».proof.Proof.Gen.Reference2Ideal.Run
public import Idealize.ShloMosaic.Lib.Quiescent

@[expose] public section

noncomputable section

namespace Cert.Proof.Mlp

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- At the exact instance both programs end with the same result: at every element the plain row of the arguments. -/
theorem algebraic : Cert.algebraic_Kernel2Ideal_Reference2Ideal := by
  intro m g m' g' _ hagree
  refine ⟨fun c => Cert.Kernel2Ideal.Value.target m c,
    (θ_run Cert.Kernel2Ideal.defs _ _).mono (fun _ h c => ⟨(h c).1.trans (Cert.Kernel2Ideal.Value.final m c), (h c).2⟩)
      (Cert.Kernel2Ideal.Value.run_blocks (F := Ideal) m g), ?_⟩
  refine (θ_run Cert.Reference2Ideal.defs _ _).mono (fun _ h c => ⟨(h c).1.trans ?_, (h c).2⟩)
    (Cert.Reference2Ideal.Value.run (F := Ideal) m' g')
  obtain ⟨a0, a1, a2, a3, a4, a5, a6, a7⟩ := hagree c
  refine (Cert.Reference2Ideal.Value.res_eq m' c).trans ?_
  rw [a0, a1, a2, a4, a5, a6, a7]
  funext j
  exact (congrArg _ (eq_ix3 j)).trans (Cert.Reference2Ideal.Value.ref_at _ _ _ _ _ _ _ (j 0) (j 1) (j 2))

end Cert.Proof.Mlp

end
-- ==== Proof.MlpEnding.lean ====
/- The end of a layer at one token, from any mixer's output row: what the calls after the first three layers' mixers
   have in common. -/
module

public import proofs.«01_k».proof.Proof.MlpRow

@[expose] public section

set_option maxRecDepth 16384

noncomputable section

namespace Cert.MlpRow

open Idealize.ShloMosaic

/-- A row through a square weight. -/
def lin (z : Fin 1024 → EReal) (w : Fin 1024 → Fin 1024 → EReal) (d : Fin 1024) : EReal := ∑ k, z k * w k d

/-- The residual row after the mixer's output `u`, under the mixer's gate. -/
def after (x u : Fin 1024 → EReal) (mod : Fin 6144 → EReal) (d : Fin 1024) : EReal :=
  gated x u (fun k => mod ⟨2048 + (k : ℕ), by omega⟩) d

/-- The row the network reads: the modulated norm of `after`. -/
def input (x u : Fin 1024 → EReal) (mod : Fin 6144 → EReal) (g : Fin 1024 → EReal) (d : Fin 1024) : EReal :=
  modnorm (after x u mod) g (fun k => mod ⟨3072 + (k : ℕ), by omega⟩) (fun k => mod ⟨4096 + (k : ℕ), by omega⟩) d

/-- The layer's result at one token. -/
def ending (x u : Fin 1024 → EReal) (mod : Fin 6144 → EReal) (g : Fin 1024 → EReal) (w1 : Fin 1024 → Fin 4096 → EReal)
    (w2 : Fin 4096 → Fin 1024 → EReal) (d : Fin 1024) : EReal :=
  gated (after x u mod) (mlp (input x u mod g) w1 w2) (fun k => mod ⟨5120 + (k : ℕ), by omega⟩) d

/-- The last call's row is the ending of the gated linear unit's output. -/
theorem row_eq_ending (x z : Fin 1024 → EReal) (wg : Fin 1024 → Fin 2048 → EReal) (mod : Fin 6144 → EReal)
    (g : Fin 1024 → EReal) (w1 : Fin 1024 → Fin 4096 → EReal) (w2 : Fin 4096 → Fin 1024 → EReal) (d : Fin 1024) :
    row x z wg mod g w1 w2 d = ending x (glu z wg) mod g w1 w2 d := rfl

/-- The modulation of the token of batch element `b` at time `s`: the first 4096 times are latents, each with its batch
    element's table, the others context, with one table for all. -/
def tokenMod (ml : Fin 8 → Fin 6144 → EReal) (mc : Fin 6144 → EReal) (b : Fin 8) (s : Fin 4352) (k : Fin 6144) : EReal :=
  if (s : ℕ) < 4096 then ml b k else mc k

end Cert.MlpRow

end
-- ==== Proof.GluValue.lean ====
/- What the first layer's closing call writes: at every token the layer's ending of the gated linear unit's output. -/
module

public import proofs.«01_k».proof.Proof.Gen.Kernel3Ideal.Value
public import Idealize.ShloMosaic.Lib.Pipeline.ValueKit
public import proofs.«01_k».proof.Proof.MlpValue
public import proofs.«01_k».proof.Proof.MlpEnding

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.MlpRow
open Cert.Kernel2Ideal.Value (rows rows_at)

variable (m : (ℓ : Loc nD τ sig) → Buf (Elt Ideal) ℓ)

/-- What a point writes: the body's result rows, which are the last call's over this call's blocks. -/
theorem point (x0 : FVec Ideal S512x1024 .f32) (x1 : FVec Ideal S512x1024 .bf16) (x2 : FVec Ideal S1x8x6144 .f32)
    (x3 : FVec Ideal S1x1024 .f32) (x4 : FVec Ideal S1024x2048 .bf16) (x5 : FVec Ideal S1024x4096 .bf16)
    (x6 : FVec Ideal S4096x1024 .bf16) (y : S512x1024.Idx) :
    out0_7 (F := Ideal) x0 x1 x2 x3 x4 x5 x6 y = rows x0 x1 x2 x3 x4 x5 x6 y := by
  unfold_out out0_7
  simp (disch := decide) only [View.ld_unit_lit']
  refine (congrFun (View.canon_cons_unit_lit (Val := Elt Ideal) (S := S512x1024) (e := .f32) (off := ![0, 0]) _ _ _ (by decide)) y).trans ?_
  rfl

/-- The block of every window at point `t`. -/
theorem idx : ∀ t : Fin cfg0.N, t.val < 68 ∧ win0_0.index t = ![t.val, 0] ∧ win0_1.index t = ![t.val, 0]
    ∧ win0_2.index t = ![if t.val < 64 then 0 else 1, 0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- A block's row is a time step of a batch element. -/
theorem x_at (c : Dev nD) (t : Fin cfg0.N) (r : Fin 512) (d : Fin 1024) :
    (show FVec Ideal S512x1024 .f32 from iblk m c 0 t) (ix2 r d)
      = m ((c : Thread nD τ).loc main_arg0) (ix3 ⟨(r : ℕ) % 8, by omega⟩ ⟨t.val * 64 + (r : ℕ) / 8, by have := (idx t).1; omega⟩ d) := by
  blk_simp [iblk, V, idx t]
  entry_read
  pointwise
  blk_ext [idx t]

theorem z_at (c : Dev nD) (t : Fin cfg0.N) (r : Fin 512) (d : Fin 1024) :
    (show FVec Ideal S512x1024 .bf16 from iblk m c 1 t) (ix2 r d)
      = m ((c : Thread nD τ).loc main_arg1) (ix3 ⟨(r : ℕ) % 8, by omega⟩ ⟨t.val * 64 + (r : ℕ) / 8, by have := (idx t).1; omega⟩ d) := by
  blk_simp [iblk, V, idx t]
  entry_read
  pointwise
  blk_ext [idx t]

/-- A latent block reads the latents' table of modulation. -/
theorem mods_lat (c : Dev nD) (t : Fin cfg0.N) (ht : t.val < 64) (r : Fin 8) (d : Fin 6144) :
    (show FVec Ideal S1x8x6144 .f32 from iblk m c 2 t) (ix3 0 r d) = m ((c : Thread nD τ).loc main_arg2) (ix2 r d) := by
  blk_simp [iblk, V, idx t, ht]
  entry_read
  pointwise
  refine (dif_pos ?_).trans ?_
  · blk_simp [idx t, ht]
    exact Nat.zero_lt_one
  · blk_ext [idx t, ht]

/-- A context block reads the context's. -/
theorem mods_ctx (c : Dev nD) (t : Fin cfg0.N) (ht : ¬ t.val < 64) (r : Fin 8) (d : Fin 6144) :
    (show FVec Ideal S1x8x6144 .f32 from iblk m c 2 t) (ix3 0 r d) = m ((c : Thread nD τ).loc main_arg3) (ix1 d) := by
  blk_simp [iblk, V, idx t, ht]
  entry_read
  pointwise
  refine (dif_neg ?_).trans ?_
  · blk_simp [idx t, ht]
    rw [if_neg not_false]
    exact Nat.not_lt.2 (Nat.le_add_right 1 _)
  · blk_ext [idx t, ht]

theorem g_at (c : Dev nD) (t : Fin cfg0.N) (d : Fin 1024) :
    (show FVec Ideal S1x1024 .f32 from iblk m c 3 t) (ix2 0 d) = m ((c : Thread nD τ).loc main_arg4) (ix1 d) := by
  blk_simp [iblk, V, idx t]
  entry_read
  pointwise
  blk_ext [idx t]

theorem wg_at (c : Dev nD) (t : Fin cfg0.N) (a : Fin 1024) (b : Fin 2048) :
    (show FVec Ideal S1024x2048 .bf16 from iblk m c 4 t) (ix2 a b) = m ((c : Thread nD τ).loc main_arg5) (ix2 a b) := by
  blk_simp [iblk, V, idx t]
  entry_read
  pointwise
  blk_ext [idx t]

theorem w1_at (c : Dev nD) (t : Fin cfg0.N) (a : Fin 1024) (b : Fin 4096) :
    (show FVec Ideal S1024x4096 .bf16 from iblk m c 5 t) (ix2 a b) = m ((c : Thread nD τ).loc main_arg6) (ix2 a b) := by
  blk_simp [iblk, V, idx t]
  entry_read
  pointwise
  blk_ext [idx t]

theorem w2_at (c : Dev nD) (t : Fin cfg0.N) (a : Fin 4096) (b : Fin 1024) :
    (show FVec Ideal S4096x1024 .bf16 from iblk m c 6 t) (ix2 a b) = m ((c : Thread nD τ).loc main_arg7) (ix2 a b) := by
  blk_simp [iblk, V, idx t]
  entry_read
  pointwise
  blk_ext [idx t]

/-- A block's modulation row is its tokens'. -/
theorem mods_at (c : Dev nD) (t : Fin cfg0.N) (r : Fin 512) (k : Fin 6144) :
    (show FVec Ideal S1x8x6144 .f32 from iblk m c 2 t) (ix3 0 ⟨(r : ℕ) % 8, by omega⟩ k)
      = tokenMod (fun a b => m ((c : Thread nD τ).loc main_arg2) (ix2 a b)) (fun b => m ((c : Thread nD τ).loc main_arg3) (ix1 b))
          ⟨(r : ℕ) % 8, by omega⟩ ⟨t.val * 64 + (r : ℕ) / 8, by have := (idx t).1; omega⟩ k := by
  unfold tokenMod
  by_cases ht : t.val < 64
  · rw [if_pos (by dsimp only; omega)]
    exact mods_lat m c t ht _ k
  · rw [if_neg (by dsimp only; omega)]
    exact mods_ctx m c t ht _ k

/-- The layer's ending at batch element `b` and time `s`, from the arguments. -/
def rowAt (c : Dev nD) (b : Fin 8) (s : Fin 4352) (d : Fin 1024) : EReal :=
  ending (fun k => m ((c : Thread nD τ).loc main_arg0) (ix3 b s k))
    (glu (fun k => m ((c : Thread nD τ).loc main_arg1) (ix3 b s k)) fun k l => m ((c : Thread nD τ).loc main_arg5) (ix2 k l))
    (tokenMod (fun a b => m ((c : Thread nD τ).loc main_arg2) (ix2 a b)) (fun b => m ((c : Thread nD τ).loc main_arg3) (ix1 b)) b s)
    (fun k => m ((c : Thread nD τ).loc main_arg4) (ix1 k)) (fun k l => m ((c : Thread nD τ).loc main_arg6) (ix2 k l))
    (fun k l => m ((c : Thread nD τ).loc main_arg7) (ix2 k l)) d

/-- The block's rows are the endings of its tokens. -/
theorem block_at (c : Dev nD) (t : Fin cfg0.N) (r : Fin 512) (d : Fin 1024) :
    rows (iblk m c 0 t) (iblk m c 1 t) (iblk m c 2 t) (iblk m c 3 t) (iblk m c 4 t) (iblk m c 5 t) (iblk m c 6 t) (ix2 r d)
      = rowAt m c ⟨(r : ℕ) % 8, by omega⟩ ⟨t.val * 64 + (r : ℕ) / 8, by have := (idx t).1; omega⟩ d := by
  refine (rows_at _ _ _ _ _ _ _ r d).trans ?_
  rw [funext (x_at m c t r), funext (z_at m c t r), funext fun a => funext (wg_at m c t a), funext (mods_at m c t r), funext (g_at m c t),
    funext fun a => funext (w1_at m c t a), funext fun a => funext (w2_at m c t a)]
  rfl

/-- The result array: row `8 s + b` is the token of batch element `b` at time `s`. -/
def target (c : Dev nD) : FVec Ideal S34816x1024 .f32 := fun j =>
  rowAt m c ⟨(j 0 : ℕ) % 8, by omega⟩ ⟨(j 0 : ℕ) / 8, by have h : (j 0 : ℕ) < 34816 := (j 0).isLt; omega⟩ (j 1)

/-- Rows at equal coordinates are equal. -/
theorem rowAt_same (c : Dev nD) {b b' : Fin 8} {s s' : Fin 4352} {d d' : Fin 1024} (hb : (b : ℕ) = b') (hs : (s : ℕ) = s')
    (hd : (d : ℕ) = d') : rowAt m c b s d = rowAt m c b' s' d' := by
  rw [Fin.ext hb, Fin.ext hs, Fin.ext hd]

/-- After the run the output array is `target`. -/
theorem final (c : Dev nD) : (dats m 0 c).arrAt 7 (cfgs 0).N = target m c := by
  refine (dats m 0 c).arrAt_eq_of_covers 7 _ (by decide +kernel) fun t _ y => ?_
  blk_simp
  rw [after0_7, point]
  have h0 : (y 0 : ℕ) < 512 := (y 0).isLt
  have e : ((cfg0.win 7).blk t).view.emb y = (ix2 ⟨t.val * 512 + (y 0 : ℕ), by
      have := (idx t).1
      omega⟩ (y 1) : S34816x1024.Idx) := by
    blk_ext [idx t]
  rw [e]
  refine ((congrArg _ (eq_ix2 y)).trans (block_at m c t (y 0) (y 1))).trans (rowAt_same m c ?_ ?_ rfl)
  · show (y 0 : ℕ) % 8 = (t.val * 512 + (y 0 : ℕ)) % 8
    omega
  · show t.val * 64 + (y 0 : ℕ) / 8 = (t.val * 512 + (y 0 : ℕ)) / 8
    omega

end Cert.Kernel3Ideal.Value

end
-- ==== Proof.LinRef.lean ====
/- The references of the calls that close the first three layers share everything after the mixer's output; this is
   that part, read at one token, and the attention's layer, whose mixer ends with a square weight. -/
module

public import proofs.«01_k».proof.Proof.Gen.Reference4Ideal.Run
public import proofs.«01_k».proof.Proof.MlpEnding

@[expose] public section

set_option maxRecDepth 16384

noncomputable section

namespace Cert.Reference4Ideal.Value

open Cert.Reference4Ideal Cert.Reference4Ideal.Gen Idealize.ShloMosaic Idealize.ShloMosaic.TcCoe Idealize.SL.Sem
open Cert.MlpRow

/-- Each token's table of modulation: its batch element's for the latents, the context's for the others. -/
def mods (ml : FVec Ideal S8x6144 .f32) (mc : FVec Ideal S6144 .f32) : FVec Ideal S8x4352x6144 .f32 :=
  concatenate S8x4352x6144 1 [⟨S8x4096x6144, (broadcastInDim S8x4096x6144 ![0, 1, 2] bcast_S8x1x6144_S8x4096x6144_0_1_2 (broadcastInDim S8x1x6144 ![0, 2] bcast_S8x6144_S8x1x6144_0_2 ml))⟩, ⟨S8x256x6144, (broadcastInDim S8x256x6144 ![2] bcast_S6144_S8x256x6144_2 mc)⟩] concatenates_S8x4096x6144_S8x256x6144_S8x4352x6144_d1

/-- The stream after a mixer's output `o`. -/
def mid (x o : FVec Ideal S8x4352x1024 .f32) (md : FVec Ideal S8x4352x6144 .f32) : FVec Ideal S8x4352x1024 .f32 :=
  addf x (mulf (extractStridedSlice S8x4352x1024 ![0, 0, 2048] md slices_S8x4352x6144_S8x4352x1024_0_0_2048) o)

/-- The modulated norm of a stream. -/
def nrm (s : FVec Ideal S8x4352x1024 .f32) (md : FVec Ideal S8x4352x6144 .f32) (g : FVec Ideal S1024 .f32) :
    FVec Ideal S8x4352x1024 .f32 :=
  addf (mulf (mulf (mulf s (broadcastInDim S8x4352x1024 ![0, 1, 2] bcast_S8x4352x1_S8x4352x1024_0_1_2 (Host.rsqrt (addf (Host.divf (broadcastInDim S8x4352x1 ![0, 1] bcast_S8x4352_S8x4352x1_0_1 (Host.reduceAdd (mulf s s) (constant S_ .f32 0x00000000#32) reducesTo_S8x4352x1024_S8x4352_d2 h_S_)) (broadcastInDim S8x4352x1 ![] bcast_S_S8x4352x1 (constant S_ .f32 0x44800000#32))) (broadcastInDim S8x4352x1 ![] bcast_S_S8x4352x1 (constant S_ .f32 0x358637BD#32)))))) (broadcastInDim S8x4352x1024 ![0, 1, 2] bcast_S1x1x1024_S8x4352x1024_0_1_2 (broadcastInDim S1x1x1024 ![2] bcast_S1024_S1x1x1024_2 g))) (addf (broadcastInDim S8x4352x1024 ![] bcast_S_S8x4352x1024 (constant S_ .f32 0x3F800000#32)) (extractStridedSlice S8x4352x1024 ![0, 0, 4096] md slices_S8x4352x6144_S8x4352x1024_0_0_4096))) (extractStridedSlice S8x4352x1024 ![0, 0, 3072] md slices_S8x4352x6144_S8x4352x1024_0_0_3072)

/-- The hidden units of the network's input `h`, cut at zero. -/
def hid (h : FVec Ideal S8x4352x1024 .f32) (w1 : FVec Ideal S1024x4096 .f32) : FVec Ideal S8x4352x4096 .f32 :=
  maximumf (Host.dotGeneral dot_S8x4352x1024_S1024x4096_S8x4352x4096_2_0_01_1_n_n none h w1) (broadcastInDim S8x4352x4096 ![] bcast_S_S8x4352x4096 (constant S_ .f32 0x00000000#32))

/-- The last sum over a stream `s` and the network's input `h`. -/
def fin (s h : FVec Ideal S8x4352x1024 .f32) (md : FVec Ideal S8x4352x6144 .f32) (w1 : FVec Ideal S1024x4096 .f32)
    (w2 : FVec Ideal S4096x1024 .f32) : FVec Ideal S8x4352x1024 .f32 :=
  addf s (mulf (extractStridedSlice S8x4352x1024 ![0, 0, 5120] md slices_S8x4352x6144_S8x4352x1024_0_0_5120) (Host.dotGeneral dot_S8x4352x4096_S4096x1024_S8x4352x1024_2_0_01_1_n_n none (mulf (hid h w1) (hid h w1)) w2))

/-- The tokens as rows in time-major order. -/
def laid (s : FVec Ideal S8x4352x1024 .f32) : FVec Ideal S34816x1024 .f32 :=
  shapeCast _ (transpose S4352x8x1024 [1, 0, 2] s transposes_S8x4352x1024_S4352x8x1024_1_0_2) shapeCasts_S4352x8x1024_S34816x1024

/-- A layer's ending, for all tokens, from its mixer's output `o`. -/
def closing (x o : FVec Ideal S8x4352x1024 .f32) (ml : FVec Ideal S8x6144 .f32) (mc : FVec Ideal S6144 .f32) (g : FVec Ideal S1024 .f32)
    (w1 : FVec Ideal S1024x4096 .f32) (w2 : FVec Ideal S4096x1024 .f32) : FVec Ideal S34816x1024 .f32 :=
  laid (fin (mid x o (mods ml mc)) (nrm (mid x o (mods ml mc)) (mods ml mc) g) (mods ml mc) w1 w2)

/-- The mixer's output through the square weight. -/
def proj (z : FVec Ideal S8x4352x1024 .f32) (w : FVec Ideal S1024x1024 .f32) : FVec Ideal S8x4352x1024 .f32 :=
  Host.dotGeneral dot_S8x4352x1024_S1024x1024_S8x4352x1024_2_0_01_1_n_n none z w

/-- The reference's result from these parts. -/
theorem res_eq (m : (ℓ : Loc nD τ sig) → Buf (Elt Ideal) ℓ) (c : Dev nD) :
    res_out0 m c = closing (m ((c.tc : Thread nD τ).loc main_arg0))
      (proj (m ((c.tc : Thread nD τ).loc main_arg1)) (m ((c.tc : Thread nD τ).loc main_arg5)))
      (m ((c.tc : Thread nD τ).loc main_arg2)) (m ((c.tc : Thread nD τ).loc main_arg3)) (m ((c.tc : Thread nD τ).loc main_arg4))
      (m ((c.tc : Thread nD τ).loc main_arg6)) (m ((c.tc : Thread nD τ).loc main_arg7)) := rfl

theorem mods_at (ml : FVec Ideal S8x6144 .f32) (mc : FVec Ideal S6144 .f32) (b : Fin 8) (s : Fin 4352) (k : Fin 6144) :
    mods ml mc (ix3 b s k) = tokenMod (fun a b => ml (ix2 a b)) (fun b => mc (ix1 b)) b s k := by
  pointwise [mods, tokenMod]
  rfl

theorem mid_at (x o : FVec Ideal S8x4352x1024 .f32) (md : FVec Ideal S8x4352x6144 .f32) (b : Fin 8) (s : Fin 4352) (d : Fin 1024) :
    mid x o md (ix3 b s d) = after (fun k => x (ix3 b s k)) (fun k => o (ix3 b s k)) (fun k => md (ix3 b s k)) d := by
  pointwise [mid, after, gated]
  exact congrArg _ (mul_comm _ _)

theorem nrm_at (t : FVec Ideal S8x4352x1024 .f32) (md : FVec Ideal S8x4352x6144 .f32) (g : FVec Ideal S1024 .f32) (b : Fin 8) (s : Fin 4352)
    (d : Fin 1024) :
    nrm t md g (ix3 b s d) = modnorm (fun k => t (ix3 b s k)) (fun k => g (ix1 k)) (fun k => md (ix3 b s ⟨3072 + (k : ℕ), by omega⟩))
      (fun k => md (ix3 b s ⟨4096 + (k : ℕ), by omega⟩)) d := by
  pointwise [nrm, modnorm]

theorem fin_at (t h : FVec Ideal S8x4352x1024 .f32) (md : FVec Ideal S8x4352x6144 .f32) (w1 : FVec Ideal S1024x4096 .f32)
    (w2 : FVec Ideal S4096x1024 .f32) (b : Fin 8) (s : Fin 4352) (d : Fin 1024) :
    fin t h md w1 w2 (ix3 b s d)
      = gated (fun k => t (ix3 b s k)) (mlp (fun k => h (ix3 b s k)) (fun k l => w1 (ix2 k l)) fun k l => w2 (ix2 k l))
          (fun k => md (ix3 b s ⟨5120 + (k : ℕ), by omega⟩)) d := by
  pointwise [fin, hid, gated, mlp, unitTerm]
  exact congrArg _ (mul_comm _ _)

theorem laid_at (t : FVec Ideal S8x4352x1024 .f32) (r : Fin 34816) (d : Fin 1024) :
    laid t (ix2 r d) = t (ix3 ⟨(r : ℕ) % 8, by omega⟩ ⟨(r : ℕ) / 8, by omega⟩ d) := by
  pointwise [laid]

/-- A layer's ending at one row is the ending of its token. -/
theorem closing_at (x o : FVec Ideal S8x4352x1024 .f32) (ml : FVec Ideal S8x6144 .f32) (mc : FVec Ideal S6144 .f32) (g : FVec Ideal S1024 .f32)
    (w1 : FVec Ideal S1024x4096 .f32) (w2 : FVec Ideal S4096x1024 .f32) (b : Fin 8) (s : Fin 4352) (r : Fin 34816) (d : Fin 1024)
    (hb : (r : ℕ) % 8 = b) (hs : (r : ℕ) / 8 = s) :
    closing x o ml mc g w1 w2 (ix2 r d)
      = ending (fun k => x (ix3 b s k)) (fun k => o (ix3 b s k)) (tokenMod (fun a b => ml (ix2 a b)) (fun b => mc (ix1 b)) b s)
          (fun k => g (ix1 k)) (fun k l => w1 (ix2 k l)) (fun k l => w2 (ix2 k l)) d := by
  have eb : (⟨(r : ℕ) % 8, by omega⟩ : Fin 8) = b := Fin.ext hb
  have es : (⟨(r : ℕ) / 8, by omega⟩ : Fin 4352) = s := Fin.ext hs
  unfold closing
  rw [laid_at, eb, es, fin_at]
  unfold ending input
  simp only [nrm_at, mid_at, mods_at]

theorem proj_at (z : FVec Ideal S8x4352x1024 .f32) (w : FVec Ideal S1024x1024 .f32) (b : Fin 8) (s : Fin 4352) (d : Fin 1024) :
    proj z w (ix3 b s d) = lin (fun k => z (ix3 b s k)) (fun k l => w (ix2 k l)) d := by
  pointwise [proj, lin]

end Cert.Reference4Ideal.Value

end
-- ==== Proof.GluClaims.lean ====
/- The claims of the first layer's closing call (gated linear unit, gated residual, modulated norm, squared-relu network,
   residual): its kernel's result array and its reference's are one function of the arguments. -/
module

public import proofs.«01_k».proof.Defs
public import proofs.«01_k».proof.Proof.GluValue
public import proofs.«01_k».proof.Proof.LinRef
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.MlpRow
open Cert.Reference4Ideal.Value (closing closing_at)

/-- The gated linear unit of the activations. -/
def unit (z : FVec Ideal S8x4352x1024 .f32) (wg : FVec Ideal S1024x2048 .f32) : FVec Ideal S8x4352x1024 .f32 :=
  mulf (extractStridedSlice S8x4352x1024 ![0, 0, 0] (Host.dotGeneral dot_S8x4352x1024_S1024x2048_S8x4352x2048_2_0_01_1_n_n none z wg) slices_S8x4352x2048_S8x4352x1024_0_0_0) (Host.divf (broadcastInDim S8x4352x1024 ![] bcast_S_S8x4352x1024 (constant S_ .f32 0x3F800000#32)) (addf (broadcastInDim S8x4352x1024 ![] bcast_S_S8x4352x1024 (constant S_ .f32 0x3F800000#32)) (Host.exp (Host.negf (extractStridedSlice S8x4352x1024 ![0, 0, 1024] (Host.dotGeneral dot_S8x4352x1024_S1024x2048_S8x4352x2048_2_0_01_1_n_n none z wg) slices_S8x4352x2048_S8x4352x1024_0_0_1024)))))

/-- The reference's result from the unit and the layers' common ending. -/
theorem res_eq (m : (ℓ : Loc nD τ sig) → Buf (Elt Ideal) ℓ) (c : Dev nD) :
    res_out0 m c = closing (m ((c.tc : Thread nD τ).loc main_arg0))
      (unit (m ((c.tc : Thread nD τ).loc main_arg1)) (m ((c.tc : Thread nD τ).loc main_arg5)))
      (m ((c.tc : Thread nD τ).loc main_arg2)) (m ((c.tc : Thread nD τ).loc main_arg3)) (m ((c.tc : Thread nD τ).loc main_arg4))
      (m ((c.tc : Thread nD τ).loc main_arg6)) (m ((c.tc : Thread nD τ).loc main_arg7)) := rfl

theorem unit_at (z : FVec Ideal S8x4352x1024 .f32) (wg : FVec Ideal S1024x2048 .f32) (b : Fin 8) (s : Fin 4352) (d : Fin 1024) :
    unit z wg (ix3 b s d) = glu (fun k => z (ix3 b s k)) (fun k l => wg (ix2 k l)) d := by
  pointwise [unit, glu]
  rfl

end Cert.Reference3Ideal.Value

namespace Cert.Proof.Glu

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

/-- At the exact instance both programs end with the same result: at every row the layer's ending of the arguments. -/
theorem algebraic : Cert.algebraic_Kernel3Ideal_Reference3Ideal := by
  intro m g m' g' _ hagree
  refine ⟨fun c => Cert.Kernel3Ideal.Value.target m c,
    (θ_run Cert.Kernel3Ideal.defs _ _).mono (fun _ h c => ⟨(h c).1.trans (Cert.Kernel3Ideal.Value.final m c), (h c).2⟩)
      (Cert.Kernel3Ideal.Value.run_blocks (F := Ideal) m g), ?_⟩
  refine (θ_run Cert.Reference3Ideal.defs _ _).mono (fun _ h c => ⟨(h c).1.trans ?_, (h c).2⟩)
    (Cert.Reference3Ideal.Value.run (F := Ideal) m' g')
  obtain ⟨a0, a1, a2, a3, a4, a5, a6, a7⟩ := hagree c
  refine (Cert.Reference3Ideal.Value.res_eq m' c).trans ?_
  rw [a0, a1, a2, a3, a4, a5, a6, a7]
  funext j
  refine (congrArg _ (eq_ix2 j)).trans ((Cert.Reference4Ideal.Value.closing_at _ _ _ _ _ _ _
    ⟨(j 0 : ℕ) % 8, by omega⟩ ⟨(j 0 : ℕ) / 8, by have h : (j 0 : ℕ) < 34816 := (j 0).isLt; omega⟩ (j 0) (j 1) rfl rfl).trans ?_)
  simp only [Cert.Reference3Ideal.Value.unit_at]
  rfl

end Cert.Proof.Glu

end
-- ==== Proof.Staging.lean ====
/- A scratch of eight chunks of 128 channels over 512 rows, written time step by time step: each store fills every eighth
   row of a chunk, and the 64 stores of a body fill the scratch. -/
module

public import Idealize.ShloMosaic.Lib.Pipeline.ValueKit

@[expose] public section

set_option maxRecDepth 16384

noncomputable section

namespace Cert.Staging

open Idealize.ShloMosaic Idealize.SL.Sem

variable {Val : EltTy → Type} {e : EltTy}

/-- The scratch's shape. -/
abbrev S : Shape := ⟨3, ![8, 512, 128]⟩

/-- Whether a piece is the rows of batch element `b` in chunk `c`. -/
def isRows (p : View.Piece Val S e) (c b : ℕ) : Bool :=
  p.1.off 0 == c && p.1.off 1 == b && p.1.off 2 == 0 && (p.1.size 0 == 1 && p.1.size 1 == 64 && p.1.size 2 == 128)
    && (p.1.stride 0 == 1 && p.1.stride 1 == 8 && p.1.stride 2 == 1)

/-- Whether a body's stores hold the rows of every batch element in every chunk. -/
def allRows (L : List (View.Piece Val S e)) : Bool :=
  (List.range 8).all fun c => (List.range 8).all fun b => L.any fun p => isRows p c b

/-- Such stores cover the scratch. -/
theorem cover (L : List (View.Piece Val S e)) (h : allRows L = true) (y : S.Idx) : ∃ p ∈ L, y ∈ p.1.set := by
  have y0 : (y 0 : ℕ) < 8 := (y 0).isLt
  have y1 : (y 1 : ℕ) < 512 := (y 1).isLt
  have y2 : (y 2 : ℕ) < 128 := (y 2).isLt
  have hb : (y 1 : ℕ) % 8 < 8 := Nat.mod_lt _ (by omega)
  have h1 := List.all_eq_true.mp h _ (List.mem_range.mpr y0)
  have h2 := List.all_eq_true.mp h1 _ (List.mem_range.mpr hb)
  obtain ⟨p, hp, hr⟩ := List.any_eq_true.mp h2
  simp only [isRows, Bool.and_eq_true, beq_iff_eq] at hr
  obtain ⟨⟨⟨⟨o0, o1⟩, o2⟩, ⟨s0, s1⟩, s2⟩, ⟨t0, t1⟩, t2⟩ := hr
  refine ⟨p, hp, p.1.mem_set.mpr fun a => ?_⟩
  match a with
  | 0 => exact ⟨0, by rw [s0]; exact Nat.one_pos, by rw [o0]; rfl⟩
  | 1 => exact ⟨(y 1 : ℕ) / 8, by rw [s1]; omega, by rw [o1, t1]; omega⟩
  | 2 => exact ⟨(y 2 : ℕ), by rw [s2]; omega, by rw [o2, t2]; omega⟩

/-- Where a piece's entry lies. -/
theorem place (r : Rect S) (x : r.shape.Idx) (y : S.Idx) (h : r.emb x = y) :
    (y 0 : ℕ) = r.off 0 + r.stride 0 * (x 0 : ℕ) ∧ (y 1 : ℕ) = r.off 1 + r.stride 1 * (x 1 : ℕ)
      ∧ (y 2 : ℕ) = r.off 2 + r.stride 2 * (x 2 : ℕ) := by
  subst h
  exact ⟨rfl, rfl, rfl⟩

end Cert.Staging

end
-- ==== Proof.LinKernel.lean ====
/- What the body of the second layer's closing call computes at one row of its block, named value by named value. -/
module

public import proofs.«01_k».proof.Proof.Gen.Kernel4Ideal.Skeleton
public import proofs.«01_k».proof.Proof.MlpEnding

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.MlpRow

/-- The body's first sum is the mixer's gated residual; the mixer's row comes in eight runs of 128 channels. -/
theorem pay68_at (s0 s1 s2 s3 s4 s5 s6 s7 : FVec Ideal S1x512x128 .f32) (w : FVec Ideal S1024x1024 .bf16)
    (x : FVec Ideal S512x1024 .f32) (mg : FVec Ideal S1x8x1024 .f32) (z : Fin 1024 → EReal) (r : Fin 512) (d : Fin 1024)
    (hs0 : ∀ l : Fin 128, s0 (ix3 0 r l) = z ⟨(l : ℕ), by omega⟩)
    (hs1 : ∀ l : Fin 128, s1 (ix3 0 r l) = z ⟨128 + (l : ℕ), by omega⟩)
    (hs2 : ∀ l : Fin 128, s2 (ix3 0 r l) = z ⟨256 + (l : ℕ), by omega⟩)
    (hs3 : ∀ l : Fin 128, s3 (ix3 0 r l) = z ⟨384 + (l : ℕ), by omega⟩)
    (hs4 : ∀ l : Fin 128, s4 (ix3 0 r l) = z ⟨512 + (l : ℕ), by omega⟩)
    (hs5 : ∀ l : Fin 128, s5 (ix3 0 r l) = z ⟨640 + (l : ℕ), by omega⟩)
    (hs6 : ∀ l : Fin 128, s6 (ix3 0 r l) = z ⟨768 + (l : ℕ), by omega⟩)
    (hs7 : ∀ l : Fin 128, s7 (ix3 0 r l) = z ⟨896 + (l : ℕ), by omega⟩) :
    k0_pay68 (F := Ideal) (k0_pay66 s0) (k0_pay67 s1) s2 s3 s4 s5 s6 s7 w x mg (ix2 r d)
      = gated (fun k => x (ix2 r k)) (lin z fun a b => w (ix2 a b)) (fun k => mg (ix3 0 ⟨(r : ℕ) % 8, by omega⟩ k)) d := by
  pointwise [k0_pay68, k0_pay66, k0_pay67, gated, lin, hs0, hs1, hs2, hs3, hs4, hs5, hs6, hs7]
  refine congrArg (_ + ·) (congrArg (· * _) (Finset.sum_congr rfl fun k _ => congrArg (· * _) ?_))
  split_ifs <;> exact congrArg z (Fin.ext (by first | rfl | (dsimp only; omega)))

/-- The row handed to the network is the modulated norm. -/
theorem pay70_at (v414 : FVec Ideal S512x1024 .f32) (g : FVec Ideal S1x1024 .f32) (v417 v419 : FVec Ideal S1x8x1024 .f32)
    (r : Fin 512) (d : Fin 1024) :
    k0_pay70 (F := Ideal) v414 (k0_pay69 g) v417 v419 (ix2 r d)
      = modnorm (fun k => v414 (ix2 r k)) (fun k => g (ix2 0 k)) (fun k => v417 (ix3 0 ⟨(r : ℕ) % 8, by omega⟩ k))
          (fun k => v419 (ix3 0 ⟨(r : ℕ) % 8, by omega⟩ k)) d := by
  pointwise [k0_pay70, k0_pay69, modnorm]

/-- The body's last sum: the residual row plus the network's four runs of hidden units under the last gate. -/
theorem pay1_at (v414 : FVec Ideal S512x1024 .f32) (v416 : FVec Ideal S1x1024 .f32) (v417 v419 : FVec Ideal S1x8x1024 .f32)
    (h : Fin 1024 → EReal) (w1 : Fin 1024 → Fin 4096 → EReal) (w2 : Fin 4096 → Fin 1024 → EReal)
    (u0 u1 u2 u3 o0 o1 o2 o3 : FVec Ideal S1024x1024 .bf16) (mg : FVec Ideal S1x8x1024 .f32) (r : Fin 512) (d : Fin 1024)
    (hh : ∀ k, k0_pay70 (F := Ideal) v414 v416 v417 v419 (ix2 r k) = h k)
    (hu0 : ∀ a b : Fin 1024, u0 (ix2 a b) = w1 a ⟨(b : ℕ), by omega⟩)
    (hu1 : ∀ a b : Fin 1024, u1 (ix2 a b) = w1 a ⟨1024 + (b : ℕ), by omega⟩)
    (hu2 : ∀ a b : Fin 1024, u2 (ix2 a b) = w1 a ⟨2048 + (b : ℕ), by omega⟩)
    (hu3 : ∀ a b : Fin 1024, u3 (ix2 a b) = w1 a ⟨3072 + (b : ℕ), by omega⟩)
    (ho0 : ∀ a b : Fin 1024, o0 (ix2 a b) = w2 ⟨(a : ℕ), by omega⟩ b)
    (ho1 : ∀ a b : Fin 1024, o1 (ix2 a b) = w2 ⟨1024 + (a : ℕ), by omega⟩ b)
    (ho2 : ∀ a b : Fin 1024, o2 (ix2 a b) = w2 ⟨2048 + (a : ℕ), by omega⟩ b)
    (ho3 : ∀ a b : Fin 1024, o3 (ix2 a b) = w2 ⟨3072 + (a : ℕ), by omega⟩ b) :
    k0_pay1 (F := Ideal) v414 (k0_pay73 (k0_pay70 v414 v416 v417 v419) (k0_pay71 v414 v416 v417 v419 u0 o0)
        (k0_pay72 v414 v416 v417 v419 u1) o1 u2 o2 u3 o3) mg (ix2 r d)
      = gated (fun k => v414 (ix2 r k)) (mlp h w1 w2) (fun k => mg (ix3 0 ⟨(r : ℕ) % 8, by omega⟩ k)) d := by
  pointwise [k0_pay1, k0_pay73, k0_pay71, k0_pay72, gated, mlp_quarters, unitTerm, hh, hu0, hu1, hu2, hu3, ho0, ho1, ho2, ho3]

end Cert.Kernel4Ideal.Value

end
-- ==== Proof.LinValue.lean ====
/- What the second layer's closing call leaves in its result array: each point stages its block of the mixer's activations
   in scratch by chunks of 128 channels, and each row of the block becomes the layer's ending of its token. -/
module

public import proofs.«01_k».proof.Proof.Gen.Kernel4Ideal.Value
public import Idealize.ShloMosaic.Lib.Pipeline.ValueKit
public import proofs.«01_k».proof.Proof.Staging
public import proofs.«01_k».proof.Proof.LinKernel
public import proofs.«01_k».proof.Proof.MlpValue

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.MlpRow
open Cert.Kernel2Ideal.Value (ld)

variable (m : (ℓ : Loc nD τ sig) → Buf (Elt Ideal) ℓ)

/-- The mixer's block as the scratch holds it: by chunks of 128 channels, row `8 s + b` for time `s` of batch element `b`. -/
def scr (z : FVec Ideal S64x8192 .bf16) : FVec Ideal S8x512x128 .f32 := fun y =>
  z (ix2 ⟨(y 1 : ℕ) / 8, by have h : (y 1 : ℕ) < 512 := (y 1).isLt; omega⟩
    ⟨(y 1 : ℕ) % 8 * 1024 + (y 0 : ℕ) * 128 + (y 2 : ℕ), by
      have h0 : (y 0 : ℕ) < 8 := (y 0).isLt
      have h2 : (y 2 : ℕ) < 128 := (y 2).isLt
      omega⟩)

/-- A load of the scratch reads its contents, whose equation is proved at the use. -/
theorem canon_scr (z : FVec Ideal S64x8192 .bf16) (L : List (View.Piece (Elt Ideal) S8x512x128 .f32))
    (h : View.canon L = scr z) : View.canon L = scr z := h

/-- Entries of the mixer's block at equal coordinates are equal. -/
theorem same (z : FVec Ideal S64x8192 .bf16) {i i' : Fin 64} {j j' : Fin 8192} (hi : (i : ℕ) = i') (hj : (j : ℕ) = j') :
    z (ix2 i j) = z (ix2 i' j') := by
  rw [Fin.ext hi, Fin.ext hj]

/-- The stream after the mixer, from the scratch `Z`. -/
def mid (Z : FVec Ideal S8x512x128 .f32) (x : FVec Ideal S512x1024 .f32) (mods : FVec Ideal S1x8x6144 .f32)
    (w : FVec Ideal S1024x1024 .bf16) : FVec Ideal S512x1024 .f32 :=
  k0_pay68
    (k0_pay66 (ld (S := S8x512x128) (e := .f32) Z ![0, 0, 0] ![1, 512, 128] inb_S8x512x128_S1x512x128_0_0_0))
    (k0_pay67 (ld (S := S8x512x128) (e := .f32) Z ![1, 0, 0] ![1, 512, 128] inb_S8x512x128_S1x512x128_1_0_0))
    (ld (S := S8x512x128) (e := .f32) Z ![2, 0, 0] ![1, 512, 128] inb_S8x512x128_S1x512x128_2_0_0)
    (ld (S := S8x512x128) (e := .f32) Z ![3, 0, 0] ![1, 512, 128] inb_S8x512x128_S1x512x128_3_0_0)
    (ld (S := S8x512x128) (e := .f32) Z ![4, 0, 0] ![1, 512, 128] inb_S8x512x128_S1x512x128_4_0_0)
    (ld (S := S8x512x128) (e := .f32) Z ![5, 0, 0] ![1, 512, 128] inb_S8x512x128_S1x512x128_5_0_0)
    (ld (S := S8x512x128) (e := .f32) Z ![6, 0, 0] ![1, 512, 128] inb_S8x512x128_S1x512x128_6_0_0)
    (ld (S := S8x512x128) (e := .f32) Z ![7, 0, 0] ![1, 512, 128] inb_S8x512x128_S1x512x128_7_0_0)
    w x (ld (S := S1x8x6144) (e := .f32) mods ![0, 0, 2048] ![1, 8, 1024] inb_S1x8x6144_S1x8x1024_0_0_2048)

/-- The body's result rows over the blocks it loads. -/
def rows (x : FVec Ideal S512x1024 .f32) (z : FVec Ideal S64x8192 .bf16) (mods : FVec Ideal S1x8x6144 .f32)
    (g : FVec Ideal S1x1024 .f32) (w : FVec Ideal S1024x1024 .bf16) (w1 : FVec Ideal S1024x4096 .bf16)
    (w2 : FVec Ideal S4096x1024 .bf16) : FVec Ideal S512x1024 .f32 :=
  k0_pay1 (mid (scr z) x mods w)
    (k0_pay73
      (k0_pay70 (mid (scr z) x mods w) (k0_pay69 g)
        (ld (S := S1x8x6144) (e := .f32) mods ![0, 0, 3072] ![1, 8, 1024] inb_S1x8x6144_S1x8x1024_0_0_3072)
        (ld (S := S1x8x6144) (e := .f32) mods ![0, 0, 4096] ![1, 8, 1024] inb_S1x8x6144_S1x8x1024_0_0_4096))
      (k0_pay71 (mid (scr z) x mods w) (k0_pay69 g)
        (ld (S := S1x8x6144) (e := .f32) mods ![0, 0, 3072] ![1, 8, 1024] inb_S1x8x6144_S1x8x1024_0_0_3072)
        (ld (S := S1x8x6144) (e := .f32) mods ![0, 0, 4096] ![1, 8, 1024] inb_S1x8x6144_S1x8x1024_0_0_4096)
        (ld (S := S1024x4096) (e := .bf16) w1 ![0, 0] ![1024, 1024] inb_S1024x4096_S1024x1024_0_0)
        (ld (S := S4096x1024) (e := .bf16) w2 ![0, 0] ![1024, 1024] inb_S4096x1024_S1024x1024_0_0))
      (k0_pay72 (mid (scr z) x mods w) (k0_pay69 g)
        (ld (S := S1x8x6144) (e := .f32) mods ![0, 0, 3072] ![1, 8, 1024] inb_S1x8x6144_S1x8x1024_0_0_3072)
        (ld (S := S1x8x6144) (e := .f32) mods ![0, 0, 4096] ![1, 8, 1024] inb_S1x8x6144_S1x8x1024_0_0_4096)
        (ld (S := S1024x4096) (e := .bf16) w1 ![0, 1024] ![1024, 1024] inb_S1024x4096_S1024x1024_0_1024))
      (ld (S := S4096x1024) (e := .bf16) w2 ![1024, 0] ![1024, 1024] inb_S4096x1024_S1024x1024_1024_0)
      (ld (S := S1024x4096) (e := .bf16) w1 ![0, 2048] ![1024, 1024] inb_S1024x4096_S1024x1024_0_2048)
      (ld (S := S4096x1024) (e := .bf16) w2 ![2048, 0] ![1024, 1024] inb_S4096x1024_S1024x1024_2048_0)
      (ld (S := S1024x4096) (e := .bf16) w1 ![0, 3072] ![1024, 1024] inb_S1024x4096_S1024x1024_0_3072)
      (ld (S := S4096x1024) (e := .bf16) w2 ![3072, 0] ![1024, 1024] inb_S4096x1024_S1024x1024_3072_0))
    (ld (S := S1x8x6144) (e := .f32) mods ![0, 0, 5120] ![1, 8, 1024] inb_S1x8x6144_S1x8x1024_0_0_5120)

set_option maxHeartbeats 2000000 in
/-- What point `t` writes. -/
theorem point (c : Dev nD) (t : Fin cfg0.N) (y : S512x1024.Idx) :
    outsAt0 m c t y = rows (iblk m c 0 t) (iblk m c 1 t) (iblk m c 2 t) (iblk m c 3 t) (iblk m c 4 t) (iblk m c 5 t) (iblk m c 6 t) y := by
  unfold outsAt0
  frame_out
  simp only [View.readCov_eq_canon']
  rw [canon_scr (iblk m c 1 t)]
  · rfl
  · generalize iblk m c 1 t = z
    funext y
    canon_tiles x h using Cert.Staging.cover _ (by sl_kernel_rfl) y
    all_goals
      obtain ⟨h0, h1, h2⟩ := Cert.Staging.place _ x y h
      have k0 : (x 0 : ℕ) < 1 := (x 0).isLt
      have k2 : (x 2 : ℕ) < 128 := (x 2).isLt
      simp only [Matrix.cons_val] at h0 h1 h2
      pointwise [scr,
        k0_pay2, k0_pay3, k0_pay4, k0_pay5, k0_pay6, k0_pay7, k0_pay8, k0_pay9, k0_pay10, k0_pay11, k0_pay12,
        k0_pay13, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65]
      exact same z (by first | rfl | omega | (dsimp only; omega)) (by first | rfl | omega | (dsimp only; omega))

/-- The stream after the mixer at one row. -/
theorem mid_at (z : FVec Ideal S64x8192 .bf16) (x : FVec Ideal S512x1024 .f32) (mods : FVec Ideal S1x8x6144 .f32)
    (w : FVec Ideal S1024x1024 .bf16) (r : Fin 512) (d : Fin 1024) :
    mid (scr z) x mods w (ix2 r d)
      = after (fun k => x (ix2 r k))
          (lin (fun k => z (ix2 ⟨(r : ℕ) / 8, by omega⟩ ⟨(r : ℕ) % 8 * 1024 + (k : ℕ), by omega⟩)) fun a b => w (ix2 a b))
          (fun k => mods (ix3 0 ⟨(r : ℕ) % 8, by omega⟩ k)) d := by
  unfold mid
  rw [pay68_at _ _ _ _ _ _ _ _ _ _ _ (fun k => z (ix2 ⟨(r : ℕ) / 8, by omega⟩ ⟨(r : ℕ) % 8 * 1024 + (k : ℕ), by omega⟩)) r d]
  · unfold ld after
    pointwise
  all_goals
    intro l
    unfold ld
    pointwise [scr]
  all_goals exact same z (by first | rfl | omega | (dsimp only; omega)) (by first | rfl | omega | (dsimp only; omega))

/-- The body's rows are the layer's endings. -/
theorem rows_at (x : FVec Ideal S512x1024 .f32) (z : FVec Ideal S64x8192 .bf16) (mods : FVec Ideal S1x8x6144 .f32)
    (g : FVec Ideal S1x1024 .f32) (w : FVec Ideal S1024x1024 .bf16) (w1 : FVec Ideal S1024x4096 .bf16)
    (w2 : FVec Ideal S4096x1024 .bf16) (r : Fin 512) (d : Fin 1024) :
    rows x z mods g w w1 w2 (ix2 r d)
      = ending (fun k => x (ix2 r k))
          (lin (fun k => z (ix2 ⟨(r : ℕ) / 8, by omega⟩ ⟨(r : ℕ) % 8 * 1024 + (k : ℕ), by omega⟩)) fun a b => w (ix2 a b))
          (fun k => mods (ix3 0 ⟨(r : ℕ) % 8, by omega⟩ k)) (fun k => g (ix2 0 k)) (fun a b => w1 (ix2 a b)) (fun a b => w2 (ix2 a b)) d := by
  unfold rows
  rw [pay1_at _ _ _ _ _ (fun a b => w1 (ix2 a b)) (fun a b => w2 (ix2 a b)) _ _ _ _ _ _ _ _ _ r d (fun k => rfl)]
  · simp only [pay70_at, mid_at]
    unfold ld
    pointwise [ending, input]
    rfl
  all_goals (intro a b; unfold ld; pointwise)

/-- The block of every window at point `t`. -/
theorem idx : ∀ t : Fin cfg0.N, t.val < 68 ∧ win0_0.index t = ![t.val, 0] ∧ win0_1.index t = ![t.val, 0]
    ∧ win0_2.index t = ![if t.val < 64 then 0 else 1, 0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- A block's row is a time step of a batch element. -/
theorem x_at (c : Dev nD) (t : Fin cfg0.N) (r : Fin 512) (d : Fin 1024) :
    (show FVec Ideal S512x1024 .f32 from iblk m c 0 t) (ix2 r d)
      = m ((c : Thread nD τ).loc main_arg0) (ix3 ⟨(r : ℕ) % 8, by omega⟩ ⟨t.val * 64 + (r : ℕ) / 8, by have := (idx t).1; omega⟩ d) := by
  blk_simp [iblk, V, idx t]
  entry_read
  pointwise
  blk_ext [idx t]

/-- The mixer's block holds its tokens' activations. -/
theorem z_at (c : Dev nD) (t : Fin cfg0.N) (r : Fin 512) (k : Fin 1024) :
    (show FVec Ideal S64x8192 .bf16 from iblk m c 1 t) (ix2 ⟨(r : ℕ) / 8, by omega⟩ ⟨(r : ℕ) % 8 * 1024 + (k : ℕ), by omega⟩)
      = m ((c : Thread nD τ).loc main_arg1) (ix3 ⟨(r : ℕ) % 8, by omega⟩ ⟨t.val * 64 + (r : ℕ) / 8, by have := (idx t).1; omega⟩ k) := by
  blk_simp [iblk, V, idx t]
  entry_read
  pointwise
  blk_ext [idx t]

/-- A latent block reads the latents' table of modulation. -/
theorem mods_lat (c : Dev nD) (t : Fin cfg0.N) (ht : t.val < 64) (r : Fin 8) (d : Fin 6144) :
    (show FVec Ideal S1x8x6144 .f32 from iblk m c 2 t) (ix3 0 r d) = m ((c : Thread nD τ).loc main_arg2) (ix2 r d) := by
  blk_simp [iblk, V, idx t, ht]
  entry_read
  pointwise
  refine (dif_pos ?_).trans ?_
  · blk_simp [idx t, ht]
    exact Nat.zero_lt_one
  · blk_ext [idx t, ht]

/-- A context block reads the context's. -/
theorem mods_ctx (c : Dev nD) (t : Fin cfg0.N) (ht : ¬ t.val < 64) (r : Fin 8) (d : Fin 6144) :
    (show FVec Ideal S1x8x6144 .f32 from iblk m c 2 t) (ix3 0 r d) = m ((c : Thread nD τ).loc main_arg3) (ix1 d) := by
  blk_simp [iblk, V, idx t, ht]
  entry_read
  pointwise
  refine (dif_neg ?_).trans ?_
  · blk_simp [idx t, ht]
    rw [if_neg not_false]
    exact Nat.not_lt.2 (Nat.le_add_right 1 _)
  · blk_ext [idx t, ht]

theorem g_at (c : Dev nD) (t : Fin cfg0.N) (d : Fin 1024) :
    (show FVec Ideal S1x1024 .f32 from iblk m c 3 t) (ix2 0 d) = m ((c : Thread nD τ).loc main_arg4) (ix1 d) := by
  blk_simp [iblk, V, idx t]
  entry_read
  pointwise
  blk_ext [idx t]

theorem w_at (c : Dev nD) (t : Fin cfg0.N) (a : Fin 1024) (b : Fin 1024) :
    (show FVec Ideal S1024x1024 .bf16 from iblk m c 4 t) (ix2 a b) = m ((c : Thread nD τ).loc main_arg5) (ix2 a b) := by
  blk_simp [iblk, V, idx t]
  entry_read
  pointwise
  blk_ext [idx t]

theorem w1_at (c : Dev nD) (t : Fin cfg0.N) (a : Fin 1024) (b : Fin 4096) :
    (show FVec Ideal S1024x4096 .bf16 from iblk m c 5 t) (ix2 a b) = m ((c : Thread nD τ).loc main_arg6) (ix2 a b) := by
  blk_simp [iblk, V, idx t]
  entry_read
  pointwise
  blk_ext [idx t]

theorem w2_at (c : Dev nD) (t : Fin cfg0.N) (a : Fin 4096) (b : Fin 1024) :
    (show FVec Ideal S4096x1024 .bf16 from iblk m c 6 t) (ix2 a b) = m ((c : Thread nD τ).loc main_arg7) (ix2 a b) := by
  blk_simp [iblk, V, idx t]
  entry_read
  pointwise
  blk_ext [idx t]

/-- A block's modulation row is its tokens'. -/
theorem mods_at (c : Dev nD) (t : Fin cfg0.N) (r : Fin 512) (k : Fin 6144) :
    (show FVec Ideal S1x8x6144 .f32 from iblk m c 2 t) (ix3 0 ⟨(r : ℕ) % 8, by omega⟩ k)
      = tokenMod (fun a b => m ((c : Thread nD τ).loc main_arg2) (ix2 a b)) (fun b => m ((c : Thread nD τ).loc main_arg3) (ix1 b))
          ⟨(r : ℕ) % 8, by omega⟩ ⟨t.val * 64 + (r : ℕ) / 8, by have := (idx t).1; omega⟩ k := by
  unfold tokenMod
  by_cases ht : t.val < 64
  · rw [if_pos (by dsimp only; omega)]
    exact mods_lat m c t ht _ k
  · rw [if_neg (by dsimp only; omega)]
    exact mods_ctx m c t ht _ k

/-- The layer's ending at batch element `b` and time `s`, from the arguments. -/
def rowAt (c : Dev nD) (b : Fin 8) (s : Fin 4352) (d : Fin 1024) : EReal :=
  ending (fun k => m ((c : Thread nD τ).loc main_arg0) (ix3 b s k))
    (lin (fun k => m ((c : Thread nD τ).loc main_arg1) (ix3 b s k)) fun k l => m ((c : Thread nD τ).loc main_arg5) (ix2 k l))
    (tokenMod (fun a b => m ((c : Thread nD τ).loc main_arg2) (ix2 a b)) (fun b => m ((c : Thread nD τ).loc main_arg3) (ix1 b)) b s)
    (fun k => m ((c : Thread nD τ).loc main_arg4) (ix1 k)) (fun k l => m ((c : Thread nD τ).loc main_arg6) (ix2 k l))
    (fun k l => m ((c : Thread nD τ).loc main_arg7) (ix2 k l)) d

/-- The block's rows are the endings of its tokens. -/
theorem block_at (c : Dev nD) (t : Fin cfg0.N) (r : Fin 512) (d : Fin 1024) :
    rows (iblk m c 0 t) (iblk m c 1 t) (iblk m c 2 t) (iblk m c 3 t) (iblk m c 4 t) (iblk m c 5 t) (iblk m c 6 t) (ix2 r d)
      = rowAt m c ⟨(r : ℕ) % 8, by omega⟩ ⟨t.val * 64 + (r : ℕ) / 8, by have := (idx t).1; omega⟩ d := by
  refine (rows_at _ _ _ _ _ _ _ r d).trans ?_
  rw [funext (x_at m c t r), funext (z_at m c t r), funext fun a => funext (w_at m c t a), funext (mods_at m c t r), funext (g_at m c t),
    funext fun a => funext (w1_at m c t a), funext fun a => funext (w2_at m c t a)]
  rfl

/-- The result array: row `8 s + b` is the token of batch element `b` at time `s`. -/
def target (c : Dev nD) : FVec Ideal S34816x1024 .f32 := fun j =>
  rowAt m c ⟨(j 0 : ℕ) % 8, by omega⟩ ⟨(j 0 : ℕ) / 8, by have h : (j 0 : ℕ) < 34816 := (j 0).isLt; omega⟩ (j 1)

/-- Rows at equal coordinates are equal. -/
theorem rowAt_same (c : Dev nD) {b b' : Fin 8} {s s' : Fin 4352} {d d' : Fin 1024} (hb : (b : ℕ) = b') (hs : (s : ℕ) = s')
    (hd : (d : ℕ) = d') : rowAt m c b s d = rowAt m c b' s' d' := by
  rw [Fin.ext hb, Fin.ext hs, Fin.ext hd]

/-- After the run the output array is `target`. -/
theorem final (c : Dev nD) : (dats m 0 c).arrAt 7 (cfgs 0).N = target m c := by
  refine (dats m 0 c).arrAt_eq_of_covers 7 _ (by decide +kernel) fun t _ y => ?_
  blk_simp
  rw [after0_7, point]
  have h0 : (y 0 : ℕ) < 512 := (y 0).isLt
  have e : ((cfg0.win 7).blk t).view.emb y = (ix2 ⟨t.val * 512 + (y 0 : ℕ), by
      have := (idx t).1
      omega⟩ (y 1) : S34816x1024.Idx) := by
    blk_ext [idx t]
  rw [e]
  refine ((congrArg _ (eq_ix2 y)).trans (block_at m c t (y 0) (y 1))).trans (rowAt_same m c ?_ ?_ rfl)
  · show (y 0 : ℕ) % 8 = (t.val * 512 + (y 0 : ℕ)) % 8
    omega
  · show t.val * 64 + (y 0 : ℕ) / 8 = (t.val * 512 + (y 0 : ℕ)) / 8
    omega

end Cert.Kernel4Ideal.Value

end
-- ==== Proof.LinClaims.lean ====
/- The claims of the second layer's closing call (attention's output weight, gated residual, modulated norm, squared-relu
   network, residual): its kernel's result array and its reference's are one function of the arguments. -/
module

public import proofs.«01_k».proof.Defs
public import proofs.«01_k».proof.Proof.LinValue
public import proofs.«01_k».proof.Proof.LinRef
public import proofs.«01_k».proof.Proof.Gen.Kernel4.Frame
public import Idealize.ShloMosaic.Lib.Quiescent

@[expose] public section

set_option maxRecDepth 16384

noncomputable section

namespace Cert.Proof.Lin

open Idealize.ShloMosaic Idealize.ShloMosaic.TcCoe Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- At the exact instance both programs end with the same result: at every row the layer's ending of the arguments. -/
theorem algebraic : Cert.algebraic_Kernel4Ideal_Reference4Ideal := by
  intro m g m' g' _ hagree
  refine ⟨fun c => Cert.Kernel4Ideal.Value.target m c,
    (θ_run Cert.Kernel4Ideal.defs _ _).mono (fun _ h c => ⟨(h c).1.trans (Cert.Kernel4Ideal.Value.final m c), (h c).2⟩)
      (Cert.Kernel4Ideal.Value.run_blocks (F := Ideal) m g), ?_⟩
  refine (θ_run Cert.Reference4Ideal.defs _ _).mono (fun _ h c => ⟨(h c).1.trans ?_, (h c).2⟩)
    (Cert.Reference4Ideal.Value.run (F := Ideal) m' g')
  obtain ⟨a0, a1, a2, a3, a4, a5, a6, a7⟩ := hagree c
  refine (Cert.Reference4Ideal.Value.res_eq m' c).trans ?_
  rw [a0, a1, a2, a3, a4, a5, a6, a7]
  funext j
  refine (congrArg _ (eq_ix2 j)).trans ((Cert.Reference4Ideal.Value.closing_at _ _ _ _ _ _ _
    ⟨(j 0 : ℕ) % 8, by omega⟩ ⟨(j 0 : ℕ) / 8, by have h : (j 0 : ℕ) < 34816 := (j 0).isLt; omega⟩ (j 0) (j 1) rfl rfl).trans ?_)
  simp only [Cert.Reference4Ideal.Value.proj_at]
  rfl

end Cert.Proof.Lin

end
-- ==== Proof.BiasKernel.lean ====
/- What the body of the third layer's closing call computes at one row of its block, named value by named value. -/
module

public import proofs.«01_k».proof.Proof.Gen.Kernel5Ideal.Skeleton
public import proofs.«01_k».proof.Proof.MlpEnding

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Cert.MlpRow

/-- The body's first sum is the mixer's gated residual; the mixer's row comes in eight runs of 128 channels. -/
theorem pay76_at (s0 s1 s2 s3 s4 s5 s6 s7 : FVec Ideal S1x512x128 .f32) (w : FVec Ideal S1024x1024 .bf16)
    (bias : FVec Ideal S1x1024 .f32) (x : FVec Ideal S512x1024 .f32) (mg : FVec Ideal S1x8x1024 .f32) (z : Fin 1024 → EReal)
    (r : Fin 512) (d : Fin 1024)
    (hs0 : ∀ l : Fin 128, s0 (ix3 0 r l) = z ⟨(l : ℕ), by omega⟩)
    (hs1 : ∀ l : Fin 128, s1 (ix3 0 r l) = z ⟨128 + (l : ℕ), by omega⟩)
    (hs2 : ∀ l : Fin 128, s2 (ix3 0 r l) = z ⟨256 + (l : ℕ), by omega⟩)
    (hs3 : ∀ l : Fin 128, s3 (ix3 0 r l) = z ⟨384 + (l : ℕ), by omega⟩)
    (hs4 : ∀ l : Fin 128, s4 (ix3 0 r l) = z ⟨512 + (l : ℕ), by omega⟩)
    (hs5 : ∀ l : Fin 128, s5 (ix3 0 r l) = z ⟨640 + (l : ℕ), by omega⟩)
    (hs6 : ∀ l : Fin 128, s6 (ix3 0 r l) = z ⟨768 + (l : ℕ), by omega⟩)
    (hs7 : ∀ l : Fin 128, s7 (ix3 0 r l) = z ⟨896 + (l : ℕ), by omega⟩) :
    k0_pay76 (F := Ideal) (k0_pay74 x) (k0_pay75 (k0_pay73 s0) s1 s2 s3 s4 s5 s6 s7 w bias mg) (ix2 r d)
      = gated (fun k => x (ix2 r k)) (fun k => lin z (fun a b => w (ix2 a b)) k + bias (ix2 0 k))
          (fun k => mg (ix3 0 ⟨(r : ℕ) % 8, by omega⟩ k)) d := by
  pointwise [k0_pay76, k0_pay74, k0_pay75, k0_pay73, gated, lin, hs0, hs1, hs2, hs3, hs4, hs5, hs6, hs7]
  refine congrArg (_ + ·) (congrArg (· * _) (congrArg (· + _) (Finset.sum_congr rfl fun k _ => congrArg (· * _) ?_)))
  split_ifs <;> exact congrArg z (Fin.ext (by first | rfl | (dsimp only; omega)))

/-- The row handed to the network is the modulated norm. -/
theorem pay77_at (v410 : FVec Ideal S512x1024 .f32) (v416 : FVec Ideal S64x8x1024 .f32) (g : FVec Ideal S1x1024 .f32)
    (v421 v423 : FVec Ideal S1x8x1024 .f32) (r : Fin 512) (d : Fin 1024) :
    k0_pay77 (F := Ideal) v410 v416 g v421 v423 (ix2 r d)
      = modnorm (fun k => k0_pay76 (F := Ideal) v410 v416 (ix2 r k)) (fun k => g (ix2 0 k))
          (fun k => v421 (ix3 0 ⟨(r : ℕ) % 8, by omega⟩ k)) (fun k => v423 (ix3 0 ⟨(r : ℕ) % 8, by omega⟩ k)) d := by
  pointwise [k0_pay77, modnorm]

/-- The body's last sum: the residual row plus the network's four runs of hidden units under the last gate. -/
theorem pay1_at (v410 : FVec Ideal S512x1024 .f32) (v416 : FVec Ideal S64x8x1024 .f32) (v419 : FVec Ideal S1x1024 .f32)
    (v421 v423 : FVec Ideal S1x8x1024 .f32)
    (h : Fin 1024 → EReal) (w1 : Fin 1024 → Fin 4096 → EReal) (w2 : Fin 4096 → Fin 1024 → EReal)
    (u0 u1 u2 u3 o0 o1 o2 o3 : FVec Ideal S1024x1024 .bf16) (mg : FVec Ideal S1x8x1024 .f32) (r : Fin 512) (d : Fin 1024)
    (hh : ∀ k, k0_pay77 (F := Ideal) v410 v416 v419 v421 v423 (ix2 r k) = h k)
    (hu0 : ∀ a b : Fin 1024, u0 (ix2 a b) = w1 a ⟨(b : ℕ), by omega⟩)
    (hu1 : ∀ a b : Fin 1024, u1 (ix2 a b) = w1 a ⟨1024 + (b : ℕ), by omega⟩)
    (hu2 : ∀ a b : Fin 1024, u2 (ix2 a b) = w1 a ⟨2048 + (b : ℕ), by omega⟩)
    (hu3 : ∀ a b : Fin 1024, u3 (ix2 a b) = w1 a ⟨3072 + (b : ℕ), by omega⟩)
    (ho0 : ∀ a b : Fin 1024, o0 (ix2 a b) = w2 ⟨(a : ℕ), by omega⟩ b)
    (ho1 : ∀ a b : Fin 1024, o1 (ix2 a b) = w2 ⟨1024 + (a : ℕ), by omega⟩ b)
    (ho2 : ∀ a b : Fin 1024, o2 (ix2 a b) = w2 ⟨2048 + (a : ℕ), by omega⟩ b)
    (ho3 : ∀ a b : Fin 1024, o3 (ix2 a b) = w2 ⟨3072 + (a : ℕ), by omega⟩ b) :
    k0_pay1 (F := Ideal) (k0_pay76 v410 v416) (k0_pay79 mg) (k0_pay80 (k0_pay77 v410 v416 v419 v421 v423)
        (k0_pay78 v410 v416 v419 v421 v423 u0 o0) u1 o1 u2 o2 u3 o3) (ix2 r d)
      = gated (fun k => k0_pay76 (F := Ideal) v410 v416 (ix2 r k)) (mlp h w1 w2)
          (fun k => mg (ix3 0 ⟨(r : ℕ) % 8, by omega⟩ k)) d := by
  pointwise [k0_pay1, k0_pay79, k0_pay80, k0_pay78, gated, mlp_quarters, unitTerm, hh, hu0, hu1, hu2, hu3, ho0, ho1, ho2, ho3]

end Cert.Kernel5Ideal.Value

end
-- ==== Proof.BiasValue.lean ====
/- What the third layer's closing call leaves in its result array: each point stages its block of the mixer's activations
   in scratch by chunks of 128 channels, and each row of the block becomes the layer's ending of its token. -/
module

public import proofs.«01_k».proof.Proof.Gen.Kernel5Ideal.Value
public import Idealize.ShloMosaic.Lib.Pipeline.ValueKit
public import proofs.«01_k».proof.Proof.Staging
public import proofs.«01_k».proof.Proof.BiasKernel
public import proofs.«01_k».proof.Proof.MlpValue

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Cert.MlpRow
open Cert.Kernel2Ideal.Value (ld)

variable (m : (ℓ : Loc nD τ sig) → Buf (Elt Ideal) ℓ)

/-- The mixer's block as the scratch holds it: by chunks of 128 channels, row `8 s + b` for time `s` of batch element `b`. -/
def scr (z : FVec Ideal S64x64x128 .bf16) : FVec Ideal S8x512x128 .f32 := fun y =>
  z (ix3 ⟨(y 1 : ℕ) % 8 * 8 + (y 0 : ℕ), by have h0 : (y 0 : ℕ) < 8 := (y 0).isLt; omega⟩
    ⟨(y 1 : ℕ) / 8, by have h : (y 1 : ℕ) < 512 := (y 1).isLt; omega⟩ (y 2))

/-- A load of the scratch reads its contents, whose equation is proved at the use. -/
theorem canon_scr (z : FVec Ideal S64x64x128 .bf16) (L : List (View.Piece (Elt Ideal) S8x512x128 .f32))
    (h : View.canon L = scr z) : View.canon L = scr z := h

/-- Entries of the mixer's block at equal coordinates are equal. -/
theorem same (z : FVec Ideal S64x64x128 .bf16) {i i' : Fin 64} {j j' : Fin 64} {k k' : Fin 128} (hi : (i : ℕ) = i')
    (hj : (j : ℕ) = j') (hk : (k : ℕ) = k') : z (ix3 i j k) = z (ix3 i' j' k') := by
  rw [Fin.ext hi, Fin.ext hj, Fin.ext hk]

/-- The mixer's output under its gate, from the scratch `Z`. -/
def gatedOut (Z : FVec Ideal S8x512x128 .f32) (mods : FVec Ideal S1x8x6144 .f32) (w : FVec Ideal S1024x1024 .bf16)
    (bias : FVec Ideal S1x1024 .f32) : FVec Ideal S64x8x1024 .f32 :=
  k0_pay75
    (k0_pay73 (ld (S := S8x512x128) (e := .f32) Z ![0, 0, 0] ![1, 512, 128] inb_S8x512x128_S1x512x128_0_0_0))
    (ld (S := S8x512x128) (e := .f32) Z ![1, 0, 0] ![1, 512, 128] inb_S8x512x128_S1x512x128_1_0_0)
    (ld (S := S8x512x128) (e := .f32) Z ![2, 0, 0] ![1, 512, 128] inb_S8x512x128_S1x512x128_2_0_0)
    (ld (S := S8x512x128) (e := .f32) Z ![3, 0, 0] ![1, 512, 128] inb_S8x512x128_S1x512x128_3_0_0)
    (ld (S := S8x512x128) (e := .f32) Z ![4, 0, 0] ![1, 512, 128] inb_S8x512x128_S1x512x128_4_0_0)
    (ld (S := S8x512x128) (e := .f32) Z ![5, 0, 0] ![1, 512, 128] inb_S8x512x128_S1x512x128_5_0_0)
    (ld (S := S8x512x128) (e := .f32) Z ![6, 0, 0] ![1, 512, 128] inb_S8x512x128_S1x512x128_6_0_0)
    (ld (S := S8x512x128) (e := .f32) Z ![7, 0, 0] ![1, 512, 128] inb_S8x512x128_S1x512x128_7_0_0)
    w bias (ld (S := S1x8x6144) (e := .f32) mods ![0, 0, 2048] ![1, 8, 1024] inb_S1x8x6144_S1x8x1024_0_0_2048)

/-- The stream after the mixer. -/
def mid (Z : FVec Ideal S8x512x128 .f32) (x : FVec Ideal S512x1024 .f32) (mods : FVec Ideal S1x8x6144 .f32)
    (w : FVec Ideal S1024x1024 .bf16) (bias : FVec Ideal S1x1024 .f32) : FVec Ideal S512x1024 .f32 :=
  k0_pay76 (k0_pay74 x) (gatedOut Z mods w bias)

/-- The body's result rows over the blocks it loads. -/
def rows (x : FVec Ideal S512x1024 .f32) (z : FVec Ideal S64x64x128 .bf16) (mods : FVec Ideal S1x8x6144 .f32)
    (g : FVec Ideal S1x1024 .f32) (w : FVec Ideal S1024x1024 .bf16) (bias : FVec Ideal S1x1024 .f32) (w1 : FVec Ideal S1024x4096 .bf16)
    (w2 : FVec Ideal S4096x1024 .bf16) : FVec Ideal S512x1024 .f32 :=
  k0_pay1 (mid (scr z) x mods w bias)
    (k0_pay79 (ld (S := S1x8x6144) (e := .f32) mods ![0, 0, 5120] ![1, 8, 1024] inb_S1x8x6144_S1x8x1024_0_0_5120))
    (k0_pay80
      (k0_pay77 (k0_pay74 x) (gatedOut (scr z) mods w bias) g
        (ld (S := S1x8x6144) (e := .f32) mods ![0, 0, 3072] ![1, 8, 1024] inb_S1x8x6144_S1x8x1024_0_0_3072)
        (ld (S := S1x8x6144) (e := .f32) mods ![0, 0, 4096] ![1, 8, 1024] inb_S1x8x6144_S1x8x1024_0_0_4096))
      (k0_pay78 (k0_pay74 x) (gatedOut (scr z) mods w bias) g
        (ld (S := S1x8x6144) (e := .f32) mods ![0, 0, 3072] ![1, 8, 1024] inb_S1x8x6144_S1x8x1024_0_0_3072)
        (ld (S := S1x8x6144) (e := .f32) mods ![0, 0, 4096] ![1, 8, 1024] inb_S1x8x6144_S1x8x1024_0_0_4096)
        (ld (S := S1024x4096) (e := .bf16) w1 ![0, 0] ![1024, 1024] inb_S1024x4096_S1024x1024_0_0)
        (ld (S := S4096x1024) (e := .bf16) w2 ![0, 0] ![1024, 1024] inb_S4096x1024_S1024x1024_0_0))
      (ld (S := S1024x4096) (e := .bf16) w1 ![0, 1024] ![1024, 1024] inb_S1024x4096_S1024x1024_0_1024)
      (ld (S := S4096x1024) (e := .bf16) w2 ![1024, 0] ![1024, 1024] inb_S4096x1024_S1024x1024_1024_0)
      (ld (S := S1024x4096) (e := .bf16) w1 ![0, 2048] ![1024, 1024] inb_S1024x4096_S1024x1024_0_2048)
      (ld (S := S4096x1024) (e := .bf16) w2 ![2048, 0] ![1024, 1024] inb_S4096x1024_S1024x1024_2048_0)
      (ld (S := S1024x4096) (e := .bf16) w1 ![0, 3072] ![1024, 1024] inb_S1024x4096_S1024x1024_0_3072)
      (ld (S := S4096x1024) (e := .bf16) w2 ![3072, 0] ![1024, 1024] inb_S4096x1024_S1024x1024_3072_0))

set_option maxHeartbeats 2000000 in
/-- What point `t` writes. -/
theorem point (c : Dev nD) (t : Fin cfg0.N) (y : S512x1024.Idx) :
    outsAt0 m c t y = rows (iblk m c 0 t) (iblk m c 1 t) (iblk m c 2 t) (iblk m c 3 t) (iblk m c 4 t) (iblk m c 5 t) (iblk m c 6 t) (iblk m c 7 t) y := by
  unfold outsAt0
  frame_out
  simp only [View.readCov_eq_canon']
  rw [canon_scr (iblk m c 1 t)]
  · rfl
  · generalize iblk m c 1 t = z
    funext y
    canon_tiles x h using Cert.Staging.cover _ (by sl_kernel_rfl) y
    all_goals
      obtain ⟨h0, h1, h2⟩ := Cert.Staging.place _ x y h
      have k0 : (x 0 : ℕ) < 1 := (x 0).isLt
      have k2 : (x 2 : ℕ) < 128 := (x 2).isLt
      simp only [Matrix.cons_val] at h0 h1 h2
      pointwise [scr,
        k0_pay2, k0_pay3, k0_pay4, k0_pay5, k0_pay6, k0_pay7, k0_pay8, k0_pay9, k0_pay10, k0_pay11, k0_pay12,
        k0_pay13, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67,
        k0_pay68, k0_pay69, k0_pay70, k0_pay71, k0_pay72]
      exact same z (by first | rfl | omega | (dsimp only; omega)) (by first | rfl | omega | (dsimp only; omega)) (by first | rfl | omega | (dsimp only; omega))

/-- The stream after the mixer at one row. -/
theorem mid_at (z : FVec Ideal S64x64x128 .bf16) (x : FVec Ideal S512x1024 .f32) (mods : FVec Ideal S1x8x6144 .f32)
    (w : FVec Ideal S1024x1024 .bf16) (bias : FVec Ideal S1x1024 .f32) (r : Fin 512) (d : Fin 1024) :
    mid (scr z) x mods w bias (ix2 r d)
      = after (fun k => x (ix2 r k))
          (fun j => lin (fun k => z (ix3 ⟨(r : ℕ) % 8 * 8 + (k : ℕ) / 128, by omega⟩ ⟨(r : ℕ) / 8, by omega⟩ ⟨(k : ℕ) % 128, by omega⟩)) (fun a b => w (ix2 a b)) j + bias (ix2 0 j))
          (fun k => mods (ix3 0 ⟨(r : ℕ) % 8, by omega⟩ k)) d := by
  unfold mid gatedOut
  rw [pay76_at _ _ _ _ _ _ _ _ _ _ _ _ (fun k => z (ix3 ⟨(r : ℕ) % 8 * 8 + (k : ℕ) / 128, by omega⟩ ⟨(r : ℕ) / 8, by omega⟩ ⟨(k : ℕ) % 128, by omega⟩)) r d]
  · unfold ld after
    pointwise
  all_goals
    intro l
    unfold ld
    pointwise [scr]
  all_goals exact same z (by first | rfl | omega | (dsimp only; omega)) (by first | rfl | omega | (dsimp only; omega)) (by first | rfl | omega | (dsimp only; omega))

/-- The body's rows are the layer's endings. -/
theorem rows_at (x : FVec Ideal S512x1024 .f32) (z : FVec Ideal S64x64x128 .bf16) (mods : FVec Ideal S1x8x6144 .f32)
    (g : FVec Ideal S1x1024 .f32) (w : FVec Ideal S1024x1024 .bf16) (bias : FVec Ideal S1x1024 .f32) (w1 : FVec Ideal S1024x4096 .bf16)
    (w2 : FVec Ideal S4096x1024 .bf16) (r : Fin 512) (d : Fin 1024) :
    rows x z mods g w bias w1 w2 (ix2 r d)
      = ending (fun k => x (ix2 r k))
          (fun j => lin (fun k => z (ix3 ⟨(r : ℕ) % 8 * 8 + (k : ℕ) / 128, by omega⟩ ⟨(r : ℕ) / 8, by omega⟩ ⟨(k : ℕ) % 128, by omega⟩)) (fun a b => w (ix2 a b)) j + bias (ix2 0 j))
          (fun k => mods (ix3 0 ⟨(r : ℕ) % 8, by omega⟩ k)) (fun k => g (ix2 0 k)) (fun a b => w1 (ix2 a b)) (fun a b => w2 (ix2 a b)) d := by
  unfold rows
  unfold mid
  rw [pay1_at _ _ _ _ _ _ (fun a b => w1 (ix2 a b)) (fun a b => w2 (ix2 a b)) _ _ _ _ _ _ _ _ _ r d (fun k => rfl)]
  · have e : ∀ k, k0_pay76 (F := Ideal) (k0_pay74 x) (gatedOut (scr z) mods w bias) (ix2 r k) = _ :=
      fun k => mid_at z x mods w bias r k
    simp only [pay77_at, e]
    unfold ld
    pointwise [ending, input]
    rfl
  all_goals (intro a b; unfold ld; pointwise)

/-- The block of every window at point `t`. -/
theorem idx : ∀ t : Fin cfg0.N, t.val < 68 ∧ win0_0.index t = ![t.val, 0] ∧ win0_1.index t = ![0, t.val, 0]
    ∧ win0_2.index t = ![if t.val < 64 then 0 else 1, 0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

/-- A block's row is a time step of a batch element. -/
theorem x_at (c : Dev nD) (t : Fin cfg0.N) (r : Fin 512) (d : Fin 1024) :
    (show FVec Ideal S512x1024 .f32 from iblk m c 0 t) (ix2 r d)
      = m ((c : Thread nD τ).loc main_arg0) (ix3 ⟨(r : ℕ) % 8, by omega⟩ ⟨t.val * 64 + (r : ℕ) / 8, by have := (idx t).1; omega⟩ d) := by
  blk_simp [iblk, V, idx t]
  entry_read
  pointwise
  blk_ext [idx t]

/-- The mixer's block holds its tokens' activations. -/
theorem z_at (c : Dev nD) (t : Fin cfg0.N) (r : Fin 512) (k : Fin 1024) :
    (show FVec Ideal S64x64x128 .bf16 from iblk m c 1 t) (ix3 ⟨(r : ℕ) % 8 * 8 + (k : ℕ) / 128, by omega⟩ ⟨(r : ℕ) / 8, by omega⟩ ⟨(k : ℕ) % 128, by omega⟩)
      = m ((c : Thread nD τ).loc main_arg1) (ix3 ⟨(r : ℕ) % 8, by omega⟩ ⟨t.val * 64 + (r : ℕ) / 8, by have := (idx t).1; omega⟩ k) := by
  blk_simp [iblk, V, idx t]
  entry_read
  pointwise
  blk_ext [idx t]

/-- A latent block reads the latents' table of modulation. -/
theorem mods_lat (c : Dev nD) (t : Fin cfg0.N) (ht : t.val < 64) (r : Fin 8) (d : Fin 6144) :
    (show FVec Ideal S1x8x6144 .f32 from iblk m c 2 t) (ix3 0 r d) = m ((c : Thread nD τ).loc main_arg2) (ix2 r d) := by
  blk_simp [iblk, V, idx t, ht]
  entry_read
  pointwise
  refine (dif_pos ?_).trans ?_
  · blk_simp [idx t, ht]
    exact Nat.zero_lt_one
  · blk_ext [idx t, ht]

/-- A context block reads the context's. -/
theorem mods_ctx (c : Dev nD) (t : Fin cfg0.N) (ht : ¬ t.val < 64) (r : Fin 8) (d : Fin 6144) :
    (show FVec Ideal S1x8x6144 .f32 from iblk m c 2 t) (ix3 0 r d) = m ((c : Thread nD τ).loc main_arg3) (ix1 d) := by
  blk_simp [iblk, V, idx t, ht]
  entry_read
  pointwise
  refine (dif_neg ?_).trans ?_
  · blk_simp [idx t, ht]
    rw [if_neg not_false]
    exact Nat.not_lt.2 (Nat.le_add_right 1 _)
  · blk_ext [idx t, ht]

theorem g_at (c : Dev nD) (t : Fin cfg0.N) (d : Fin 1024) :
    (show FVec Ideal S1x1024 .f32 from iblk m c 3 t) (ix2 0 d) = m ((c : Thread nD τ).loc main_arg4) (ix1 d) := by
  blk_simp [iblk, V, idx t]
  entry_read
  pointwise
  blk_ext [idx t]

theorem w_at (c : Dev nD) (t : Fin cfg0.N) (a : Fin 1024) (b : Fin 1024) :
    (show FVec Ideal S1024x1024 .bf16 from iblk m c 4 t) (ix2 a b) = m ((c : Thread nD τ).loc main_arg5) (ix2 a b) := by
  blk_simp [iblk, V, idx t]
  entry_read
  pointwise
  blk_ext [idx t]

theorem b_at (c : Dev nD) (t : Fin cfg0.N) (d : Fin 1024) :
    (show FVec Ideal S1x1024 .f32 from iblk m c 5 t) (ix2 0 d) = m ((c : Thread nD τ).loc main_arg6) (ix1 d) := by
  blk_simp [iblk, V, idx t]
  entry_read
  pointwise
  blk_ext [idx t]

theorem w1_at (c : Dev nD) (t : Fin cfg0.N) (a : Fin 1024) (b : Fin 4096) :
    (show FVec Ideal S1024x4096 .bf16 from iblk m c 6 t) (ix2 a b) = m ((c : Thread nD τ).loc main_arg7) (ix2 a b) := by
  blk_simp [iblk, V, idx t]
  entry_read
  pointwise
  blk_ext [idx t]

theorem w2_at (c : Dev nD) (t : Fin cfg0.N) (a : Fin 4096) (b : Fin 1024) :
    (show FVec Ideal S4096x1024 .bf16 from iblk m c 7 t) (ix2 a b) = m ((c : Thread nD τ).loc main_arg8) (ix2 a b) := by
  blk_simp [iblk, V, idx t]
  entry_read
  pointwise
  blk_ext [idx t]

/-- A block's modulation row is its tokens'. -/
theorem mods_at (c : Dev nD) (t : Fin cfg0.N) (r : Fin 512) (k : Fin 6144) :
    (show FVec Ideal S1x8x6144 .f32 from iblk m c 2 t) (ix3 0 ⟨(r : ℕ) % 8, by omega⟩ k)
      = tokenMod (fun a b => m ((c : Thread nD τ).loc main_arg2) (ix2 a b)) (fun b => m ((c : Thread nD τ).loc main_arg3) (ix1 b))
          ⟨(r : ℕ) % 8, by omega⟩ ⟨t.val * 64 + (r : ℕ) / 8, by have := (idx t).1; omega⟩ k := by
  unfold tokenMod
  by_cases ht : t.val < 64
  · rw [if_pos (by dsimp only; omega)]
    exact mods_lat m c t ht _ k
  · rw [if_neg (by dsimp only; omega)]
    exact mods_ctx m c t ht _ k

/-- The layer's ending at batch element `b` and time `s`, from the arguments. -/
def rowAt (c : Dev nD) (b : Fin 8) (s : Fin 4352) (d : Fin 1024) : EReal :=
  ending (fun k => m ((c : Thread nD τ).loc main_arg0) (ix3 b s k))
    (fun j => lin (fun k => m ((c : Thread nD τ).loc main_arg1) (ix3 b s k)) (fun k l => m ((c : Thread nD τ).loc main_arg5) (ix2 k l)) j + m ((c : Thread nD τ).loc main_arg6) (ix1 j))
    (tokenMod (fun a b => m ((c : Thread nD τ).loc main_arg2) (ix2 a b)) (fun b => m ((c : Thread nD τ).loc main_arg3) (ix1 b)) b s)
    (fun k => m ((c : Thread nD τ).loc main_arg4) (ix1 k)) (fun k l => m ((c : Thread nD τ).loc main_arg7) (ix2 k l))
    (fun k l => m ((c : Thread nD τ).loc main_arg8) (ix2 k l)) d

/-- The block's rows are the endings of its tokens. -/
theorem block_at (c : Dev nD) (t : Fin cfg0.N) (r : Fin 512) (d : Fin 1024) :
    rows (iblk m c 0 t) (iblk m c 1 t) (iblk m c 2 t) (iblk m c 3 t) (iblk m c 4 t) (iblk m c 5 t) (iblk m c 6 t) (iblk m c 7 t) (ix2 r d)
      = rowAt m c ⟨(r : ℕ) % 8, by omega⟩ ⟨t.val * 64 + (r : ℕ) / 8, by have := (idx t).1; omega⟩ d := by
  refine (rows_at _ _ _ _ _ _ _ _ r d).trans ?_
  rw [funext (x_at m c t r), funext (z_at m c t r), funext fun a => funext (w_at m c t a), funext (mods_at m c t r), funext (g_at m c t),
    funext fun a => funext (w1_at m c t a), funext fun a => funext (w2_at m c t a)]
  simp only [b_at m c t]
  rfl

/-- The result array: row `8 s + b` is the token of batch element `b` at time `s`. -/
def target (c : Dev nD) : FVec Ideal S34816x1024 .f32 := fun j =>
  rowAt m c ⟨(j 0 : ℕ) % 8, by omega⟩ ⟨(j 0 : ℕ) / 8, by have h : (j 0 : ℕ) < 34816 := (j 0).isLt; omega⟩ (j 1)

/-- Rows at equal coordinates are equal. -/
theorem rowAt_same (c : Dev nD) {b b' : Fin 8} {s s' : Fin 4352} {d d' : Fin 1024} (hb : (b : ℕ) = b') (hs : (s : ℕ) = s')
    (hd : (d : ℕ) = d') : rowAt m c b s d = rowAt m c b' s' d' := by
  rw [Fin.ext hb, Fin.ext hs, Fin.ext hd]

/-- After the run the output array is `target`. -/
theorem final (c : Dev nD) : (dats m 0 c).arrAt 8 (cfgs 0).N = target m c := by
  refine (dats m 0 c).arrAt_eq_of_covers 8 _ (by decide +kernel) fun t _ y => ?_
  blk_simp
  rw [after0_8, point]
  have h0 : (y 0 : ℕ) < 512 := (y 0).isLt
  have e : ((cfg0.win 8).blk t).view.emb y = (ix2 ⟨t.val * 512 + (y 0 : ℕ), by
      have := (idx t).1
      omega⟩ (y 1) : S34816x1024.Idx) := by
    blk_ext [idx t]
  rw [e]
  refine ((congrArg _ (eq_ix2 y)).trans (block_at m c t (y 0) (y 1))).trans (rowAt_same m c ?_ ?_ rfl)
  · show (y 0 : ℕ) % 8 = (t.val * 512 + (y 0 : ℕ)) % 8
    omega
  · show t.val * 64 + (y 0 : ℕ) / 8 = (t.val * 512 + (y 0 : ℕ)) / 8
    omega

end Cert.Kernel5Ideal.Value

end
-- ==== Proof.BiasClaims.lean ====
/- The claims of the third layer's closing call (the Fourier mixer's output weight and bias, gated residual, modulated norm,
   squared-relu network, residual): its kernel's result array and its reference's are one function of the arguments. -/
module

public import proofs.«01_k».proof.Defs
public import proofs.«01_k».proof.Proof.BiasValue
public import proofs.«01_k».proof.Proof.LinRef
public import proofs.«01_k».proof.Proof.Gen.Kernel5.Frame
public import proofs.«01_k».proof.Proof.Gen.Reference5Ideal.Run
public import Idealize.ShloMosaic.Lib.Quiescent

@[expose] public section

set_option maxRecDepth 16384

noncomputable section

namespace Cert.Reference5Ideal.Value

open Cert.Reference5Ideal Cert.Reference5Ideal.Gen Idealize.ShloMosaic Idealize.ShloMosaic.TcCoe Idealize.SL.Sem
open Cert.MlpRow
open Cert.Reference4Ideal.Value (closing closing_at)

/-- The mixer's output through the square weight, with the bias. -/
def biased (z : FVec Ideal S8x4352x1024 .f32) (w : FVec Ideal S1024x1024 .f32) (bias : FVec Ideal S1024 .f32) :
    FVec Ideal S8x4352x1024 .f32 :=
  addf (Host.dotGeneral dot_S8x4352x1024_S1024x1024_S8x4352x1024_2_0_01_1_n_n none z w) (broadcastInDim S8x4352x1024 ![0, 1, 2] bcast_S1x1x1024_S8x4352x1024_0_1_2 (broadcastInDim S1x1x1024 ![2] bcast_S1024_S1x1x1024_2 bias))

/-- The reference's result from it and the layers' common ending. -/
theorem res_eq (m : (ℓ : Loc nD τ sig) → Buf (Elt Ideal) ℓ) (c : Dev nD) :
    res_out0 m c = closing (m ((c.tc : Thread nD τ).loc main_arg0))
      (biased (m ((c.tc : Thread nD τ).loc main_arg1)) (m ((c.tc : Thread nD τ).loc main_arg5)) (m ((c.tc : Thread nD τ).loc main_arg6)))
      (m ((c.tc : Thread nD τ).loc main_arg2)) (m ((c.tc : Thread nD τ).loc main_arg3)) (m ((c.tc : Thread nD τ).loc main_arg4))
      (m ((c.tc : Thread nD τ).loc main_arg7)) (m ((c.tc : Thread nD τ).loc main_arg8)) := rfl

theorem biased_at (z : FVec Ideal S8x4352x1024 .f32) (w : FVec Ideal S1024x1024 .f32) (bias : FVec Ideal S1024 .f32) (b : Fin 8)
    (s : Fin 4352) (d : Fin 1024) :
    biased z w bias (ix3 b s d) = lin (fun k => z (ix3 b s k)) (fun k l => w (ix2 k l)) d + bias (ix1 d) := by
  pointwise [biased, lin]

end Cert.Reference5Ideal.Value

namespace Cert.Proof.Bias

open Idealize.ShloMosaic Idealize.ShloMosaic.TcCoe Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- At the exact instance both programs end with the same result: at every row the layer's ending of the arguments. -/
theorem algebraic : Cert.algebraic_Kernel5Ideal_Reference5Ideal := by
  intro m g m' g' _ hagree
  refine ⟨fun c => Cert.Kernel5Ideal.Value.target m c,
    (θ_run Cert.Kernel5Ideal.defs _ _).mono (fun _ h c => ⟨(h c).1.trans (Cert.Kernel5Ideal.Value.final m c), (h c).2⟩)
      (Cert.Kernel5Ideal.Value.run_blocks (F := Ideal) m g), ?_⟩
  refine (θ_run Cert.Reference5Ideal.defs _ _).mono (fun _ h c => ⟨(h c).1.trans ?_, (h c).2⟩)
    (Cert.Reference5Ideal.Value.run (F := Ideal) m' g')
  obtain ⟨a0, a1, a2, a3, a4, a5, a6, a7, a8⟩ := hagree c
  refine (Cert.Reference5Ideal.Value.res_eq m' c).trans ?_
  rw [a0, a1, a2, a3, a4, a5, a6, a7, a8]
  funext j
  refine (congrArg _ (eq_ix2 j)).trans ((Cert.Reference4Ideal.Value.closing_at _ _ _ _ _ _ _
    ⟨(j 0 : ℕ) % 8, by omega⟩ ⟨(j 0 : ℕ) / 8, by have h : (j 0 : ℕ) < 34816 := (j 0).isLt; omega⟩ (j 0) (j 1) rfl rfl).trans ?_)
  simp only [Cert.Reference5Ideal.Value.biased_at]
  rfl

end Cert.Proof.Bias

end
-- ==== Proof.QkvRow.lean ====
/- What the attention layer's projection computes for one row (one batch element at one time), as its body computes it:
   the modulated norm, the product with a third of `w_qkv`, the norm of each group of 64 channels by a product with 0-1
   segments, and the rotary embedding by lanes. Scratch holds the rows by chunks of 128 channels. -/
module

public import Idealize.ShloMosaic.Lib.Pipeline.ValueKit
public import proofs.«01_k».proof.Proof.MlpEnding
public import proofs.«01_k».proof.Proof.Staging

@[expose] public section

set_option maxRecDepth 16384

noncomputable section

namespace Cert.QkvRow

open Idealize.ShloMosaic Idealize.SL.Sem
open Cert.MlpRow

/-- Channel `j` of the 256 channels that hold the `n`-th chunk of 128. -/
def col : ℕ → Fin 256 → Fin 1024
  | 0 | 1 => fun j => ⟨(j : ℕ), by omega⟩
  | 2 | 3 => fun j => ⟨256 + (j : ℕ), by omega⟩
  | 4 | 5 => fun j => ⟨512 + (j : ℕ), by omega⟩
  | 6 | 7 => fun j => ⟨768 + (j : ℕ), by omega⟩
  | _ + 8 => fun j => ⟨(j : ℕ), by omega⟩

/-- Channel `l` of the `n`-th chunk, counted within its 256 channels. -/
def lane : ℕ → Fin 128 → Fin 256
  | 0 | 2 | 4 | 6 => fun l => ⟨(l : ℕ), by omega⟩
  | 1 | 3 | 5 | 7 => fun l => ⟨128 + (l : ℕ), by omega⟩
  | _ + 8 => fun l => ⟨(l : ℕ), by omega⟩

theorem col_val (n : ℕ) (hn : n < 8) (j : Fin 256) : (col n j : ℕ) = 256 * (n / 2) + (j : ℕ) := by
  interval_cases n <;> simp [col]

theorem lane_val (n : ℕ) (hn : n < 8) (l : Fin 128) : (lane n l : ℕ) = 128 * (n % 2) + (l : ℕ) := by
  interval_cases n <;> simp [lane]

/-- The row over the root mean square of each group of 64 channels, times the gain, at channel `p` of the channels `C`. -/
def headNorm (T gain : Fin 1024 → EReal) (seg : Fin 256 → Fin 256 → EReal) (C : Fin 256 → Fin 1024) (p : Fin 256) : EReal :=
  T (C p) * Ideal.rsqrt ((∑ x, T (C x) * T (C x) * seg x p) * Ideal.ofBits .f32 0x3C800000#32 + Ideal.ofBits .f32 0x358637BD#32)
    * gain (C p)

/-- The rotary embedding at lane `l`: each lane with its partner 16 lanes on or back. -/
def rotated (n : Fin 256 → EReal) (P : Fin 128 → Fin 256) (cos sin : Fin 128 → EReal) (l : Fin 128) : EReal :=
  n (P l) * cos l
    + (if (l : ℕ) % 32 < 16 then n (P ⟨((l : ℕ) + 128 - 112) % 128, Nat.mod_lt _ (by decide)⟩)
        else n (P ⟨((l : ℕ) + 128 - 16) % 128, Nat.mod_lt _ (by decide)⟩)) * sin l

/-- A select on a comparison's bit is the comparison's `if`. -/
theorem select_ite (p : Prop) [Decidable p] (a b : EReal) :
    Scalar.select (if p then 1#1 else 0#1) a b = if p then a else b := by
  by_cases h : p <;> simp [h, Scalar.select]

variable {Val : EltTy → Type} {e : EltTy}

/-- Whether a piece is rows `o` to `o + 256` of chunk `c`. -/
def isHalf (p : View.Piece Val Staging.S e) (c o : ℕ) : Bool :=
  p.1.off 0 == c && p.1.off 1 == o && p.1.off 2 == 0 && (p.1.size 0 == 1 && p.1.size 1 == 256 && p.1.size 2 == 128)
    && (p.1.stride 0 == 1 && p.1.stride 1 == 1 && p.1.stride 2 == 1)

/-- Whether a body's stores hold rows `o` to `o + 256` of every chunk. -/
def hasHalf (L : List (View.Piece Val Staging.S e)) (o : ℕ) : Bool :=
  (List.range 8).all fun c => L.any fun p => isHalf p c o

/-- Such stores cover those rows. -/
theorem cover_half (L : List (View.Piece Val Staging.S e)) (o : ℕ) (h : hasHalf L o = true) (y : Staging.S.Idx)
    (lo : o ≤ (y 1 : ℕ)) (hi : (y 1 : ℕ) < o + 256) : ∃ p ∈ L, y ∈ p.1.set := by
  have y0 : (y 0 : ℕ) < 8 := (y 0).isLt
  have y2 : (y 2 : ℕ) < 128 := (y 2).isLt
  have h1 := List.all_eq_true.mp h _ (List.mem_range.mpr y0)
  obtain ⟨p, hp, hr⟩ := List.any_eq_true.mp h1
  simp only [isHalf, Bool.and_eq_true, beq_iff_eq] at hr
  obtain ⟨⟨⟨⟨o0, o1⟩, o2⟩, ⟨s0, s1⟩, s2⟩, ⟨t0, t1⟩, t2⟩ := hr
  refine ⟨p, hp, p.1.mem_set.mpr fun a => ?_⟩
  match a with
  | 0 => exact ⟨0, by rw [s0]; exact Nat.one_pos, by rw [o0]; rfl⟩
  | 1 => exact ⟨(y 1 : ℕ) - o, by rw [s1]; omega, by rw [o1, t1]; omega⟩
  | 2 => exact ⟨(y 2 : ℕ), by rw [s2]; omega, by rw [o2, t2]; omega⟩

/-- Stores of both halves cover the scratch. -/
theorem cover_both (L : List (View.Piece Val Staging.S e)) (h : hasHalf L 0 = true) (h' : hasHalf L 256 = true)
    (y : Staging.S.Idx) : ∃ p ∈ L, y ∈ p.1.set := by
  have y1 : (y 1 : ℕ) < 512 := (y 1).isLt
  by_cases c : (y 1 : ℕ) < 256
  · exact cover_half L 0 h y (Nat.zero_le _) (by omega)
  · exact cover_half L 256 h' y (by omega) (by omega)

/-- The contents `f` in the first 256 rows and whatever `g` is in the others. -/
def cut (f g : FVec Ideal Staging.S .f32) : FVec Ideal Staging.S .f32 := fun y => if (y 1 : ℕ) < 256 then f y else g y

/-- A load of the scratch reads its contents, whose equation is proved at the use. -/
theorem canon_all (f : FVec Ideal Staging.S .f32) (L : List (View.Piece (Elt Ideal) Staging.S .f32))
    (h : ∀ y, View.canon L y = f y) : View.canon L = f := funext h

/-- A load of the scratch before its second half is written. -/
theorem canon_cut (f : FVec Ideal Staging.S .f32) (L : List (View.Piece (Elt Ideal) Staging.S .f32))
    (h : ∀ y : Staging.S.Idx, (y 1 : ℕ) < 256 → View.canon L y = f y) : View.canon L = cut f (View.canon L) := by
  funext y
  unfold cut
  split_ifs with c
  · exact h y c
  · rfl

/-- Entries at equal coordinates are equal. -/
theorem same (f : FVec Ideal Staging.S .f32) {i i' : Fin 8} {j j' : Fin 512} {k k' : Fin 128} (hi : (i : ℕ) = i')
    (hj : (j : ℕ) = j') (hk : (k : ℕ) = k') : f (ix3 i j k) = f (ix3 i' j' k') := by
  rw [Fin.ext hi, Fin.ext hj, Fin.ext hk]

theorem same_cut (f g : FVec Ideal Staging.S .f32) {i i' : Fin 8} {j j' : Fin 512} {k k' : Fin 128} (c : (j : ℕ) < 256)
    (hi : (i : ℕ) = i') (hj : (j : ℕ) = j') (hk : (k : ℕ) = k') : cut f g (ix3 i j k) = f (ix3 i' j' k') :=
  (if_pos c).trans (same f hi hj hk)

end Cert.QkvRow

end
-- ==== Proof.QkvEq.lean ====
/- The projection's heads at one token, written plainly: the norm of a head, the turning of its pairs, and that the
   kernel's form, which works on chunks of 128 lanes and 256 columns with tables of lanes, is the same. -/
module

public import proofs.«01_k».proof.Proof.QkvRow
public import proofs.«01_k».proof.Proof.MlpEnding

@[expose] public section

noncomputable section

namespace Cert.QkvRow

open Idealize.ShloMosaic Idealize.ShloMosaic.TcCoe
open scoped BigOperators

/-- The norm of one head. -/
def headNormed (T g : Fin 64 → EReal) (e : Fin 64) : EReal :=
  T e * Ideal.rsqrt (Ideal.div (∑ k, T k * T k) (Ideal.ofBits .f32 0x42800000#32) + Ideal.ofBits .f32 0x358637BD#32) * g e

/-- Sixteen pairs, turned by their angles. -/
def turn (u : Fin 32 → EReal) (c s : Fin 16 → EReal) (e : Fin 32) : EReal :=
  if h : (e : ℕ) < 16 then u ⟨e, by omega⟩ * c ⟨e, h⟩ - u ⟨16 + (e : ℕ), by omega⟩ * s ⟨e, h⟩
  else u ⟨(e : ℕ) - 16, by omega⟩ * s ⟨(e : ℕ) - 16, by omega⟩ + u ⟨16 + ((e : ℕ) - 16), by omega⟩ * c ⟨(e : ℕ) - 16, by omega⟩

/-- A head, its first half turned by the row's angles, its second by the column's. -/
def turned (n : Fin 64 → EReal) (cr sr cc sc : Fin 16 → EReal) (e : Fin 64) : EReal :=
  if h : (e : ℕ) < 32 then turn (fun i => n ⟨i, by omega⟩) cr sr ⟨e, h⟩
  else turn (fun i => n ⟨32 + (i : ℕ), by omega⟩) cc sc ⟨(e : ℕ) - 32, by omega⟩

/-- Lane `e` of a head from four tables of sixteen lanes. -/
def four (p0 p1 p2 p3 : Fin 16 → EReal) (e : Fin 64) : EReal :=
  if h0 : (e : ℕ) < 16 then p0 ⟨e, h0⟩ else if h1 : (e : ℕ) < 32 then p1 ⟨(e : ℕ) - 16, by omega⟩
  else if h2 : (e : ℕ) < 48 then p2 ⟨(e : ℕ) - 32, by omega⟩ else p3 ⟨(e : ℕ) - 48, by omega⟩

/-- A sixty-fourth of a sum is its mean over sixty-four. -/
theorem mean_eq (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee]
    rw [← EReal.coe_mul]
    norm_num
  have h2 : Ideal.ofBits .f32 0x42800000#32 = ((64 : ℝ) : EReal) := by
    simp [Ideal.ofBits, Ideal.ieee]
    rw [← EReal.coe_mul]
    norm_num
  have h3 : ((64 : ℝ) : EReal) ≠ 0 := by
    intro h
    norm_num at h
  rw [h1, h2]
  unfold Ideal.div
  rw [if_neg h3, one_div, EReal.coe_inv]

/-- The kernel's norm, by 0-1 segments of 256 columns, is the head's. -/
theorem headNorm_eq (T gain : Fin 1024 → EReal) (seg : Fin 256 → Fin 256 → EReal) (g : Fin 64 → EReal)
    (hg : ∀ d, gain d = g ⟨(d : ℕ) % 64, by omega⟩)
    (hseg : ∀ a b, seg a b = if (a : ℕ) / 64 = (b : ℕ) / 64 then 1 else 0)
    (n : ℕ) (hn : n < 8) (p : Fin 256) (q : Fin 16) (i : Fin 64) (hp : (col n p : ℕ) = (q : ℕ) * 64 + (i : ℕ)) :
    headNorm T gain seg (col n) p = headNormed (fun k => T ⟨(q : ℕ) * 64 + (k : ℕ), by omega⟩) g i := by
  have hv := col_val n hn
  have hs : ∑ x, T (col n x) * T (col n x) * seg x p
      = ∑ k : Fin 64, T ⟨(q : ℕ) * 64 + (k : ℕ), by omega⟩ * T ⟨(q : ℕ) * 64 + (k : ℕ), by omega⟩ := by
    rw [Fin.sum_univ_tiles 4 64 rfl, Finset.sum_eq_single (⟨(p : ℕ) / 64, by omega⟩ : Fin 4)]
    · refine Finset.sum_congr rfl fun k _ => ?_
      have e : col n ⟨(p : ℕ) / 64 * 64 + (k : ℕ), by omega⟩ = ⟨(q : ℕ) * 64 + (k : ℕ), by omega⟩ := by
        apply Fin.ext
        have h1 := hv p
        rw [hv]
        dsimp only
        omega
      rw [hseg, if_pos (by dsimp only; omega), mul_one]
      exact congrArg₂ (· * ·) (congrArg T e) (congrArg T e)
    · intro j _ hj
      refine Finset.sum_eq_zero fun k _ => ?_
      rw [hseg, if_neg, mul_zero]
      intro h
      refine hj (Fin.ext ?_)
      dsimp only at h ⊢
      omega
    · intro h
      exact absurd (Finset.mem_univ _) h
  have e : col n p = ⟨(q : ℕ) * 64 + (i : ℕ), by omega⟩ := Fin.ext hp
  have eg : (⟨(col n p : ℕ) % 64, by omega⟩ : Fin 64) = i := Fin.ext (by dsimp only; omega)
  unfold headNorm headNormed
  rw [hs, hg, eg, mean_eq, e]

/-- The kernel's rotation by lanes turns a head's pairs. -/
theorem rotated_turned (N : Fin 256 → EReal) (P : Fin 128 → Fin 256) (cos sin : Fin 128 → EReal) (cr sr cc sc : Fin 16 → EReal)
    (h : Fin 64 → EReal) (a : ℕ) (ha : a < 2) (l : Fin 128) (e : Fin 64) (hl : (l : ℕ) = 64 * a + (e : ℕ))
    (hN : ∀ (l' : Fin 128) (i : Fin 64), (l' : ℕ) = 64 * a + (i : ℕ) → N (P l') = h i)
    (hc : cos l = four cr cr cc cc e) (hs : sin l = four (fun i => -sr i) sr (fun i => -sc i) sc e) :
    rotated N P cos sin l = turned h cr sr cc sc e := by
  unfold rotated
  rw [hc, hs, hN l e hl]
  by_cases e0 : (e : ℕ) < 16
  · rw [if_pos (by omega), hN _ ⟨16 + (e : ℕ), by omega⟩ (by dsimp only; omega)]
    simp only [four, turned, turn, e0, show (e : ℕ) < 32 by omega, dite_true]
    rw [mul_neg, sub_eq_add_neg]
  by_cases e1 : (e : ℕ) < 32
  · rw [if_neg (by omega), hN _ ⟨(e : ℕ) - 16, by omega⟩ (by dsimp only; omega)]
    simp only [four, turned, turn, e0, e1, dite_true, dite_false]
    rw [add_comm]
    exact congrArg (fun j => _ + h j * _) (Fin.ext (by dsimp only; omega))
  by_cases e2 : (e : ℕ) < 48
  · rw [if_pos (by omega), hN _ ⟨16 + (e : ℕ), by omega⟩ (by dsimp only; omega)]
    simp only [four, turned, turn, e0, e1, e2, show (e : ℕ) - 32 < 16 by omega, dite_true, dite_false]
    rw [mul_neg, sub_eq_add_neg]
    have i0 : (⟨32 + ((e : ℕ) - 32), by omega⟩ : Fin 64) = e := Fin.ext (by dsimp only; omega)
    have i1 : (⟨32 + (16 + ((e : ℕ) - 32)), by omega⟩ : Fin 64) = ⟨16 + (e : ℕ), by omega⟩ := Fin.ext (by dsimp only; omega)
    rw [i0, i1]
  · rw [if_neg (by omega), hN _ ⟨(e : ℕ) - 16, by omega⟩ (by dsimp only; omega)]
    simp only [four, turned, turn, e0, e1, e2, show ¬(e : ℕ) - 32 < 16 by omega, dite_true, dite_false]
    have i0 : (⟨32 + (16 + ((e : ℕ) - 32 - 16)), by omega⟩ : Fin 64) = e := Fin.ext (by dsimp only; omega)
    have i1 : (⟨32 + ((e : ℕ) - 32 - 16), by omega⟩ : Fin 64) = ⟨(e : ℕ) - 16, by omega⟩ := Fin.ext (by dsimp only; omega)
    have i2 : (⟨(e : ℕ) - 32 - 16, by omega⟩ : Fin 16) = ⟨(e : ℕ) - 48, by omega⟩ := Fin.ext (by dsimp only; omega)
    rw [i0, i1, i2, add_comm]

/-- Where the cosines are one and the sines zero nothing turns. -/
theorem rotated_same (N : Fin 256 → EReal) (P : Fin 128 → Fin 256) (cos sin : Fin 128 → EReal) (l : Fin 128)
    (hc : cos l = 1) (hs : sin l = 0) : rotated N P cos sin l = N (P l) := by
  unfold rotated
  rw [hc, hs, mul_one, mul_zero, add_zero]

/-- Lane `e` of head `q` of a token at time `s`: the head's norm, turned for a latent. -/
def head (T : Fin 1024 → EReal) (g : Fin 64 → EReal) (cr sr cc sc : Fin 4096 → Fin 16 → EReal) (s : Fin 4352) (q : Fin 16) (e : Fin 64) : EReal :=
  if h : (s : ℕ) < 4096 then
    turned (headNormed (fun k => T ⟨(q : ℕ) * 64 + (k : ℕ), by omega⟩) g) (cr ⟨s, h⟩) (sr ⟨s, h⟩) (cc ⟨s, h⟩) (sc ⟨s, h⟩) e
  else headNormed (fun k => T ⟨(q : ℕ) * 64 + (k : ℕ), by omega⟩) g e

/-- Lane `l` of the kernel's chunk `n` is lane `l % 64` of head `2 n + l / 64`. -/
theorem chunk_head (T gain : Fin 1024 → EReal) (seg : Fin 256 → Fin 256 → EReal) (g : Fin 64 → EReal)
    (hg : ∀ d, gain d = g ⟨(d : ℕ) % 64, by omega⟩)
    (hseg : ∀ a b, seg a b = if (a : ℕ) / 64 = (b : ℕ) / 64 then 1 else 0)
    (cos sin : Fin 128 → EReal) (cr sr cc sc : Fin 4096 → Fin 16 → EReal) (s : Fin 4352) (n : Fin 8) (l : Fin 128)
    (hc : cos l = if h : (s : ℕ) < 4096 then four (cr ⟨s, h⟩) (cr ⟨s, h⟩) (cc ⟨s, h⟩) (cc ⟨s, h⟩) ⟨(l : ℕ) % 64, by omega⟩ else 1)
    (hs : sin l = if h : (s : ℕ) < 4096 then
        four (fun i => -sr ⟨s, h⟩ i) (sr ⟨s, h⟩) (fun i => -sc ⟨s, h⟩ i) (sc ⟨s, h⟩) ⟨(l : ℕ) % 64, by omega⟩ else 0) :
    rotated (headNorm T gain seg (col n)) (lane n) cos sin l
      = head T g cr sr cc sc s ⟨2 * (n : ℕ) + (l : ℕ) / 64, by omega⟩ ⟨(l : ℕ) % 64, by omega⟩ := by
  have hN : ∀ (l' : Fin 128) (i : Fin 64), (l' : ℕ) = 64 * ((l : ℕ) / 64) + (i : ℕ) →
      headNorm T gain seg (col n) (lane n l')
        = headNormed (fun k => T ⟨(2 * (n : ℕ) + (l : ℕ) / 64) * 64 + (k : ℕ), by omega⟩) g i := by
    intro l' i h
    refine headNorm_eq T gain seg g hg hseg n n.isLt _ ⟨2 * (n : ℕ) + (l : ℕ) / 64, by omega⟩ i ?_
    rw [col_val n n.isLt, lane_val n n.isLt]
    dsimp only
    omega
  have hl : (l : ℕ) = 64 * ((l : ℕ) / 64) + (l : ℕ) % 64 := by omega
  unfold head
  by_cases h : (s : ℕ) < 4096
  · rw [dif_pos h] at hc hs ⊢
    exact rotated_turned _ _ _ _ _ _ _ _ _ ((l : ℕ) / 64) (by omega) l ⟨(l : ℕ) % 64, by omega⟩ hl hN hc hs
  · rw [dif_neg h] at hc hs ⊢
    rw [rotated_same _ _ _ _ _ hc hs]
    exact hN l ⟨(l : ℕ) % 64, by omega⟩ hl

end Cert.QkvRow

end
-- ==== Proof.QkvKernel.lean ====
/- The projection's body over its blocks: the modulated norm of its rows, and the three scratches (queries, keys, values by
   chunks of 128 channels) it fills before it lays them out. -/
module

public import proofs.«01_k».proof.Proof.Gen.Kernel6Ideal.Skeleton
public import proofs.«01_k».proof.Proof.QkvRow

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.MlpRow Cert.QkvRow

theorem pay2_at (x : FVec Ideal S256x1024 .f32) (g : FVec Ideal S1x1024 .f32) (v417 v419 : FVec Ideal S1x8x1024 .f32)
    (r : Fin 256) (d : Fin 1024) :
    k0_pay2 (F := Ideal) x g v417 v419 (ix2 r d)
      = modnorm (fun k => x (ix2 r k)) (fun k => g (ix2 0 k)) (fun k => v417 (ix3 0 ⟨(r : ℕ) % 8, by omega⟩ k))
          (fun k => v419 (ix3 0 ⟨(r : ℕ) % 8, by omega⟩ k)) d := by
  pointwise [k0_pay2, modnorm]

theorem pay285_at (x : FVec Ideal S256x1024 .f32) (g : FVec Ideal S1x1024 .f32) (v417 v419 : FVec Ideal S1x8x1024 .f32)
    (r : Fin 256) (d : Fin 1024) :
    k0_pay285 (F := Ideal) x g v417 v419 (ix2 r d)
      = modnorm (fun k => x (ix2 r k)) (fun k => g (ix2 0 k)) (fun k => v417 (ix3 0 ⟨(r : ℕ) % 8, by omega⟩ k))
          (fun k => v419 (ix3 0 ⟨(r : ℕ) % 8, by omega⟩ k)) d := by
  pointwise [k0_pay285, modnorm]

/-- The modulated norm of a block's row. -/
def hrow (x : FVec Ideal S512x1024 .f32) (mods : FVec Ideal S1x8x6144 .f32) (g : FVec Ideal S1x1024 .f32) (r : Fin 512) (d : Fin 1024) : EReal :=
  modnorm (fun k => x (ix2 r k)) (fun k => g (ix2 0 k)) (fun k => mods (ix3 0 ⟨(r : ℕ) % 8, by omega⟩ ⟨(k : ℕ), by omega⟩))
    (fun k => mods (ix3 0 ⟨(r : ℕ) % 8, by omega⟩ ⟨1024 + (k : ℕ), by omega⟩)) d

theorem hrow_lo (x : FVec Ideal S512x1024 .f32) (mods : FVec Ideal S1x8x6144 .f32) (g : FVec Ideal S1x1024 .f32) (r : Fin 256) (d : Fin 1024) :
    k0_pay2 (F := Ideal) (View.ld (Val := Elt Ideal) (S := S512x1024) (e' := .f32) x (Rect.unit ![0, 0] ![256, 1024] inb_S512x1024_S256x1024_0_0)) g
      (View.ld (Val := Elt Ideal) (S := S1x8x6144) (e' := .f32) mods (Rect.unit ![0, 0, 0] ![1, 8, 1024] inb_S1x8x6144_S1x8x1024_0_0_0))
      (View.ld (Val := Elt Ideal) (S := S1x8x6144) (e' := .f32) mods (Rect.unit ![0, 0, 1024] ![1, 8, 1024] inb_S1x8x6144_S1x8x1024_0_0_1024)) (ix2 r d)
      = hrow x mods g ⟨(r : ℕ), by omega⟩ d := by
  rw [pay2_at]
  pointwise [hrow, modnorm]

theorem hrow_hi (x : FVec Ideal S512x1024 .f32) (mods : FVec Ideal S1x8x6144 .f32) (g : FVec Ideal S1x1024 .f32) (r : Fin 256) (d : Fin 1024) :
    k0_pay285 (F := Ideal) (View.ld (Val := Elt Ideal) (S := S512x1024) (e' := .f32) x (Rect.unit ![256, 0] ![256, 1024] inb_S512x1024_S256x1024_256_0)) g
      (View.ld (Val := Elt Ideal) (S := S1x8x6144) (e' := .f32) mods (Rect.unit ![0, 0, 0] ![1, 8, 1024] inb_S1x8x6144_S1x8x1024_0_0_0))
      (View.ld (Val := Elt Ideal) (S := S1x8x6144) (e' := .f32) mods (Rect.unit ![0, 0, 1024] ![1, 8, 1024] inb_S1x8x6144_S1x8x1024_0_0_1024)) (ix2 r d)
      = hrow x mods g ⟨256 + (r : ℕ), by omega⟩ d := by
  have e : (256 + (r : ℕ)) % 8 = (r : ℕ) % 8 := by omega
  rw [pay285_at]
  pointwise [hrow, modnorm, e]

/-- The values by chunks. -/
def vscr (x : FVec Ideal S512x1024 .f32) (mods : FVec Ideal S1x8x6144 .f32) (g : FVec Ideal S1x1024 .f32)
    (w : FVec Ideal S1024x3072 .bf16) : FVec Ideal S8x512x128 .f32 := fun y =>
  lin (hrow x mods g (y 1)) (fun k d => w (ix2 k ⟨2048 + (d : ℕ), by omega⟩)) ⟨128 * (y 0 : ℕ) + (y 2 : ℕ), by
      have h0 : (y 0 : ℕ) < 8 := (y 0).isLt
      have h2 : (y 2 : ℕ) < 128 := (y 2).isLt
      omega⟩

/-- The queries or the keys by chunks, before the queries' factor. -/
def hscr (h : Fin 512 → Fin 1024 → EReal) (w : Fin 1024 → Fin 1024 → EReal) (gain : Fin 1024 → EReal)
    (C S : Fin 64 → Fin 128 → EReal) (seg : Fin 256 → Fin 256 → EReal) : FVec Ideal S8x512x128 .f32 := fun y =>
  rotated (headNorm (lin (h (y 1)) w) gain seg (col (y 0))) (lane (y 0))
    (C ⟨(y 1 : ℕ) / 8, by have h1 : (y 1 : ℕ) < 512 := (y 1).isLt; omega⟩)
    (S ⟨(y 1 : ℕ) / 8, by have h1 : (y 1 : ℕ) < 512 := (y 1).isLt; omega⟩) (y 2)

/-- The queries by chunks, with their factor. -/
def qscr (h : Fin 512 → Fin 1024 → EReal) (w : Fin 1024 → Fin 1024 → EReal) (gain : Fin 1024 → EReal)
    (C S : Fin 64 → Fin 128 → EReal) (seg : Fin 256 → Fin 256 → EReal) : FVec Ideal S8x512x128 .f32 := fun y =>
  hscr h w gain C S seg y * Ideal.ofBits .f32 0x3E38AA3B#32

theorem hscr_at (h : Fin 512 → Fin 1024 → EReal) (w : Fin 1024 → Fin 1024 → EReal) (gain : Fin 1024 → EReal)
    (C S : Fin 64 → Fin 128 → EReal) (seg : Fin 256 → Fin 256 → EReal) (y : Staging.S.Idx) (r : Fin 512)
    (s : Fin 64) (l : Fin 128) {n k : ℕ} (h0 : (y 0 : ℕ) = n + k) (hk : k < 1) (h1 : (y 1 : ℕ) = r) (h2 : (y 2 : ℕ) = l)
    (hs : (r : ℕ) / 8 = s) :
    hscr h w gain C S seg y = rotated (headNorm (lin (h r) w) gain seg (col n)) (lane n) (C s) (S s) l := by
  have e0 : (y 0 : ℕ) = n := by omega
  have er : (y 1 : Fin 512) = r := Fin.ext h1
  have es : (⟨(y 1 : ℕ) / 8, by have h1 : (y 1 : ℕ) < 512 := (y 1).isLt; omega⟩ : Fin 64) = s := Fin.ext (by dsimp only; omega)
  have el : (y 2 : Fin 128) = l := Fin.ext h2
  unfold hscr
  rw [es, el, er, e0]

theorem mask_lo (l : Fin 128) :
    (k0_pay87 (iota Kind.tc S1x128 32 [1] iota_S1x128_d1_w32) 32#32 0#1) (ix2 0 l) = if (l : ℕ) % 32 < 16 then 1#1 else 0#1 := by
  pointwise [k0_pay87]
  revert l
  decide +kernel

theorem mask_hi (l : Fin 128) :
    (k0_pay370 (iota Kind.tc S1x128 32 [1] iota_S1x128_d1_w32) 32#32 0#32) (ix2 0 l) = if (l : ℕ) % 32 < 16 then 1#1 else 0#1 := by
  pointwise [k0_pay370]
  revert l
  decide +kernel

/-- The queries' scratch from the blocks a point loads. -/
def qfill (X : FVec Ideal S512x1024 .f32) (M : FVec Ideal S1x8x6144 .f32) (G : FVec Ideal S1x1024 .f32) (W : FVec Ideal S1024x3072 .bf16)
    (Q : FVec Ideal S1x1024 .f32) (C S : FVec Ideal S64x128 .f32) (E : FVec Ideal S256x256 .bf16) : FVec Ideal S8x512x128 .f32 :=
  qscr (hrow X M G) (fun k d => W (ix2 k ⟨(d : ℕ), by omega⟩)) (fun d => Q (ix2 0 d)) (fun a b => C (ix2 a b)) (fun a b => S (ix2 a b))
    (fun a b => E (ix2 a b))

/-- The keys' scratch from the blocks a point loads. -/
def kfill (X : FVec Ideal S512x1024 .f32) (M : FVec Ideal S1x8x6144 .f32) (G : FVec Ideal S1x1024 .f32) (W : FVec Ideal S1024x3072 .bf16)
    (Q : FVec Ideal S1x1024 .f32) (C S : FVec Ideal S64x128 .f32) (E : FVec Ideal S256x256 .bf16) : FVec Ideal S8x512x128 .f32 :=
  hscr (hrow X M G) (fun k d => W (ix2 k ⟨1024 + (d : ℕ), by omega⟩)) (fun d => Q (ix2 0 d)) (fun a b => C (ix2 a b))
    (fun a b => S (ix2 a b)) (fun a b => E (ix2 a b))

/-- Scratch laid out as a block of the result: row `s`, column `1024 b + d` is channel `d` of row `8 s + b`. -/
def laid (O : FVec Ideal S8x512x128 .f32) : FVec Ideal S64x8192 .f32 := fun y =>
  O (ix3 ⟨(y 1 : ℕ) / 128 % 8, Nat.mod_lt _ (by decide)⟩
    ⟨8 * (y 0 : ℕ) + (y 1 : ℕ) / 1024, by
      have h0 : (y 0 : ℕ) < 64 := (y 0).isLt
      have h1 : (y 1 : ℕ) < 8192 := (y 1).isLt
      omega⟩ ⟨(y 1 : ℕ) % 128, Nat.mod_lt _ (by decide)⟩)

end Cert.Kernel6Ideal.Value

end
-- ==== Proof.QkvPointQ.lean ====
/- What a point of the projection writes of the queries: their scratch, laid out. -/
module

public import proofs.«01_k».proof.Proof.Gen.Kernel6Ideal.Value
public import proofs.«01_k».proof.Proof.QkvKernel

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.MlpRow Cert.QkvRow

variable (m : (ℓ : Loc nD τ sig) → Buf (Elt Ideal) ℓ)

set_option maxHeartbeats 8000000 in
/-- What point `t` writes of the queries. -/
theorem point_q (c : Dev nD) (t : Fin cfg0.N) (y : S64x8192.Idx) :
    (outsAt0 m c t).1 y = laid (qfill (iblk m c 0 t) (iblk m c 1 t) (iblk m c 2 t) (iblk m c 3 t) (iblk m c 4 t) (iblk m c 6 t) (iblk m c 7 t)
      (iblk m c 8 t)) y := by
  unfold outsAt0
  dsimp only
  frame_out
  simp only [View.readCov_eq_canon']
  generalize iblk m c 0 t = X
  generalize iblk m c 1 t = M
  generalize iblk m c 2 t = G
  generalize iblk m c 3 t = W
  generalize iblk m c 4 t = Q
  generalize iblk m c 6 t = C
  generalize iblk m c 7 t = S
  generalize iblk m c 8 t = E
  have hf : ∃ f, f = qfill X M G W Q C S E := ⟨_, rfl⟩
  obtain ⟨f, hf⟩ := hf
  rw [← hf, canon_all f, canon_cut f]
  · clear hf
    canon_tiles x h
    all_goals
      pointwise [laid, k0_pay112, k0_pay113, k0_pay114, k0_pay115, k0_pay116, k0_pay117, k0_pay118, k0_pay119, k0_pay120, k0_pay121, k0_pay122,
        k0_pay123, k0_pay124, k0_pay125, k0_pay126, k0_pay127, k0_pay128, k0_pay129, k0_pay130, k0_pay131, k0_pay132, k0_pay133,
        k0_pay134, k0_pay135, k0_pay136, k0_pay137, k0_pay138, k0_pay139, k0_pay140, k0_pay141, k0_pay142, k0_pay143, k0_pay144,
        k0_pay145, k0_pay146, k0_pay147, k0_pay148, k0_pay149, k0_pay150, k0_pay151, k0_pay152, k0_pay153, k0_pay154, k0_pay155,
        k0_pay156, k0_pay157, k0_pay158, k0_pay159, k0_pay160, k0_pay161, k0_pay162, k0_pay163, k0_pay164, k0_pay165, k0_pay166,
        k0_pay167, k0_pay168, k0_pay169, k0_pay170, k0_pay171, k0_pay172, k0_pay173, k0_pay174, k0_pay175, k0_pay176, k0_pay177,
        k0_pay178, k0_pay179, k0_pay180, k0_pay181, k0_pay182, k0_pay395, k0_pay396, k0_pay397, k0_pay398, k0_pay399, k0_pay400,
        k0_pay401, k0_pay402, k0_pay403, k0_pay404, k0_pay405, k0_pay406, k0_pay407, k0_pay408, k0_pay409, k0_pay410, k0_pay411,
        k0_pay412, k0_pay413, k0_pay414, k0_pay415, k0_pay416, k0_pay417, k0_pay418, k0_pay419, k0_pay420, k0_pay421, k0_pay422,
        k0_pay423, k0_pay424, k0_pay425, k0_pay426, k0_pay427, k0_pay428, k0_pay429, k0_pay430, k0_pay431, k0_pay432, k0_pay433,
        k0_pay434, k0_pay435, k0_pay436, k0_pay437, k0_pay438, k0_pay439, k0_pay440, k0_pay441, k0_pay442, k0_pay443, k0_pay444,
        k0_pay445, k0_pay446, k0_pay447, k0_pay448, k0_pay449, k0_pay450, k0_pay451, k0_pay452, k0_pay453, k0_pay454, k0_pay455,
        k0_pay456, k0_pay457, k0_pay458, k0_pay459, k0_pay460, k0_pay461, k0_pay462, k0_pay463, k0_pay464, k0_pay465, k0_pay1, h0, h1]
      have k0 : (x 0 : ℕ) < 32 := (x 0).isLt
      have k1 : (x 1 : ℕ) < 128 := (x 1).isLt
      first
        | refine same f ?_ ?_ ?_ <;> first | omega | rfl | (dsimp [Rect.withinL] <;> omega)
        | refine same_cut f _ ?_ ?_ ?_ ?_ <;> first | omega | rfl | (dsimp [Rect.withinL] <;> omega)
  · intro y hy
    canon_tiles x h using cover_half _ 0 (by sl_kernel_rfl) y (Nat.zero_le _) (by omega)
    all_goals first
      | (intro a; fin_cases a <;> decide)
      | skip
    all_goals rw [hf]
    all_goals unfold qfill
    all_goals first
      | (have k0 : (x 0 : ℕ) < 1 := (x 0).isLt
         unfold qscr
         first
           | rw [hscr_at _ _ _ _ _ _ y ⟨(x 1 : ℕ), by omega⟩ ⟨(x 1 : ℕ) / 8, by omega⟩ (x 2) h0 k0 h1 h2 rfl]
           | rw [hscr_at _ _ _ _ _ _ y ⟨(x 1 : ℕ), by omega⟩ ⟨(x 1 : ℕ) / 8, by omega⟩ (x 2) (h0.trans (Nat.zero_add _).symm) k0 h1 h2 rfl]
         pointwise [hrow_lo, rotated, headNorm, lin, col, lane, k0_pay85, k0_pay86, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108,
        k0_pay109, k0_pay110, k0_pay111, h0, h1, h2]
         rw [show (k0_pay87 (iota Kind.tc S1x128 32 [1] iota_S1x128_d1_w32) 32#32 0#1) (ix2 0 (x 2)) = _ from mask_lo (x 2), select_ite])
  · intro y
    canon_tiles x h using cover_both _ (by sl_kernel_rfl) (by sl_kernel_rfl) y
    all_goals first
      | (intro a; fin_cases a <;> decide)
      | skip
    all_goals rw [hf]
    all_goals unfold qfill
    all_goals first
      | (have k0 : (x 0 : ℕ) < 1 := (x 0).isLt
         unfold qscr
         first
           | rw [hscr_at _ _ _ _ _ _ y ⟨256 + (x 1 : ℕ), by omega⟩ ⟨32 + (x 1 : ℕ) / 8, by omega⟩ (x 2) h0 k0 h1 h2 (by dsimp only; omega)]
           | rw [hscr_at _ _ _ _ _ _ y ⟨256 + (x 1 : ℕ), by omega⟩ ⟨32 + (x 1 : ℕ) / 8, by omega⟩ (x 2) (h0.trans (Nat.zero_add _).symm) k0 h1 h2 (by dsimp only; omega)]
         pointwise [hrow_hi, rotated, headNorm, lin, col, lane, k0_pay368, k0_pay369, k0_pay371, k0_pay372, k0_pay373, k0_pay374, k0_pay375, k0_pay376, k0_pay377, k0_pay378, k0_pay379,
        k0_pay380, k0_pay381, k0_pay382, k0_pay383, k0_pay384, k0_pay385, k0_pay386, k0_pay387, k0_pay388, k0_pay389, k0_pay390,
        k0_pay391, k0_pay392, k0_pay393, k0_pay394, k0_pay395, h0, h1, h2]
         rw [show (k0_pay370 (iota Kind.tc S1x128 32 [1] iota_S1x128_d1_w32) 32#32 0#32) (ix2 0 (x 2)) = _ from mask_hi (x 2), select_ite])
      | (have k0 : (x 0 : ℕ) < 1 := (x 0).isLt
         unfold qscr
         first
           | rw [hscr_at _ _ _ _ _ _ y ⟨(x 1 : ℕ), by omega⟩ ⟨(x 1 : ℕ) / 8, by omega⟩ (x 2) h0 k0 h1 h2 rfl]
           | rw [hscr_at _ _ _ _ _ _ y ⟨(x 1 : ℕ), by omega⟩ ⟨(x 1 : ℕ) / 8, by omega⟩ (x 2) (h0.trans (Nat.zero_add _).symm) k0 h1 h2 rfl]
         pointwise [hrow_lo, rotated, headNorm, lin, col, lane, k0_pay85, k0_pay86, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108,
        k0_pay109, k0_pay110, k0_pay111, h0, h1, h2]
         rw [show (k0_pay87 (iota Kind.tc S1x128 32 [1] iota_S1x128_d1_w32) 32#32 0#1) (ix2 0 (x 2)) = _ from mask_lo (x 2), select_ite])

end Cert.Kernel6Ideal.Value

end
-- ==== Proof.QkvPointK.lean ====
/- What a point of the projection writes of the keys: their scratch, laid out. -/
module

public import proofs.«01_k».proof.Proof.Gen.Kernel6Ideal.Value
public import proofs.«01_k».proof.Proof.QkvKernel

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.MlpRow Cert.QkvRow

variable (m : (ℓ : Loc nD τ sig) → Buf (Elt Ideal) ℓ)

set_option maxHeartbeats 8000000 in
/-- What point `t` writes of the keys. -/
theorem point_k (c : Dev nD) (t : Fin cfg0.N) (y : S64x8192.Idx) :
    (outsAt0 m c t).2.1 y = laid (kfill (iblk m c 0 t) (iblk m c 1 t) (iblk m c 2 t) (iblk m c 3 t) (iblk m c 5 t) (iblk m c 6 t) (iblk m c 7 t)
      (iblk m c 8 t)) y := by
  unfold outsAt0
  dsimp only
  frame_out
  simp only [View.readCov_eq_canon']
  generalize iblk m c 0 t = X
  generalize iblk m c 1 t = M
  generalize iblk m c 2 t = G
  generalize iblk m c 3 t = W
  generalize iblk m c 5 t = Q
  generalize iblk m c 6 t = C
  generalize iblk m c 7 t = S
  generalize iblk m c 8 t = E
  have hf : ∃ f, f = kfill X M G W Q C S E := ⟨_, rfl⟩
  obtain ⟨f, hf⟩ := hf
  rw [← hf, canon_all f, canon_cut f]
  · clear hf
    canon_tiles x h
    all_goals
      pointwise [laid, k0_pay203, k0_pay204, k0_pay205, k0_pay206, k0_pay207, k0_pay208, k0_pay209, k0_pay210, k0_pay211, k0_pay212, k0_pay213,
        k0_pay214, k0_pay215, k0_pay216, k0_pay217, k0_pay218, k0_pay219, k0_pay220, k0_pay221, k0_pay222, k0_pay223, k0_pay224,
        k0_pay225, k0_pay226, k0_pay227, k0_pay228, k0_pay229, k0_pay230, k0_pay231, k0_pay232, k0_pay233, k0_pay234, k0_pay235,
        k0_pay236, k0_pay237, k0_pay238, k0_pay239, k0_pay240, k0_pay241, k0_pay242, k0_pay243, k0_pay244, k0_pay245, k0_pay246,
        k0_pay247, k0_pay248, k0_pay249, k0_pay250, k0_pay251, k0_pay252, k0_pay253, k0_pay254, k0_pay255, k0_pay256, k0_pay257,
        k0_pay258, k0_pay259, k0_pay260, k0_pay261, k0_pay262, k0_pay263, k0_pay264, k0_pay265, k0_pay266, k0_pay267, k0_pay268,
        k0_pay269, k0_pay270, k0_pay271, k0_pay272, k0_pay273, k0_pay274, k0_pay275, k0_pay276, k0_pay277, k0_pay278, k0_pay279,
        k0_pay280, k0_pay281, k0_pay282, k0_pay283, k0_pay284, k0_pay483, k0_pay484, k0_pay485, k0_pay486, k0_pay487, k0_pay488,
        k0_pay489, k0_pay490, k0_pay491, k0_pay492, k0_pay493, k0_pay494, k0_pay495, k0_pay496, k0_pay497, k0_pay498, k0_pay499,
        k0_pay500, k0_pay501, k0_pay502, k0_pay503, k0_pay504, k0_pay505, k0_pay506, k0_pay507, k0_pay508, k0_pay509, k0_pay510,
        k0_pay511, k0_pay512, k0_pay513, k0_pay514, k0_pay515, k0_pay516, k0_pay517, k0_pay518, k0_pay519, k0_pay520, k0_pay521,
        k0_pay522, k0_pay523, k0_pay524, k0_pay525, k0_pay526, k0_pay527, k0_pay528, k0_pay529, k0_pay530, k0_pay531, k0_pay532,
        k0_pay533, k0_pay534, k0_pay535, k0_pay536, k0_pay537, k0_pay538, k0_pay539, k0_pay540, k0_pay541, k0_pay542, k0_pay543,
        k0_pay544, k0_pay545, k0_pay546, k0_pay547, k0_pay548, k0_pay549, k0_pay550, k0_pay551, k0_pay552, k0_pay553, k0_pay554,
        k0_pay555, k0_pay556, k0_pay557, k0_pay558, k0_pay559, k0_pay560, k0_pay561, k0_pay562, k0_pay563, k0_pay1, h0, h1]
      have k0 : (x 0 : ℕ) < 32 := (x 0).isLt
      have k1 : (x 1 : ℕ) < 128 := (x 1).isLt
      first
        | refine same f ?_ ?_ ?_ <;> first | omega | rfl | (dsimp [Rect.withinL] <;> omega)
        | refine same_cut f _ ?_ ?_ ?_ ?_ <;> first | omega | rfl | (dsimp [Rect.withinL] <;> omega)
  · intro y hy
    canon_tiles x h using cover_half _ 0 (by sl_kernel_rfl) y (Nat.zero_le _) (by omega)
    all_goals first
      | (intro a; fin_cases a <;> decide)
      | skip
    all_goals rw [hf]
    all_goals unfold kfill
    all_goals first
      | (have k0 : (x 0 : ℕ) < 1 := (x 0).isLt
         first
           | rw [hscr_at _ _ _ _ _ _ y ⟨(x 1 : ℕ), by omega⟩ ⟨(x 1 : ℕ) / 8, by omega⟩ (x 2) h0 k0 h1 h2 rfl]
           | rw [hscr_at _ _ _ _ _ _ y ⟨(x 1 : ℕ), by omega⟩ ⟨(x 1 : ℕ) / 8, by omega⟩ (x 2) (h0.trans (Nat.zero_add _).symm) k0 h1 h2 rfl]
         pointwise [hrow_lo, rotated, headNorm, lin, col, lane, k0_pay85, k0_pay86, k0_pay183, k0_pay184, k0_pay185, k0_pay186, k0_pay187, k0_pay188, k0_pay189, k0_pay190, k0_pay191,
        k0_pay192, k0_pay193, k0_pay194, k0_pay195, k0_pay196, k0_pay197, k0_pay198, k0_pay199, k0_pay200, k0_pay201, k0_pay202,
        k0_pay203, k0_pay204, k0_pay205, k0_pay206, k0_pay207, k0_pay208, k0_pay209, k0_pay210, k0_pay211, h0, h1, h2]
         rw [show (k0_pay87 (iota Kind.tc S1x128 32 [1] iota_S1x128_d1_w32) 32#32 0#1) (ix2 0 (x 2)) = _ from mask_lo (x 2), select_ite])
  · intro y
    canon_tiles x h using cover_both _ (by sl_kernel_rfl) (by sl_kernel_rfl) y
    all_goals first
      | (intro a; fin_cases a <;> decide)
      | skip
    all_goals rw [hf]
    all_goals unfold kfill
    all_goals first
      | (have k0 : (x 0 : ℕ) < 1 := (x 0).isLt
         first
           | rw [hscr_at _ _ _ _ _ _ y ⟨256 + (x 1 : ℕ), by omega⟩ ⟨32 + (x 1 : ℕ) / 8, by omega⟩ (x 2) h0 k0 h1 h2 (by dsimp only; omega)]
           | rw [hscr_at _ _ _ _ _ _ y ⟨256 + (x 1 : ℕ), by omega⟩ ⟨32 + (x 1 : ℕ) / 8, by omega⟩ (x 2) (h0.trans (Nat.zero_add _).symm) k0 h1 h2 (by dsimp only; omega)]
         pointwise [hrow_hi, rotated, headNorm, lin, col, lane, k0_pay368, k0_pay369, k0_pay466, k0_pay467, k0_pay468, k0_pay469, k0_pay470, k0_pay471, k0_pay472, k0_pay473, k0_pay474,
        k0_pay475, k0_pay476, k0_pay477, k0_pay478, k0_pay479, k0_pay480, k0_pay481, k0_pay482, k0_pay483, k0_pay484, k0_pay485,
        k0_pay486, k0_pay487, k0_pay488, k0_pay489, k0_pay490, k0_pay491, k0_pay492, k0_pay493, h0, h1, h2]
         rw [show (k0_pay370 (iota Kind.tc S1x128 32 [1] iota_S1x128_d1_w32) 32#32 0#32) (ix2 0 (x 2)) = _ from mask_hi (x 2), select_ite])
      | (have k0 : (x 0 : ℕ) < 1 := (x 0).isLt
         first
           | rw [hscr_at _ _ _ _ _ _ y ⟨(x 1 : ℕ), by omega⟩ ⟨(x 1 : ℕ) / 8, by omega⟩ (x 2) h0 k0 h1 h2 rfl]
           | rw [hscr_at _ _ _ _ _ _ y ⟨(x 1 : ℕ), by omega⟩ ⟨(x 1 : ℕ) / 8, by omega⟩ (x 2) (h0.trans (Nat.zero_add _).symm) k0 h1 h2 rfl]
         pointwise [hrow_lo, rotated, headNorm, lin, col, lane, k0_pay85, k0_pay86, k0_pay183, k0_pay184, k0_pay185, k0_pay186, k0_pay187, k0_pay188, k0_pay189, k0_pay190, k0_pay191,
        k0_pay192, k0_pay193, k0_pay194, k0_pay195, k0_pay196, k0_pay197, k0_pay198, k0_pay199, k0_pay200, k0_pay201, k0_pay202,
        k0_pay203, k0_pay204, k0_pay205, k0_pay206, k0_pay207, k0_pay208, k0_pay209, k0_pay210, k0_pay211, h0, h1, h2]
         rw [show (k0_pay87 (iota Kind.tc S1x128 32 [1] iota_S1x128_d1_w32) 32#32 0#1) (ix2 0 (x 2)) = _ from mask_lo (x 2), select_ite])

end Cert.Kernel6Ideal.Value

end
-- ==== Proof.QkvPointV.lean ====
/- What a point of the projection writes of the values: their scratch, laid out. -/
module

public import proofs.«01_k».proof.Proof.Gen.Kernel6Ideal.Value
public import proofs.«01_k».proof.Proof.QkvKernel

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.MlpRow Cert.QkvRow

variable (m : (ℓ : Loc nD τ sig) → Buf (Elt Ideal) ℓ)

set_option maxHeartbeats 2000000 in
/-- What point `t` writes of the values. -/
theorem point_v (c : Dev nD) (t : Fin cfg0.N) (y : S64x8192.Idx) :
    (outsAt0 m c t).2.2 y = laid (vscr (iblk m c 0 t) (iblk m c 1 t) (iblk m c 2 t) (iblk m c 3 t)) y := by
  unfold outsAt0
  dsimp only
  frame_out
  simp only [View.readCov_eq_canon']
  generalize iblk m c 0 t = X
  generalize iblk m c 1 t = M
  generalize iblk m c 2 t = G
  generalize iblk m c 3 t = W
  rw [canon_all (vscr X M G W), canon_cut (vscr X M G W)]
  · generalize vscr X M G W = O
    canon_tiles x h
    all_goals
      pointwise [laid, k0_pay14, k0_pay15, k0_pay16, k0_pay17, k0_pay18, k0_pay19, k0_pay20, k0_pay21, k0_pay22, k0_pay23, k0_pay24, k0_pay25,
        k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49,
        k0_pay50, k0_pay51, k0_pay52, k0_pay53, k0_pay54, k0_pay55, k0_pay56, k0_pay57, k0_pay58, k0_pay59, k0_pay60, k0_pay61,
        k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85,
        k0_pay297, k0_pay298, k0_pay299, k0_pay300, k0_pay301, k0_pay302, k0_pay303, k0_pay304, k0_pay305, k0_pay306, k0_pay307,
        k0_pay308, k0_pay309, k0_pay310, k0_pay311, k0_pay312, k0_pay313, k0_pay314, k0_pay315, k0_pay316, k0_pay317, k0_pay318,
        k0_pay319, k0_pay320, k0_pay321, k0_pay322, k0_pay323, k0_pay324, k0_pay325, k0_pay326, k0_pay327, k0_pay328, k0_pay329,
        k0_pay330, k0_pay331, k0_pay332, k0_pay333, k0_pay334, k0_pay335, k0_pay336, k0_pay337, k0_pay338, k0_pay339, k0_pay340,
        k0_pay341, k0_pay342, k0_pay343, k0_pay344, k0_pay345, k0_pay346, k0_pay347, k0_pay348, k0_pay349, k0_pay350, k0_pay351,
        k0_pay352, k0_pay353, k0_pay354, k0_pay355, k0_pay356, k0_pay357, k0_pay358, k0_pay359, k0_pay360, k0_pay361, k0_pay362,
        k0_pay363, k0_pay364, k0_pay365, k0_pay366, k0_pay367, k0_pay368, k0_pay1, h0, h1]
      have k0 : (x 0 : ℕ) < 32 := (x 0).isLt
      have k1 : (x 1 : ℕ) < 128 := (x 1).isLt
      first
        | refine same O ?_ ?_ ?_ <;> first | omega | rfl | (dsimp [Rect.withinL] <;> omega)
        | refine same_cut O _ ?_ ?_ ?_ ?_ <;> first | omega | rfl | (dsimp [Rect.withinL] <;> omega)
  · intro y hy
    canon_tiles x h using cover_half _ 0 (by sl_kernel_rfl) y (Nat.zero_le _) (by omega)
    all_goals first
      | (intro a; fin_cases a <;> decide)
      | (have e : (y 1 : Fin 512) = ⟨(x 1 : ℕ), by omega⟩ := Fin.ext h1
         unfold vscr lin
         rw [e]
         pointwise [hrow_lo, k0_pay3, k0_pay4, k0_pay5, k0_pay6, k0_pay7, k0_pay8, k0_pay9, k0_pay10, k0_pay11, k0_pay12, k0_pay13, h0, h2])
  · intro y
    canon_tiles x h using cover_both _ (by sl_kernel_rfl) (by sl_kernel_rfl) y
    all_goals first
      | (intro a; fin_cases a <;> decide)
      | (have e : (y 1 : Fin 512) = ⟨256 + (x 1 : ℕ), by omega⟩ := Fin.ext h1
         unfold vscr lin
         rw [e]
         pointwise [hrow_hi, k0_pay286, k0_pay287, k0_pay288, k0_pay289, k0_pay290, k0_pay291, k0_pay292, k0_pay293, k0_pay294, k0_pay295, k0_pay296, h0, h2])
      | (have e : (y 1 : Fin 512) = ⟨(x 1 : ℕ), by omega⟩ := Fin.ext h1
         unfold vscr lin
         rw [e]
         pointwise [hrow_lo, k0_pay3, k0_pay4, k0_pay5, k0_pay6, k0_pay7, k0_pay8, k0_pay9, k0_pay10, k0_pay11, k0_pay12, k0_pay13, h0, h2])

end Cert.Kernel6Ideal.Value

end
-- ==== Proof.QkvValue.lean ====
/- What the projection leaves in its result arrays: each point's rows are the projection of its tokens. -/
module

public import proofs.«01_k».proof.Proof.QkvEq
public import proofs.«01_k».proof.Proof.QkvPointQ
public import proofs.«01_k».proof.Proof.QkvPointK
public import proofs.«01_k».proof.Proof.QkvPointV

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.MlpRow Cert.QkvRow

variable (m : (ℓ : Loc nD τ sig) → Buf (Elt Ideal) ℓ)

/-- The block of every window at point `t`. -/
theorem idx : ∀ t : Fin cfg0.N, t.val < 68 ∧ win0_0.index t = ![t.val, 0]
    ∧ win0_1.index t = ![if t.val < 64 then 0 else 1, 0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![t.val, 0] :=
  (by decide +kernel : ∀ t : Fin grid0.N, _)

/-- A block's row is a time step of a batch element. -/
theorem x_at (c : Dev nD) (t : Fin cfg0.N) (r : Fin 512) (d : Fin 1024) :
    (show FVec Ideal S512x1024 .f32 from iblk m c 0 t) (ix2 r d)
      = m ((c : Thread nD τ).loc main_arg0) (ix3 ⟨(r : ℕ) % 8, by omega⟩ ⟨t.val * 64 + (r : ℕ) / 8, by have := (idx t).1; omega⟩ d) := by
  blk_simp [iblk, V, idx t]
  entry_read
  pointwise
  blk_ext [idx t]

/-- A latent block reads the latents' table of modulation. -/
theorem mods_lat (c : Dev nD) (t : Fin cfg0.N) (ht : t.val < 64) (r : Fin 8) (d : Fin 6144) :
    (show FVec Ideal S1x8x6144 .f32 from iblk m c 1 t) (ix3 0 r d) = m ((c : Thread nD τ).loc main_arg1) (ix2 r d) := by
  blk_simp [iblk, V, idx t, ht]
  entry_read
  pointwise
  refine (dif_pos ?_).trans ?_
  · blk_simp [idx t, ht]
    exact Nat.zero_lt_one
  · blk_ext [idx t, ht]

/-- A context block reads the context's. -/
theorem mods_ctx (c : Dev nD) (t : Fin cfg0.N) (ht : ¬ t.val < 64) (r : Fin 8) (d : Fin 6144) :
    (show FVec Ideal S1x8x6144 .f32 from iblk m c 1 t) (ix3 0 r d) = m ((c : Thread nD τ).loc main_arg2) (ix1 d) := by
  blk_simp [iblk, V, idx t, ht]
  entry_read
  pointwise
  refine (dif_neg ?_).trans ?_
  · blk_simp [idx t, ht]
    rw [if_neg not_false]
    exact Nat.not_lt.2 (Nat.le_add_right 1 _)
  · blk_ext [idx t, ht]

theorem g_at (c : Dev nD) (t : Fin cfg0.N) (d : Fin 1024) :
    (show FVec Ideal S1x1024 .f32 from iblk m c 2 t) (ix2 0 d) = m ((c : Thread nD τ).loc main_arg3) (ix1 d) := by
  blk_simp [iblk, V, idx t]
  entry_read
  pointwise
  blk_ext [idx t]

theorem w_at (c : Dev nD) (t : Fin cfg0.N) (a : Fin 1024) (b : Fin 3072) :
    (show FVec Ideal S1024x3072 .bf16 from iblk m c 3 t) (ix2 a b) = m ((c : Thread nD τ).loc main_arg4) (ix2 a b) := by
  blk_simp [iblk, V, idx t]
  entry_read
  pointwise
  blk_ext [idx t]

/-- A block's modulation row is its tokens'. -/
theorem mods_at (c : Dev nD) (t : Fin cfg0.N) (r : Fin 512) (k : Fin 6144) :
    (show FVec Ideal S1x8x6144 .f32 from iblk m c 1 t) (ix3 0 ⟨(r : ℕ) % 8, by omega⟩ k)
      = tokenMod (fun a b => m ((c : Thread nD τ).loc main_arg1) (ix2 a b)) (fun b => m ((c : Thread nD τ).loc main_arg2) (ix1 b))
          ⟨(r : ℕ) % 8, by omega⟩ ⟨t.val * 64 + (r : ℕ) / 8, by have := (idx t).1; omega⟩ k := by
  unfold tokenMod
  by_cases ht : t.val < 64
  · rw [if_pos (by dsimp only; omega)]
    exact mods_lat m c t ht _ k
  · rw [if_neg (by dsimp only; omega)]
    exact mods_ctx m c t ht _ k

theorem qgain_at (c : Dev nD) (t : Fin cfg0.N) (d : Fin 1024) :
    (show FVec Ideal S1x1024 .f32 from iblk m c 4 t) (ix2 0 d) = m ((c : Thread nD τ).loc main_arg5) (ix1 ⟨(d : ℕ) % 64, by omega⟩) := by
  blk_simp [iblk, V, idx t]
  entry_read
  pointwise
  have e : (((View.whole main_v19).slice (win0_4.rect t)).emb (ix2 0 d) 1 : ℕ) = d := by blk_ext [idx t]
  exact congrArg (fun i => m ((c : Thread nD τ).loc main_arg5) (ix1 i)) (Fin.ext (congrArg (· % 64) e))

theorem kgain_at (c : Dev nD) (t : Fin cfg0.N) (d : Fin 1024) :
    (show FVec Ideal S1x1024 .f32 from iblk m c 5 t) (ix2 0 d) = m ((c : Thread nD τ).loc main_arg6) (ix1 ⟨(d : ℕ) % 64, by omega⟩) := by
  blk_simp [iblk, V, idx t]
  entry_read
  pointwise
  have e : (((View.whole main_v22).slice (win0_5.rect t)).emb (ix2 0 d) 1 : ℕ) = d := by blk_ext [idx t]
  exact congrArg (fun i => m ((c : Thread nD τ).loc main_arg6) (ix1 i)) (Fin.ext (congrArg (· % 64) e))

/-- Whether two segments of 64 are the same, as a number. -/
theorem seg_bit : ∀ a b : Fin 4, IntOp.cmpi CmpIPredicate.eq (BitVec.ofNat 32 (a : ℕ)) (BitVec.ofNat 32 (b : ℕ)) = if (a : ℕ) = (b : ℕ) then 1#1 else 0#1 := by
  decide

theorem seg_at (c : Dev nD) (t : Fin cfg0.N) (a b : Fin 256) :
    (show FVec Ideal S256x256 .bf16 from iblk m c 8 t) (ix2 a b) = if (a : ℕ) / 64 = (b : ℕ) / 64 then 1 else 0 := by
  blk_simp [iblk, V, idx t]
  entry_read
  pointwise
  have e0 : (((View.whole main_v28).slice (win0_8.rect t)).emb (ix2 a b) 0 : ℕ) = a := by blk_ext [idx t]
  have e1 : (((View.whole main_v28).slice (win0_8.rect t)).emb (ix2 a b) 1 : ℕ) = b := by blk_ext [idx t]
  rw [e0, e1, seg_bit ⟨(a : ℕ) / 64, by omega⟩ ⟨(b : ℕ) / 64, by omega⟩]
  by_cases h : (a : ℕ) / 64 = (b : ℕ) / 64
  · rw [if_pos h, if_pos h]
    show ((((1#1 : BitVec 1).toNat : ℕ) : ℝ) : EReal) = 1
    norm_num
  · rw [if_neg h, if_neg h]
    show ((((0#1 : BitVec 1).toNat : ℕ) : ℝ) : EReal) = 0
    norm_num

/-- A table of lanes for the latents' rows, from four tables of sixteen lanes, twice, and its rows `u` for the context's. -/
def table (p0 p1 p2 p3 : FVec Ideal S4096x16 .f32) (u : FVec Ideal S256x128 .f32) : FVec Ideal S4352x128 .f32 :=
  concatenate S4352x128 0 [⟨S4096x128, concatenate S4096x128 1 [⟨S4096x16, p0⟩, ⟨S4096x16, p1⟩, ⟨S4096x16, p2⟩, ⟨S4096x16, p3⟩,
    ⟨S4096x16, p0⟩, ⟨S4096x16, p1⟩, ⟨S4096x16, p2⟩, ⟨S4096x16, p3⟩]
    concatenates_S4096x16_S4096x16_S4096x16_S4096x16_S4096x16_S4096x16_S4096x16_S4096x16_S4096x128_d1⟩, ⟨S256x128, u⟩]
    concatenates_S4096x128_S256x128_S4352x128_d0

theorem table_lane (p : FVec Ideal S4096x16 .f32) {s : Fin 4096} {i j : Fin 16} (h : (i : ℕ) = j) : p (ix2 s i) = p (ix2 s j) :=
  congrArg (fun k => p (ix2 s k)) (Fin.ext h)

theorem table_at (p0 p1 p2 p3 : FVec Ideal S4096x16 .f32) (u : FVec Ideal S256x128 .f32) (s : Fin 4352) (l : Fin 128) :
    table p0 p1 p2 p3 u (ix2 s l)
      = if h : (s : ℕ) < 4096 then
          four (fun i => p0 (ix2 ⟨s, h⟩ i)) (fun i => p1 (ix2 ⟨s, h⟩ i)) (fun i => p2 (ix2 ⟨s, h⟩ i)) (fun i => p3 (ix2 ⟨s, h⟩ i))
            ⟨(l : ℕ) % 64, by omega⟩
        else u (ix2 ⟨(s : ℕ) - 4096, by omega⟩ l) := by
  pointwise [table]
  refine dite_congr rfl (fun hs => ?_) fun _ => rfl
  simp only [four]
  repeat' split
  all_goals first | (exfalso; omega) | exact table_lane _ (by first | rfl | omega | (dsimp only; omega))

theorem cos_table (c : Dev nD) (t : Fin cfg0.N) (a : Fin 64) (l : Fin 128) :
    (show FVec Ideal S64x128 .f32 from iblk m c 6 t) (ix2 a l)
      = table (m ((c : Thread nD τ).loc main_arg7)) (m ((c : Thread nD τ).loc main_arg7)) (m ((c : Thread nD τ).loc main_arg9))
        (m ((c : Thread nD τ).loc main_arg9))
        (broadcastInDim S256x128 ![] bcast_S_S256x128 (constant S_ .f32 0x3F800000#32)) (ix2 ⟨t.val * 64 + a, by have := (idx t).1; omega⟩ l) := by
  blk_simp [iblk, V, idx t]
  entry_read
  refine congrArg (table _ _ _ _ _) ?_
  blk_ext [idx t]

theorem sin_host (c : Dev nD) :
    StableHlo.after hostOps0 (fun b => m (c, b)) (Proc.tc.devRef main_v7)
      = table (negf (m ((c : Thread nD τ).loc main_arg8))) (m ((c : Thread nD τ).loc main_arg8)) (negf (m ((c : Thread nD τ).loc main_arg10)))
        (m ((c : Thread nD τ).loc main_arg10))
        (broadcastInDim S256x128 ![] bcast_S_S256x128 (constant S_ .f32 0x00000000#32)) := by
  after_results
  rfl

theorem sin_table (c : Dev nD) (t : Fin cfg0.N) (a : Fin 64) (l : Fin 128) :
    (show FVec Ideal S64x128 .f32 from iblk m c 7 t) (ix2 a l)
      = table (negf (m ((c : Thread nD τ).loc main_arg8))) (m ((c : Thread nD τ).loc main_arg8)) (negf (m ((c : Thread nD τ).loc main_arg10)))
        (m ((c : Thread nD τ).loc main_arg10))
        (broadcastInDim S256x128 ![] bcast_S_S256x128 (constant S_ .f32 0x00000000#32)) (ix2 ⟨t.val * 64 + a, by have := (idx t).1; omega⟩ l) := by
  blk_simp [iblk, V, idx t]
  rw [sin_host]
  refine congrArg (table _ _ _ _ _) ?_
  blk_ext [idx t]

/-- A block's cosines: the angles' for a latent, one for the context. -/
theorem cos_at (c : Dev nD) (t : Fin cfg0.N) (a : Fin 64) (l : Fin 128) (s : Fin 4352) (hs : (s : ℕ) = t.val * 64 + a) :
    (show FVec Ideal S64x128 .f32 from iblk m c 6 t) (ix2 a l)
      = if h : (s : ℕ) < 4096 then
          four (fun i => m ((c : Thread nD τ).loc main_arg7) (ix2 ⟨s, h⟩ i)) (fun i => m ((c : Thread nD τ).loc main_arg7) (ix2 ⟨s, h⟩ i))
            (fun i => m ((c : Thread nD τ).loc main_arg9) (ix2 ⟨s, h⟩ i)) (fun i => m ((c : Thread nD τ).loc main_arg9) (ix2 ⟨s, h⟩ i))
            ⟨(l : ℕ) % 64, by omega⟩
        else 1 := by
  have e : (⟨t.val * 64 + a, by have := (idx t).1; omega⟩ : Fin 4352) = s := Fin.ext hs.symm
  rw [cos_table, e, table_at]
  refine dite_congr rfl (fun _ => rfl) fun _ => ?_
  pointwise

/-- A block's sines, signed by the lane's half of its pairs; zero for the context. -/
theorem sin_at (c : Dev nD) (t : Fin cfg0.N) (a : Fin 64) (l : Fin 128) (s : Fin 4352) (hs : (s : ℕ) = t.val * 64 + a) :
    (show FVec Ideal S64x128 .f32 from iblk m c 7 t) (ix2 a l)
      = if h : (s : ℕ) < 4096 then
          four (fun i => -(show EReal from m ((c : Thread nD τ).loc main_arg8) (ix2 ⟨s, h⟩ i)))
            (fun i => m ((c : Thread nD τ).loc main_arg8) (ix2 ⟨s, h⟩ i))
            (fun i => -(show EReal from m ((c : Thread nD τ).loc main_arg10) (ix2 ⟨s, h⟩ i)))
            (fun i => m ((c : Thread nD τ).loc main_arg10) (ix2 ⟨s, h⟩ i))
            ⟨(l : ℕ) % 64, by omega⟩
        else 0 := by
  have e : (⟨t.val * 64 + a, by have := (idx t).1; omega⟩ : Fin 4352) = s := Fin.ext hs.symm
  rw [sin_table, e, table_at]
  refine dite_congr rfl (fun _ => rfl) fun _ => ?_
  pointwise

/-- The modulated norm of a token, from the arguments. -/
def normRow (c : Dev nD) (b : Fin 8) (s : Fin 4352) : Fin 1024 → EReal :=
  modnorm (fun k => m ((c : Thread nD τ).loc main_arg0) (ix3 b s k)) (fun k => m ((c : Thread nD τ).loc main_arg3) (ix1 k))
    (fun k => tokenMod (fun a b => m ((c : Thread nD τ).loc main_arg1) (ix2 a b)) (fun b => m ((c : Thread nD τ).loc main_arg2) (ix1 b)) b s
      ⟨(k : ℕ), by omega⟩)
    (fun k => tokenMod (fun a b => m ((c : Thread nD τ).loc main_arg1) (ix2 a b)) (fun b => m ((c : Thread nD τ).loc main_arg2) (ix1 b)) b s
      ⟨1024 + (k : ℕ), by omega⟩)

/-- A block's row, normed, is its token's. -/
theorem hrow_at (c : Dev nD) (t : Fin cfg0.N) (r : Fin 512) (b : Fin 8) (s : Fin 4352) (hb : (r : ℕ) % 8 = b) (hs : t.val * 64 + (r : ℕ) / 8 = s) :
    hrow (iblk m c 0 t) (iblk m c 1 t) (iblk m c 2 t) r = normRow m c b s := by
  have eb : (⟨(r : ℕ) % 8, by omega⟩ : Fin 8) = b := Fin.ext hb
  have es : (⟨t.val * 64 + (r : ℕ) / 8, by have := (idx t).1; omega⟩ : Fin 4352) = s := Fin.ext hs
  funext d
  unfold hrow normRow
  rw [funext (x_at m c t r), funext (g_at m c t), funext fun k : Fin 1024 => mods_at m c t r ⟨(k : ℕ), by omega⟩,
    funext fun k : Fin 1024 => mods_at m c t r ⟨1024 + (k : ℕ), by omega⟩, eb, es]

/-- Lane `e` of head `q` of a token's queries or keys, from the arguments: `C` names the columns of the weight, `g` is the gain. -/
def headAt (c : Dev nD) (C : Fin 1024 → Fin 3072) (g : Fin 64 → EReal) (b : Fin 8) (s : Fin 4352) (q : Fin 16) (e : Fin 64) : EReal :=
  head (lin (normRow m c b s) fun k l => m ((c : Thread nD τ).loc main_arg4) (ix2 k (C l))) g
    (fun s i => (m ((c : Thread nD τ).loc main_arg7) (ix2 s i))) (fun s i => (m ((c : Thread nD τ).loc main_arg8) (ix2 s i))) (fun s i => (m ((c : Thread nD τ).loc main_arg9) (ix2 s i))) (fun s i => (m ((c : Thread nD τ).loc main_arg10) (ix2 s i))) s q e

/-- Channel `d` of a token's values. -/
def valueAt (c : Dev nD) (b : Fin 8) (s : Fin 4352) (d : Fin 1024) : EReal :=
  lin (normRow m c b s) (fun k l => m ((c : Thread nD τ).loc main_arg4) (ix2 k ⟨2048 + (l : ℕ), by omega⟩)) d

/-- A chunk of a block's heads is the heads of its tokens. -/
theorem hscr_head (c : Dev nD) (t : Fin cfg0.N) (C : Fin 1024 → Fin 3072) (gain : Fin 1024 → EReal) (g : Fin 64 → EReal)
    (hg : ∀ d, gain d = g ⟨(d : ℕ) % 64, by omega⟩) (n : Fin 8) (r : Fin 512) (l : Fin 128) (b : Fin 8) (s : Fin 4352) (q : Fin 16) (e : Fin 64)
    (hb : (r : ℕ) % 8 = b) (hs : t.val * 64 + (r : ℕ) / 8 = s) (hq : 2 * (n : ℕ) + (l : ℕ) / 64 = q) (he : (l : ℕ) % 64 = e) :
    hscr (hrow (iblk m c 0 t) (iblk m c 1 t) (iblk m c 2 t)) (fun k d => (show FVec Ideal S1024x3072 .bf16 from iblk m c 3 t) (ix2 k (C d))) gain
        (fun a b => (show FVec Ideal S64x128 .f32 from iblk m c 6 t) (ix2 a b)) (fun a b => (show FVec Ideal S64x128 .f32 from iblk m c 7 t) (ix2 a b))
        (fun a b => (show FVec Ideal S256x256 .bf16 from iblk m c 8 t) (ix2 a b)) (ix3 n r l)
      = headAt m c C g b s q e := by
  have eq : (⟨2 * (n : ℕ) + (l : ℕ) / 64, by omega⟩ : Fin 16) = q := Fin.ext hq
  have ee : (⟨(l : ℕ) % 64, by omega⟩ : Fin 64) = e := Fin.ext he
  have h := chunk_head (lin (normRow m c b s) fun k l => m ((c : Thread nD τ).loc main_arg4) (ix2 k (C l))) gain _ g hg (seg_at m c t)
    (fun l => (show FVec Ideal S64x128 .f32 from iblk m c 6 t) (ix2 ⟨(r : ℕ) / 8, by omega⟩ l))
    (fun l => (show FVec Ideal S64x128 .f32 from iblk m c 7 t) (ix2 ⟨(r : ℕ) / 8, by omega⟩ l))
    (fun s i => (m ((c : Thread nD τ).loc main_arg7) (ix2 s i))) (fun s i => (m ((c : Thread nD τ).loc main_arg8) (ix2 s i))) (fun s i => (m ((c : Thread nD τ).loc main_arg9) (ix2 s i))) (fun s i => (m ((c : Thread nD τ).loc main_arg10) (ix2 s i))) s n l
    (cos_at m c t ⟨(r : ℕ) / 8, by omega⟩ l s hs.symm) (sin_at m c t ⟨(r : ℕ) / 8, by omega⟩ l s hs.symm)
  rw [eq, ee] at h
  unfold headAt
  refine Eq.trans ?_ h
  unfold hscr
  rw [← hrow_at m c t r b s hb hs, ← funext fun k => funext fun l => w_at m c t k (C l)]
  rfl

/-- The queries' columns of the weight. -/
def qcol (d : Fin 1024) : Fin 3072 := ⟨(d : ℕ), by omega⟩

/-- The keys' columns of the weight. -/
def kcol (d : Fin 1024) : Fin 3072 := ⟨1024 + (d : ℕ), by omega⟩

/-- The queries: row `s`, column `1024 b + 64 q + e` is lane `e` of head `q` of batch element `b` at time `s`, times the factor. -/
def qtarget (c : Dev nD) : FVec Ideal S4352x8192 .bf16 := fun j =>
  headAt m c qcol (fun i => m ((c : Thread nD τ).loc main_arg5) (ix1 i)) ⟨(j 1 : ℕ) / 1024, by have h : (j 1 : ℕ) < 8192 := (j 1).isLt; omega⟩ (j 0)
    ⟨(j 1 : ℕ) / 64 % 16, by omega⟩ ⟨(j 1 : ℕ) % 64, by omega⟩ * Ideal.ofBits .f32 0x3E38AA3B#32

/-- The keys, laid out the same way. -/
def ktarget (c : Dev nD) : FVec Ideal S4352x8192 .bf16 := fun j =>
  headAt m c kcol (fun i => m ((c : Thread nD τ).loc main_arg6) (ix1 i)) ⟨(j 1 : ℕ) / 1024, by have h : (j 1 : ℕ) < 8192 := (j 1).isLt; omega⟩ (j 0)
    ⟨(j 1 : ℕ) / 64 % 16, by omega⟩ ⟨(j 1 : ℕ) % 64, by omega⟩

/-- The values: row `s`, column `1024 b + d` is channel `d` of batch element `b` at time `s`. -/
def vtarget (c : Dev nD) : FVec Ideal S4352x8192 .bf16 := fun j =>
  valueAt m c ⟨(j 1 : ℕ) / 1024, by have h : (j 1 : ℕ) < 8192 := (j 1).isLt; omega⟩ (j 0) ⟨(j 1 : ℕ) % 1024, by omega⟩

theorem q_block (c : Dev nD) (t : Fin cfg0.N) (y : S64x8192.Idx) (s : Fin 4352) (hs : t.val * 64 + (y 0 : ℕ) = s) :
    laid (qfill (iblk m c 0 t) (iblk m c 1 t) (iblk m c 2 t) (iblk m c 3 t) (iblk m c 4 t) (iblk m c 6 t) (iblk m c 7 t) (iblk m c 8 t)) y
      = qtarget m c (ix2 s (y 1)) := by
  have h0 : (y 0 : ℕ) < 64 := (y 0).isLt
  have h1 : (y 1 : ℕ) < 8192 := (y 1).isLt
  unfold laid qfill qscr qtarget
  refine congrArg (· * Ideal.ofBits .f32 0x3E38AA3B#32) ?_
  exact hscr_head m c t qcol _ _ (qgain_at m c t) _ _ _ ⟨(y 1 : ℕ) / 1024, by omega⟩ s ⟨(y 1 : ℕ) / 64 % 16, by omega⟩ ⟨(y 1 : ℕ) % 64, by omega⟩
    (by dsimp only; omega) (by dsimp only; omega) (by dsimp only; omega) (by dsimp only; omega)

theorem k_block (c : Dev nD) (t : Fin cfg0.N) (y : S64x8192.Idx) (s : Fin 4352) (hs : t.val * 64 + (y 0 : ℕ) = s) :
    laid (kfill (iblk m c 0 t) (iblk m c 1 t) (iblk m c 2 t) (iblk m c 3 t) (iblk m c 5 t) (iblk m c 6 t) (iblk m c 7 t) (iblk m c 8 t)) y
      = ktarget m c (ix2 s (y 1)) := by
  have h0 : (y 0 : ℕ) < 64 := (y 0).isLt
  have h1 : (y 1 : ℕ) < 8192 := (y 1).isLt
  unfold laid kfill ktarget
  exact hscr_head m c t kcol _ _ (kgain_at m c t) _ _ _ ⟨(y 1 : ℕ) / 1024, by omega⟩ s ⟨(y 1 : ℕ) / 64 % 16, by omega⟩ ⟨(y 1 : ℕ) % 64, by omega⟩
    (by dsimp only; omega) (by dsimp only; omega) (by dsimp only; omega) (by dsimp only; omega)

/-- A chunk of a block's values is the values of its tokens. -/
theorem vscr_value (c : Dev nD) (t : Fin cfg0.N) (n : Fin 8) (r : Fin 512) (l : Fin 128) (b : Fin 8) (s : Fin 4352) (d : Fin 1024)
    (hb : (r : ℕ) % 8 = b) (hs : t.val * 64 + (r : ℕ) / 8 = s) (hd : 128 * (n : ℕ) + (l : ℕ) = d) :
    vscr (iblk m c 0 t) (iblk m c 1 t) (iblk m c 2 t) (iblk m c 3 t) (ix3 n r l) = valueAt m c b s d := by
  have ed : (⟨128 * (n : ℕ) + (l : ℕ), by omega⟩ : Fin 1024) = d := Fin.ext hd
  unfold valueAt
  rw [← hrow_at m c t r b s hb hs, ← ed, ← funext fun k => funext fun l : Fin 1024 => w_at m c t k ⟨2048 + (l : ℕ), by omega⟩]
  rfl

theorem v_block (c : Dev nD) (t : Fin cfg0.N) (y : S64x8192.Idx) (s : Fin 4352) (hs : t.val * 64 + (y 0 : ℕ) = s) :
    laid (vscr (iblk m c 0 t) (iblk m c 1 t) (iblk m c 2 t) (iblk m c 3 t)) y
      = vtarget m c (ix2 s (y 1)) := by
  have h0 : (y 0 : ℕ) < 64 := (y 0).isLt
  have h1 : (y 1 : ℕ) < 8192 := (y 1).isLt
  unfold laid vtarget
  exact vscr_value m c t _ _ _ ⟨(y 1 : ℕ) / 1024, by omega⟩ s ⟨(y 1 : ℕ) % 1024, by omega⟩
    (by dsimp only; omega) (by dsimp only; omega) (by dsimp only; omega)

/-- After the run the queries are `qtarget`. -/
theorem final_q (c : Dev nD) : (dats m 0 c).arrAt 9 (cfgs 0).N = qtarget m c := by
  refine (dats m 0 c).arrAt_eq_of_covers 9 _ (by decide +kernel) fun t _ y => ?_
  blk_simp
  rw [after0_9, point_q]
  have h0 : (y 0 : ℕ) < 64 := (y 0).isLt
  have e : ((cfg0.win 9).blk t).view.emb y = (ix2 ⟨t.val * 64 + (y 0 : ℕ), by
      have := (idx t).1
      omega⟩ (y 1) : S4352x8192.Idx) := by
    blk_ext [idx t]
  rw [e]
  exact q_block m c t y _ rfl

/-- After the run the keys are `ktarget`. -/
theorem final_k (c : Dev nD) : (dats m 0 c).arrAt 10 (cfgs 0).N = ktarget m c := by
  refine (dats m 0 c).arrAt_eq_of_covers 10 _ (by decide +kernel) fun t _ y => ?_
  blk_simp
  rw [after0_10, point_k]
  have h0 : (y 0 : ℕ) < 64 := (y 0).isLt
  have e : ((cfg0.win 10).blk t).view.emb y = (ix2 ⟨t.val * 64 + (y 0 : ℕ), by
      have := (idx t).1
      omega⟩ (y 1) : S4352x8192.Idx) := by
    blk_ext [idx t]
  rw [e]
  exact k_block m c t y _ rfl

/-- After the run the values are `vtarget`. -/
theorem final_v (c : Dev nD) : (dats m 0 c).arrAt 11 (cfgs 0).N = vtarget m c := by
  refine (dats m 0 c).arrAt_eq_of_covers 11 _ (by decide +kernel) fun t _ y => ?_
  blk_simp
  rw [after0_11, point_v]
  have h0 : (y 0 : ℕ) < 64 := (y 0).isLt
  have e : ((cfg0.win 11).blk t).view.emb y = (ix2 ⟨t.val * 64 + (y 0 : ℕ), by
      have := (idx t).1
      omega⟩ (y 1) : S4352x8192.Idx) := by
    blk_ext [idx t]
  rw [e]
  exact v_block m c t y _ rfl

end Cert.Kernel6Ideal.Value

end
-- ==== Proof.QkvRef.lean ====
/- The projection's reference at one element: the modulated norm of a token through its column of the weight; for the
   queries and the keys each head's norm and the turning of its pairs. -/
module

public import proofs.«01_k».proof.Proof.Gen.Reference6Ideal.Run
public import proofs.«01_k».proof.Proof.QkvEq

@[expose] public section

set_option maxRecDepth 16384

noncomputable section

namespace Cert.Reference6Ideal.Value

open Cert.Reference6Ideal Cert.Reference6Ideal.Gen Idealize.ShloMosaic Idealize.ShloMosaic.TcCoe Idealize.SL.Sem
open Cert.MlpRow Cert.QkvRow

/-- Each token's table of modulation: its batch element's for the latents, the context's for the others. -/
def mods (ml : FVec Ideal S8x6144 .f32) (mc : FVec Ideal S6144 .f32) : FVec Ideal S8x4352x6144 .f32 :=
  concatenate S8x4352x6144 1 [⟨S8x4096x6144, (broadcastInDim S8x4096x6144 ![0, 1, 2] bcast_S8x1x6144_S8x4096x6144_0_1_2 (broadcastInDim S8x1x6144 ![0, 2] bcast_S8x6144_S8x1x6144_0_2 ml))⟩, ⟨S8x256x6144, (broadcastInDim S8x256x6144 ![2] bcast_S6144_S8x256x6144_2 mc)⟩] concatenates_S8x4096x6144_S8x256x6144_S8x4352x6144_d1

/-- The modulated norm of a stream. -/
def nrm (s : FVec Ideal S8x4352x1024 .f32) (md : FVec Ideal S8x4352x6144 .f32) (g : FVec Ideal S1024 .f32) :
    FVec Ideal S8x4352x1024 .f32 :=
  addf (mulf (mulf (mulf s (broadcastInDim S8x4352x1024 ![0, 1, 2] bcast_S8x4352x1_S8x4352x1024_0_1_2 (Host.rsqrt (addf (Host.divf (broadcastInDim S8x4352x1 ![0, 1] bcast_S8x4352_S8x4352x1_0_1 (Host.reduceAdd (mulf s s) (constant S_ .f32 0x00000000#32) reducesTo_S8x4352x1024_S8x4352_d2 h_S_)) (broadcastInDim S8x4352x1 ![] bcast_S_S8x4352x1 (constant S_ .f32 0x44800000#32))) (broadcastInDim S8x4352x1 ![] bcast_S_S8x4352x1 (constant S_ .f32 0x358637BD#32)))))) (broadcastInDim S8x4352x1024 ![0, 1, 2] bcast_S1x1x1024_S8x4352x1024_0_1_2 (broadcastInDim S1x1x1024 ![2] bcast_S1024_S1x1x1024_2 g))) (addf (broadcastInDim S8x4352x1024 ![] bcast_S_S8x4352x1024 (constant S_ .f32 0x3F800000#32)) (extractStridedSlice S8x4352x1024 ![0, 0, 1024] md slices_S8x4352x6144_S8x4352x1024_0_0_1024))) (extractStridedSlice S8x4352x1024 ![0, 0, 0] md slices_S8x4352x6144_S8x4352x1024_0_0_0)

/-- All three projections of the normed stream. -/
def proj (h : FVec Ideal S8x4352x1024 .f32) (w : FVec Ideal S1024x3072 .f32) : FVec Ideal S8x4352x3072 .f32 :=
  Host.dotGeneral dot_S8x4352x1024_S1024x3072_S8x4352x3072_2_0_01_1_n_n none h w

/-- The queries, cut into heads. -/
def qheads (p : FVec Ideal S8x4352x3072 .f32) : FVec Ideal S8x4352x8x2x64 .f32 :=
  shapeCast _ (extractStridedSlice S8x4352x1024 ![0, 0, 0] p slices_S8x4352x3072_S8x4352x1024_0_0_0) shapeCasts_S8x4352x1024_S8x4352x8x2x64

/-- The keys, cut into heads. -/
def kheads (p : FVec Ideal S8x4352x3072 .f32) : FVec Ideal S8x4352x8x2x64 .f32 :=
  shapeCast _ (extractStridedSlice S8x4352x1024 ![0, 0, 1024] p slices_S8x4352x3072_S8x4352x1024_0_0_1024) shapeCasts_S8x4352x1024_S8x4352x8x2x64

/-- The norm of each head. -/
def hnorm (t : FVec Ideal S8x4352x8x2x64 .f32) (g : FVec Ideal S64 .f32) : FVec Ideal S8x4352x8x2x64 .f32 :=
  mulf (mulf t (broadcastInDim S8x4352x8x2x64 ![0, 1, 2, 3, 4] bcast_S8x4352x8x2x1_S8x4352x8x2x64_0_1_2_3_4 (Host.rsqrt (addf (Host.divf (broadcastInDim S8x4352x8x2x1 ![0, 1, 2, 3] bcast_S8x4352x8x2_S8x4352x8x2x1_0_1_2_3 (Host.reduceAdd (mulf t t) (constant S_ .f32 0x00000000#32) reducesTo_S8x4352x8x2x64_S8x4352x8x2_d4 h_S_)) (broadcastInDim S8x4352x8x2x1 ![] bcast_S_S8x4352x8x2x1 (constant S_ .f32 0x42800000#32))) (broadcastInDim S8x4352x8x2x1 ![] bcast_S_S8x4352x8x2x1 (constant S_ .f32 0x358637BD#32)))))) (broadcastInDim S8x4352x8x2x64 ![0, 1, 2, 3, 4] bcast_S1x1x1x1x64_S8x4352x8x2x64_0_1_2_3_4 (broadcastInDim S1x1x1x1x64 ![4] bcast_S64_S1x1x1x1x64_4 g))

/-- A table of angles, the same for every batch element and head. -/
def spread (a : FVec Ideal S4096x16 .f32) : FVec Ideal S8x4096x8x2x16 .f32 :=
  broadcastInDim S8x4096x8x2x16 ![0, 1, 2, 3, 4] bcast_S1x4096x1x1x16_S8x4096x8x2x16_0_1_2_3_4 (broadcastInDim S1x4096x1x1x16 ![1, 2, 3, 4] bcast_S4096x1x1x16_S1x4096x1x1x16_1_2_3_4 (broadcastInDim S4096x1x1x16 ![0, 3] bcast_S4096x16_S4096x1x1x16_0_3 a))

/-- Half a head's pairs, turned. -/
def pairs (u : FVec Ideal S8x4096x8x2x32 .f32) (c s : FVec Ideal S4096x16 .f32) : FVec Ideal S8x4096x8x2x32 .f32 :=
  concatenate S8x4096x8x2x32 4 [⟨S8x4096x8x2x16, (subf (mulf (extractStridedSlice S8x4096x8x2x16 ![0, 0, 0, 0, 0] u slices_S8x4096x8x2x32_S8x4096x8x2x16_0_0_0_0_0) (spread c)) (mulf (extractStridedSlice S8x4096x8x2x16 ![0, 0, 0, 0, 16] u slices_S8x4096x8x2x32_S8x4096x8x2x16_0_0_0_0_16) (spread s)))⟩, ⟨S8x4096x8x2x16, (addf (mulf (extractStridedSlice S8x4096x8x2x16 ![0, 0, 0, 0, 0] u slices_S8x4096x8x2x32_S8x4096x8x2x16_0_0_0_0_0) (spread s)) (mulf (extractStridedSlice S8x4096x8x2x16 ![0, 0, 0, 0, 16] u slices_S8x4096x8x2x32_S8x4096x8x2x16_0_0_0_0_16) (spread c)))⟩] concatenates_S8x4096x8x2x16_S8x4096x8x2x16_S8x4096x8x2x32_d4

/-- The latents' heads, turned, and the context's. -/
def rot (n : FVec Ideal S8x4352x8x2x64 .f32) (cr sr cc sc : FVec Ideal S4096x16 .f32) : FVec Ideal S8x4352x8x2x64 .f32 :=
  concatenate S8x4352x8x2x64 1 [⟨S8x4096x8x2x64, (concatenate S8x4096x8x2x64 4 [⟨S8x4096x8x2x32, (pairs (extractStridedSlice S8x4096x8x2x32 ![0, 0, 0, 0, 0] (extractStridedSlice S8x4096x8x2x64 ![0, 0, 0, 0, 0] n slices_S8x4352x8x2x64_S8x4096x8x2x64_0_0_0_0_0) slices_S8x4096x8x2x64_S8x4096x8x2x32_0_0_0_0_0) cr sr)⟩, ⟨S8x4096x8x2x32, (pairs (extractStridedSlice S8x4096x8x2x32 ![0, 0, 0, 0, 32] (extractStridedSlice S8x4096x8x2x64 ![0, 0, 0, 0, 0] n slices_S8x4352x8x2x64_S8x4096x8x2x64_0_0_0_0_0) slices_S8x4096x8x2x64_S8x4096x8x2x32_0_0_0_0_32) cc sc)⟩] concatenates_S8x4096x8x2x32_S8x4096x8x2x32_S8x4096x8x2x64_d4)⟩, ⟨S8x256x8x2x64, (extractStridedSlice S8x256x8x2x64 ![0, 4096, 0, 0, 0] n slices_S8x4352x8x2x64_S8x256x8x2x64_0_4096_0_0_0)⟩] concatenates_S8x4096x8x2x64_S8x256x8x2x64_S8x4352x8x2x64_d1

/-- The heads laid out by time step. -/
def laid (t : FVec Ideal S8x4352x8x2x64 .f32) : FVec Ideal S4352x8192 .bf16 :=
  truncf .bf16 (shapeCast _ (transpose S4352x8x1024 [1, 0, 2] (shapeCast _ t shapeCasts_S8x4352x8x2x64_S8x4352x1024) transposes_S8x4352x1024_S4352x8x1024_1_0_2) shapeCasts_S4352x8x1024_S4352x8192) bitsLt_bf16_f32

/-- The queries' factor. -/
def scaled (t : FVec Ideal S8x4352x8x2x64 .f32) : FVec Ideal S8x4352x8x2x64 .f32 :=
  mulf t (broadcastInDim S8x4352x8x2x64 ![] bcast_S_S8x4352x8x2x64 (constant S_ .f32 0x3E38AA3B#32))

/-- The values laid out by time step. -/
def vlaid (p : FVec Ideal S8x4352x3072 .f32) : FVec Ideal S4352x8192 .bf16 :=
  truncf .bf16 (shapeCast _ (transpose S4352x8x1024 [1, 0, 2] (extractStridedSlice S8x4352x1024 ![0, 0, 2048] p slices_S8x4352x3072_S8x4352x1024_0_0_2048) transposes_S8x4352x1024_S4352x8x1024_1_0_2) shapeCasts_S4352x8x1024_S4352x8192) bitsLt_bf16_f32

variable (m : (ℓ : Loc nD τ sig) → Buf (Elt Ideal) ℓ)

/-- All three projections, of the program's arguments. -/
def all (c : Dev nD) : FVec Ideal S8x4352x3072 .f32 :=
  proj (nrm (m ((c.tc : Thread nD τ).loc main_arg0)) (mods (m ((c.tc : Thread nD τ).loc main_arg1)) (m ((c.tc : Thread nD τ).loc main_arg2)))
    (m ((c.tc : Thread nD τ).loc main_arg3))) (m ((c.tc : Thread nD τ).loc main_arg4))

/-- The queries from these parts. -/
theorem q_eq (c : Dev nD) :
    res_out0 m c = laid (scaled (rot (hnorm (qheads (all m c)) (m ((c.tc : Thread nD τ).loc main_arg5)))
      (m ((c.tc : Thread nD τ).loc main_arg7)) (m ((c.tc : Thread nD τ).loc main_arg8)) (m ((c.tc : Thread nD τ).loc main_arg9))
      (m ((c.tc : Thread nD τ).loc main_arg10)))) := rfl

/-- The keys from these parts. -/
theorem k_eq (c : Dev nD) :
    res_out1 m c = laid (rot (hnorm (kheads (all m c)) (m ((c.tc : Thread nD τ).loc main_arg6)))
      (m ((c.tc : Thread nD τ).loc main_arg7)) (m ((c.tc : Thread nD τ).loc main_arg8)) (m ((c.tc : Thread nD τ).loc main_arg9))
      (m ((c.tc : Thread nD τ).loc main_arg10))) := rfl

omit m

theorem mods_at (ml : FVec Ideal S8x6144 .f32) (mc : FVec Ideal S6144 .f32) (b : Fin 8) (s : Fin 4352) (k : Fin 6144) :
    mods ml mc (ix3 b s k) = tokenMod (fun a b => ml (ix2 a b)) (fun b => mc (ix1 b)) b s k := by
  pointwise [mods, tokenMod]
  rfl

theorem nrm_at (t : FVec Ideal S8x4352x1024 .f32) (md : FVec Ideal S8x4352x6144 .f32) (g : FVec Ideal S1024 .f32) (b : Fin 8) (s : Fin 4352)
    (d : Fin 1024) :
    nrm t md g (ix3 b s d) = modnorm (fun k => t (ix3 b s k)) (fun k => g (ix1 k)) (fun k => md (ix3 b s ⟨(k : ℕ), by omega⟩))
      (fun k => md (ix3 b s ⟨1024 + (k : ℕ), by omega⟩)) d := by
  pointwise [nrm, modnorm]

theorem proj_at (h : FVec Ideal S8x4352x1024 .f32) (w : FVec Ideal S1024x3072 .f32) (b : Fin 8) (s : Fin 4352) (C : Fin 1024 → Fin 3072)
    (d : Fin 1024) :
    proj h w (ix3 b s (C d)) = lin (fun k => h (ix3 b s k)) (fun k l => w (ix2 k (C l))) d := by
  pointwise [proj, lin]

/-- A column of the projections is the token's modulated norm through that column of the weight. -/
theorem all_at (x : FVec Ideal S8x4352x1024 .f32) (ml : FVec Ideal S8x6144 .f32) (mc : FVec Ideal S6144 .f32) (g : FVec Ideal S1024 .f32)
    (w : FVec Ideal S1024x3072 .f32) (b : Fin 8) (s : Fin 4352) (C : Fin 1024 → Fin 3072) (d : Fin 1024) :
    proj (nrm x (mods ml mc) g) w (ix3 b s (C d))
      = lin (modnorm (fun k => x (ix3 b s k)) (fun k => g (ix1 k))
          (fun k => tokenMod (fun a b => ml (ix2 a b)) (fun b => mc (ix1 b)) b s ⟨(k : ℕ), by omega⟩)
          (fun k => tokenMod (fun a b => ml (ix2 a b)) (fun b => mc (ix1 b)) b s ⟨1024 + (k : ℕ), by omega⟩))
        (fun k l => w (ix2 k (C l))) d := by
  rw [proj_at, funext fun k => nrm_at x (mods ml mc) g b s k]
  simp only [mods_at]

theorem qheads_at (p : FVec Ideal S8x4352x3072 .f32) (b : Fin 8) (s : Fin 4352) (h : Fin 8) (c : Fin 2) (e : Fin 64) :
    qheads p (ix5 b s h c e) = p (ix3 b s ⟨(h : ℕ) * 128 + (c : ℕ) * 64 + (e : ℕ), by omega⟩) := by
  pointwise [qheads]

theorem kheads_at (p : FVec Ideal S8x4352x3072 .f32) (b : Fin 8) (s : Fin 4352) (h : Fin 8) (c : Fin 2) (e : Fin 64) :
    kheads p (ix5 b s h c e) = p (ix3 b s ⟨1024 + ((h : ℕ) * 128 + (c : ℕ) * 64 + (e : ℕ)), by omega⟩) := by
  pointwise [kheads]

theorem hnorm_at (t : FVec Ideal S8x4352x8x2x64 .f32) (g : FVec Ideal S64 .f32) (b : Fin 8) (s : Fin 4352) (h : Fin 8) (c : Fin 2) (e : Fin 64) :
    hnorm t g (ix5 b s h c e) = headNormed (fun i => t (ix5 b s h c i)) (fun i => g (ix1 i)) e := by
  pointwise [hnorm, headNormed]

theorem pairs_at (u : FVec Ideal S8x4096x8x2x32 .f32) (cs sn : FVec Ideal S4096x16 .f32) (b : Fin 8) (s : Fin 4096) (h : Fin 8) (c : Fin 2)
    (e : Fin 32) :
    pairs u cs sn (ix5 b s h c e) = turn (fun i => u (ix5 b s h c i)) (fun i => cs (ix2 s i)) (fun i => sn (ix2 s i)) e := by
  pointwise [pairs, spread, turn]

theorem rot_at (n : FVec Ideal S8x4352x8x2x64 .f32) (cr sr cc sc : FVec Ideal S4096x16 .f32) (b : Fin 8) (s : Fin 4352) (h : Fin 8) (c : Fin 2)
    (e : Fin 64) :
    rot n cr sr cc sc (ix5 b s h c e)
      = if hs : (s : ℕ) < 4096 then
          turned (fun i => n (ix5 b s h c i)) (fun i => cr (ix2 ⟨s, hs⟩ i)) (fun i => sr (ix2 ⟨s, hs⟩ i)) (fun i => cc (ix2 ⟨s, hs⟩ i))
            (fun i => sc (ix2 ⟨s, hs⟩ i)) e
        else n (ix5 b s h c e) := by
  pointwise [rot, turned, pairs_at]
  refine dite_congr rfl (fun _ => rfl) fun hs => ?_
  exact congrArg (fun i => n (ix5 b i h c e)) (Fin.ext (by dsimp only; omega))

theorem laid_at (t : FVec Ideal S8x4352x8x2x64 .f32) (s : Fin 4352) (y : Fin 8192) :
    laid t (ix2 s y) = t (ix5 ⟨(y : ℕ) / 1024, by omega⟩ s ⟨(y : ℕ) % 1024 / 128, by omega⟩ ⟨(y : ℕ) % 1024 / 64 % 2, by omega⟩ ⟨(y : ℕ) % 1024 % 64, by omega⟩) := by
  pointwise [laid]

theorem scaled_at (t : FVec Ideal S8x4352x8x2x64 .f32) (b : Fin 8) (s : Fin 4352) (h : Fin 8) (c : Fin 2) (e : Fin 64) :
    scaled t (ix5 b s h c e) = t (ix5 b s h c e) * Ideal.ofBits .f32 0x3E38AA3B#32 := by
  pointwise [scaled]

/-- A head of a token, normed and turned, from the token's row `T` of queries or keys. -/
theorem rot_head (t : FVec Ideal S8x4352x8x2x64 .f32) (g : FVec Ideal S64 .f32) (cr sr cc sc : FVec Ideal S4096x16 .f32) (b : Fin 8)
    (s : Fin 4352) (h : Fin 8) (c : Fin 2) (e : Fin 64) (T : Fin 1024 → EReal) (q : Fin 16)
    (hT : ∀ k : Fin 64, t (ix5 b s h c k) = T ⟨(q : ℕ) * 64 + (k : ℕ), by omega⟩) :
    rot (hnorm t g) cr sr cc sc (ix5 b s h c e)
      = head T (fun i => g (ix1 i)) (fun s i => cr (ix2 s i)) (fun s i => sr (ix2 s i)) (fun s i => cc (ix2 s i)) (fun s i => sc (ix2 s i)) s q e := by
  rw [rot_at]
  simp only [hnorm_at]
  rw [funext hT]
  rfl

/-- The queries' array at one element. -/
theorem q_at (p : FVec Ideal S8x4352x3072 .f32) (g : FVec Ideal S64 .f32) (cr sr cc sc : FVec Ideal S4096x16 .f32) (s : Fin 4352) (y : Fin 8192)
    (T : Fin 1024 → EReal) (hT : ∀ d : Fin 1024, p (ix3 ⟨(y : ℕ) / 1024, by omega⟩ s ⟨(d : ℕ), by omega⟩) = T d) :
    laid (scaled (rot (hnorm (qheads p) g) cr sr cc sc)) (ix2 s y)
      = head T (fun i => g (ix1 i)) (fun s i => cr (ix2 s i)) (fun s i => sr (ix2 s i)) (fun s i => cc (ix2 s i)) (fun s i => sc (ix2 s i)) s
          ⟨(y : ℕ) / 64 % 16, by omega⟩ ⟨(y : ℕ) % 64, by omega⟩ * Ideal.ofBits .f32 0x3E38AA3B#32 := by
  have he : (⟨(y : ℕ) % 1024 % 64, by omega⟩ : Fin 64) = ⟨(y : ℕ) % 64, by omega⟩ := Fin.ext (by dsimp only; omega)
  rw [laid_at, scaled_at, rot_head _ _ _ _ _ _ _ _ _ _ _ T ⟨(y : ℕ) / 64 % 16, by omega⟩, he]
  intro k
  rw [qheads_at, ← hT]
  exact congrArg (fun d => p (ix3 _ s d)) (Fin.ext (by dsimp only; omega))

/-- The keys' array at one element. -/
theorem k_at (p : FVec Ideal S8x4352x3072 .f32) (g : FVec Ideal S64 .f32) (cr sr cc sc : FVec Ideal S4096x16 .f32) (s : Fin 4352) (y : Fin 8192)
    (T : Fin 1024 → EReal) (hT : ∀ d : Fin 1024, p (ix3 ⟨(y : ℕ) / 1024, by omega⟩ s ⟨1024 + (d : ℕ), by omega⟩) = T d) :
    laid (rot (hnorm (kheads p) g) cr sr cc sc) (ix2 s y)
      = head T (fun i => g (ix1 i)) (fun s i => cr (ix2 s i)) (fun s i => sr (ix2 s i)) (fun s i => cc (ix2 s i)) (fun s i => sc (ix2 s i)) s
          ⟨(y : ℕ) / 64 % 16, by omega⟩ ⟨(y : ℕ) % 64, by omega⟩ := by
  have he : (⟨(y : ℕ) % 1024 % 64, by omega⟩ : Fin 64) = ⟨(y : ℕ) % 64, by omega⟩ := Fin.ext (by dsimp only; omega)
  rw [laid_at, rot_head _ _ _ _ _ _ _ _ _ _ _ T ⟨(y : ℕ) / 64 % 16, by omega⟩, he]
  intro k
  rw [kheads_at, ← hT]
  exact congrArg (fun d => p (ix3 _ s d)) (Fin.ext (by dsimp only; omega))

theorem vlaid_at (p : FVec Ideal S8x4352x3072 .f32) (s : Fin 4352) (y : Fin 8192) :
    vlaid p (ix2 s y) = p (ix3 ⟨(y : ℕ) / 1024, by omega⟩ s ⟨2048 + (y : ℕ) % 1024, by omega⟩) := by
  pointwise [vlaid]

end Cert.Reference6Ideal.Value

end
-- ==== Proof.QkvClaims.lean ====
/- The claims of the attention's projection (modulated norm, the weight of queries, keys and values, the heads' norms, the
   rotary embedding, the queries' factor): its kernel's three result arrays and its reference's are the same functions of the
   arguments. -/
module

public import proofs.«01_k».proof.Defs
public import proofs.«01_k».proof.Proof.QkvValue
public import proofs.«01_k».proof.Proof.QkvRef
public import proofs.«01_k».proof.Proof.Gen.Kernel6.Frame
public import Idealize.ShloMosaic.Lib.Quiescent

@[expose] public section

set_option maxRecDepth 16384

noncomputable section

namespace Cert.Proof.Qkv

open Idealize.ShloMosaic Idealize.ShloMosaic.TcCoe Idealize.SL.Sem
open Cert.Kernel6Ideal.Value Cert.QkvRow Cert.MlpRow

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem preserves : Cert.preserves_Kernel6_Kernel6Ideal := trivial

/-- At the exact instance both programs end with the same queries, keys and values. -/
theorem algebraic : Cert.algebraic_Kernel6Ideal_Reference6Ideal := by
  intro m g m' g' _ hagree
  refine ⟨fun c => qtarget m c, fun c => ktarget m c, fun c => vtarget m c,
    (θ_run Cert.Kernel6Ideal.defs _ _).mono (fun _ h c => ⟨(h c).1.trans (final_q m c), (h c).2.1.trans (final_k m c),
        (h c).2.2.1.trans (final_v m c), (h c).2.2.2⟩)
      (Cert.Kernel6Ideal.Value.run_blocks (F := Ideal) m g), ?_⟩
  refine (θ_run Cert.Reference6Ideal.defs _ _).mono (fun _ h c => ⟨(h c).1.trans ?_, (h c).2.1.trans ?_, (h c).2.2.1.trans ?_, (h c).2.2.2⟩)
    (Cert.Reference6Ideal.Value.run (F := Ideal) m' g')
  all_goals obtain ⟨a0, a1, a2, a3, a4, a5, a6, a7, a8, a9, a10⟩ := hagree c
  · refine (Cert.Reference6Ideal.Value.q_eq m' c).trans ?_
    unfold Cert.Reference6Ideal.Value.all
    rw [a0, a1, a2, a3, a4, a5, a7, a8, a9, a10]
    funext j
    refine (congrArg _ (eq_ix2 j)).trans ?_
    exact Cert.Reference6Ideal.Value.q_at _ _ _ _ _ _ (j 0) (j 1) _
      fun d => Cert.Reference6Ideal.Value.all_at _ _ _ _ _ _ (j 0) qcol d
  · refine (Cert.Reference6Ideal.Value.k_eq m' c).trans ?_
    unfold Cert.Reference6Ideal.Value.all
    rw [a0, a1, a2, a3, a4, a6, a7, a8, a9, a10]
    funext j
    refine (congrArg _ (eq_ix2 j)).trans ?_
    exact Cert.Reference6Ideal.Value.k_at _ _ _ _ _ _ (j 0) (j 1) _
      fun d => Cert.Reference6Ideal.Value.all_at _ _ _ _ _ _ (j 0) kcol d
  · refine (show _ = Cert.Reference6Ideal.Value.vlaid (Cert.Reference6Ideal.Value.all m' c) from rfl).trans ?_
    unfold Cert.Reference6Ideal.Value.all
    rw [a0, a1, a2, a3, a4]
    funext j
    refine (congrArg _ (eq_ix2 j)).trans ?_
    refine (Cert.Reference6Ideal.Value.vlaid_at _ (j 0) (j 1)).trans ?_
    exact Cert.Reference6Ideal.Value.all_at _ _ _ _ _ _ (j 0) (fun l => ⟨2048 + (l : ℕ), by omega⟩) ⟨(j 1 : ℕ) % 1024, by omega⟩

end Cert.Proof.Qkv

end
-- ==== Proof.lean ====
module

public import proofs.«01_k».proof.Defs
public import proofs.«01_k».proof.Proof.AttnClaims
public import proofs.«01_k».proof.Proof.MlpClaims
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.On_latent_rows
public import proofs.«01_k».proof.Proof.Gen.Kernel2
public import proofs.«01_k».proof.Proof.Gen.Kernel2Ideal
public import proofs.«01_k».proof.Proof.Gen.Reference2Ideal
public import proofs.«01_k».proof.Proof.GluClaims
public import proofs.«01_k».proof.Proof.LinClaims
public import proofs.«01_k».proof.Proof.BiasClaims
public import proofs.«01_k».proof.Proof.QkvClaims
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Pre_finite.Gen.facts, Cert.On_latent_rows.Gen.facts, Attn.frame_p,
    Attn.frame_pi, Attn.frame_pi_pre, Attn.frame_ri, Attn.frame_ri_pre, Mlp.frame_p, Mlp.frame_pi, Mlp.frame_ri,
    Glu.frame_p, Glu.frame_pi, Glu.frame_ri, Lin.frame_p, Lin.frame_pi, Lin.frame_ri, Bias.frame_p, Bias.frame_pi,
    Bias.frame_ri, Qkv.frame_p, Qkv.frame_pi, Qkv.frame_ri, Attn.preserves, Attn.algebraic, Mlp.preserves, Mlp.algebraic, Glu.preserves, Glu.algebraic,
    Lin.preserves, Lin.algebraic, Bias.preserves, Bias.algebraic, Qkv.preserves, Qkv.algebraic⟩

end Cert.Proof

end
